-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantRef (m : (ℓ : Loc Cert.QuantRef.nD Cert.QuantRef.τ Cert.QuantRef.sig) → Buf (Elt Bits) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1))
      ∧ r.2.sem = fun _ => 0)

def quiescent_QuantRef [hQuantRef : Cert.QuantRef.Facts] : Prop :=
  ∀ (m : (ℓ : Loc Cert.QuantRef.nD Cert.QuantRef.τ Cert.QuantRef.sig) → Buf (Elt Bits) ℓ) (g : Dev Cert.QuantRef.nD → PrngReg), Pre_QuantRef m →
    θ_run (Cert.QuantRef.defs (F := Bits)) (onTc (τ := Cert.QuantRef.τ) (Cert.QuantRef.main (F := Bits))) ⟨m, fun _ => 0, g⟩ (fun r => (∀ c : Dev Cert.QuantRef.nD,
      r.2.mem ((c.tc : Thread Cert.QuantRef.nD Cert.QuantRef.τ).loc Cert.QuantRef.main_arg0) = m ((c.tc : Thread Cert.QuantRef.nD Cert.QuantRef.τ).loc Cert.QuantRef.main_arg0)
      ∧ r.2.mem ((c.tc : Thread Cert.QuantRef.nD Cert.QuantRef.τ).loc Cert.QuantRef.main_arg1) = m ((c.tc : Thread Cert.QuantRef.nD Cert.QuantRef.τ).loc Cert.QuantRef.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)
      ∧ m' ((c.tc : Thread Cert.MixerRefIdeal.nD Cert.MixerRefIdeal.τ).loc Cert.MixerRefIdeal.main_arg14) = m ((c.tc : Thread Cert.MixerIdeal.nD Cert.MixerIdeal.τ).loc Cert.MixerIdeal.main_arg14)) →
    ∃ (v0 : (c : Dev Cert.MixerIdeal.nD) → Buf (Elt Ideal) ((c.tc : Thread Cert.MixerIdeal.nD Cert.MixerIdeal.τ).loc Cert.MixerIdeal.main_v6_0)) (v1 : (c : Dev Cert.MixerIdeal.nD) → Buf (Elt Ideal) ((c.tc : Thread Cert.MixerIdeal.nD Cert.MixerIdeal.τ).loc Cert.MixerIdeal.main_v6_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v6_0) = v0 c
          ∧ r.2.mem ((c.tc : Thread Cert.MixerIdeal.nD Cert.MixerIdeal.τ).loc Cert.MixerIdeal.main_v6_1) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v180) = v0 c
          ∧ r.2.mem ((c.tc : Thread Cert.MixerRefIdeal.nD Cert.MixerRefIdeal.τ).loc Cert.MixerRefIdeal.main_v181) = v1 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14))

def bitexact_Quantise_QuantRef [hQuantise : Cert.Quantise.Facts] [hQuantRef : Cert.QuantRef.Facts] : Prop :=
  ∀ (m : (ℓ : Loc Cert.Quantise.nD Cert.Quantise.τ Cert.Quantise.sig) → Buf (Elt Bits) ℓ) (g : Dev Cert.Quantise.nD → PrngReg)
    (m' : (ℓ : Loc Cert.QuantRef.nD Cert.QuantRef.τ Cert.QuantRef.sig) → Buf (Elt Bits) ℓ) (g' : Dev Cert.QuantRef.nD → PrngReg), Pre_Quantise m →
    (∀ c : Dev Cert.Quantise.nD,
      m' ((c.tc : Thread Cert.QuantRef.nD Cert.QuantRef.τ).loc Cert.QuantRef.main_arg0) = m ((c.tc : Thread Cert.Quantise.nD Cert.Quantise.τ).loc Cert.Quantise.main_arg0)
      ∧ m' ((c.tc : Thread Cert.QuantRef.nD Cert.QuantRef.τ).loc Cert.QuantRef.main_arg1) = m ((c.tc : Thread Cert.Quantise.nD Cert.Quantise.τ).loc Cert.Quantise.main_arg1)) →
    ∃ (v0 : (c : Dev Cert.Quantise.nD) → Buf (Elt Bits) ((c.tc : Thread Cert.Quantise.nD Cert.Quantise.τ).loc Cert.Quantise.main_v0_0)) (v1 : (c : Dev Cert.Quantise.nD) → Buf (Elt Bits) ((c.tc : Thread Cert.Quantise.nD Cert.Quantise.τ).loc Cert.Quantise.main_v0_1)),
      θ_run (Cert.Quantise.defs (F := Bits)) (onTc (τ := Cert.Quantise.τ) (Cert.Quantise.main (F := Bits))) ⟨m, fun _ => 0, g⟩ (fun r => ∀ c : Dev Cert.Quantise.nD,
          r.2.mem ((c.tc : Thread Cert.Quantise.nD Cert.Quantise.τ).loc Cert.Quantise.main_v0_0) = v0 c
          ∧ r.2.mem ((c.tc : Thread Cert.Quantise.nD Cert.Quantise.τ).loc Cert.Quantise.main_v0_1) = v1 c
          ∧ r.2.mem ((c.tc : Thread Cert.Quantise.nD Cert.Quantise.τ).loc Cert.Quantise.main_arg0) = m ((c.tc : Thread Cert.Quantise.nD Cert.Quantise.τ).loc Cert.Quantise.main_arg0)
          ∧ r.2.mem ((c.tc : Thread Cert.Quantise.nD Cert.Quantise.τ).loc Cert.Quantise.main_arg1) = m ((c.tc : Thread Cert.Quantise.nD Cert.Quantise.τ).loc Cert.Quantise.main_arg1))
      ∧ θ_run (Cert.QuantRef.defs (F := Bits)) (onTc (τ := Cert.QuantRef.τ) (Cert.QuantRef.main (F := Bits))) ⟨m', fun _ => 0, g'⟩ (fun r => ∀ c : Dev Cert.QuantRef.nD,
          r.2.mem ((c.tc : Thread Cert.QuantRef.nD Cert.QuantRef.τ).loc Cert.QuantRef.main_v0_0) = v0 c
          ∧ r.2.mem ((c.tc : Thread Cert.QuantRef.nD Cert.QuantRef.τ).loc Cert.QuantRef.main_v0_1) = v1 c
          ∧ r.2.mem ((c.tc : Thread Cert.QuantRef.nD Cert.QuantRef.τ).loc Cert.QuantRef.main_arg0) = m' ((c.tc : Thread Cert.QuantRef.nD Cert.QuantRef.τ).loc Cert.QuantRef.main_arg0)
          ∧ r.2.mem ((c.tc : Thread Cert.QuantRef.nD Cert.QuantRef.τ).loc Cert.QuantRef.main_arg1) = m' ((c.tc : Thread Cert.QuantRef.nD Cert.QuantRef.τ).loc Cert.QuantRef.main_arg1))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def Claim : Prop :=
  ∃ (hMixer : Cert.Mixer.Facts) (hMixerIdeal : Cert.MixerIdeal.Facts) (hMixerRefIdeal : Cert.MixerRefIdeal.Facts) (hQuantise : Cert.Quantise.Facts) (hQuantRef : Cert.QuantRef.Facts) (hOutProj : Cert.OutProj.Facts) (hOutProjIdeal : Cert.OutProjIdeal.Facts) (hOutRefIdeal : Cert.OutRefIdeal.Facts),
    quiescent_Mixer (hMixer := hMixer)
    ∧ quiescent_MixerIdeal (hMixerIdeal := hMixerIdeal)
    ∧ quiescent_MixerRefIdeal (hMixerRefIdeal := hMixerRefIdeal)
    ∧ quiescent_Quantise (hQuantise := hQuantise)
    ∧ quiescent_QuantRef (hQuantRef := hQuantRef)
    ∧ quiescent_OutProj (hOutProj := hOutProj)
    ∧ quiescent_OutProjIdeal (hOutProjIdeal := hOutProjIdeal)
    ∧ quiescent_OutRefIdeal (hOutRefIdeal := hOutRefIdeal)
    ∧ preserves_Mixer_MixerIdeal
    ∧ algebraic_MixerIdeal_MixerRefIdeal (hMixerIdeal := hMixerIdeal) (hMixerRefIdeal := hMixerRefIdeal)
    ∧ bitexact_Quantise_QuantRef (hQuantise := hQuantise) (hQuantRef := hQuantRef)
    ∧ preserves_OutProj_OutProjIdeal
    ∧ algebraic_OutProjIdeal_OutRefIdeal (hOutProjIdeal := hOutProjIdeal) (hOutRefIdeal := hOutRefIdeal)
-- ==== Mixer.lean ====
abbrev S64 : Shape := ⟨1, ![64]⟩
abbrev S6144x7168 : Shape := ⟨2, ![6144, 7168]⟩
abbrev S6144x1 : Shape := ⟨2, ![6144, 1]⟩
abbrev S7168x32832 : Shape := ⟨2, ![7168, 32832]⟩
abbrev S32832 : Shape := ⟨1, ![32832]⟩
abbrev S4x24576 : Shape := ⟨2, ![4, 24576]⟩
abbrev S24576 : Shape := ⟨1, ![24576]⟩
abbrev S6144x128 : Shape := ⟨2, ![6144, 128]⟩
abbrev S32x2x6144 : Shape := ⟨3, ![32, 2, 6144]⟩
abbrev S32x2x3072 : Shape := ⟨3, ![32, 2, 3072]⟩
abbrev S6x1024 : Shape := ⟨2, ![6, 1024]⟩
abbrev S8192 : Shape := ⟨1, ![8192]⟩
abbrev S32832x7168 : Shape := ⟨2, ![32832, 7168]⟩
abbrev S6x1x1024 : Shape := ⟨3, ![6, 1, 1024]⟩
abbrev S1x32832 : Shape := ⟨2, ![1, 32832]⟩
abbrev S1x24576 : Shape := ⟨2, ![1, 24576]⟩
abbrev S1x8192 : Shape := ⟨2, ![1, 8192]⟩
abbrev S6144x8192 : Shape := ⟨2, ![6144, 8192]⟩
abbrev S1024x7168 : Shape := ⟨2, ![1024, 7168]⟩
abbrev S1024x1 : Shape := ⟨2, ![1024, 1]⟩
abbrev S256x7168 : Shape := ⟨2, ![256, 7168]⟩
abbrev S1x256 : Shape := ⟨2, ![1, 256]⟩
abbrev S4x256 : Shape := ⟨2, ![4, 256]⟩
abbrev S1024x128 : Shape := ⟨2, ![1024, 128]⟩
abbrev S1x2x1024 : Shape := ⟨3, ![1, 2, 1024]⟩
abbrev S1x2x512 : Shape := ⟨3, ![1, 2, 512]⟩
abbrev S1x1x1024 : Shape := ⟨3, ![1, 1, 1024]⟩
abbrev S1024x256 : Shape := ⟨2, ![1024, 256]⟩
abbrev S6x1032x128 : Shape := ⟨3, ![6, 1032, 128]⟩
abbrev S6x1024x128 : Shape := ⟨3, ![6, 1024, 128]⟩
abbrev S3x1024x128 : Shape := ⟨3, ![3, 1024, 128]⟩
abbrev S4x256x256 : Shape := ⟨3, ![4, 256, 256]⟩
abbrev S1x1024x128 : Shape := ⟨3, ![1, 1024, 128]⟩
abbrev S256x256 : Shape := ⟨2, ![256, 256]⟩
abbrev S256x1 : Shape := ⟨2, ![256, 1]⟩
abbrev S1x1x256 : Shape := ⟨3, ![1, 1, 256]⟩
abbrev S1x256x256 : Shape := ⟨3, ![1, 256, 256]⟩
abbrev S8x128 : Shape := ⟨2, ![8, 128]⟩
abbrev S1x8x128 : Shape := ⟨3, ![1, 8, 128]⟩
abbrev S1x128 : Shape := ⟨2, ![1, 128]⟩
abbrev S1x256x128 : Shape := ⟨3, ![1, 256, 128]⟩
abbrev S256x128 : Shape := ⟨2, ![256, 128]⟩
abbrev S128x128 : Shape := ⟨2, ![128, 128]⟩
abbrev S256x128x1 : Shape := ⟨3, ![256, 128, 1]⟩
abbrev S1x1x128 : Shape := ⟨3, ![1, 1, 128]⟩
abbrev S1 : Shape := ⟨1, ![1]⟩
abbrev S256 : Shape := ⟨1, ![256]⟩

abbrev nBuf : Space → Nat
  | .hbm => 23
  | .vmem => 59
  | .smem => 1
  | _ => 0

abbrev bufTy : (tb : Table) → Fin (tcTables nBuf tb) → BufTy
  | .hbm, ⟨0, _⟩ => ⟨S64, .f32⟩
  | .hbm, ⟨1, _⟩ => ⟨S6144x7168, .fp8e4m3⟩
  | .hbm, ⟨2, _⟩ => ⟨S6144x1, .f32⟩
  | .hbm, ⟨3, _⟩ => ⟨S7168x32832, .fp8e4m3⟩
  | .hbm, ⟨4, _⟩ => ⟨S32832, .f32⟩
  | .hbm, ⟨5, _⟩ => ⟨S4x24576, .f32⟩
  | .hbm, ⟨6, _⟩ => ⟨S24576, .f32⟩
  | .hbm, ⟨7, _⟩ => ⟨S6144x128, .f32⟩
  | .hbm, ⟨8, _⟩ => ⟨S6144x128, .f32⟩
  | .hbm, ⟨9, _⟩ => ⟨S6144x128, .f32⟩
  | .hbm, ⟨10, _⟩ => ⟨S6144x128, .f32⟩
  | .hbm, ⟨11, _⟩ => ⟨S32x2x6144, .f32⟩
  | .hbm, ⟨12, _⟩ => ⟨S32x2x3072, .f32⟩
  | .hbm, ⟨13, _⟩ => ⟨S6x1024, .i32⟩
  | .hbm, ⟨14, _⟩ => ⟨S8192, .bf16⟩
  | .hbm, ⟨15, _⟩ => ⟨S32832x7168, .fp8e4m3⟩
  | .hbm, ⟨16, _⟩ => ⟨S6144x1, .i32⟩
  | .hbm, ⟨17, _⟩ => ⟨S6x1x1024, .i32⟩
  | .hbm, ⟨18, _⟩ => ⟨S1x32832, .f32⟩
  | .hbm, ⟨19, _⟩ => ⟨S1x24576, .f32⟩
  | .hbm, ⟨20, _⟩ => ⟨S1x8192, .bf16⟩
  | .hbm, ⟨21, _⟩ => ⟨S6144x8192, .f32⟩
  | .hbm, ⟨22, _⟩ => ⟨S6144x128, .f32⟩
  | .local _ .vmem, ⟨0, _⟩ => ⟨S1024x7168, .fp8e4m3⟩
  | .local _ .vmem, ⟨1, _⟩ => ⟨S1024x7168, .fp8e4m3⟩
  | .local _ .vmem, ⟨2, _⟩ => ⟨S1024x1, .f32⟩
  | .local _ .vmem, ⟨3, _⟩ => ⟨S1024x1, .f32⟩
  | .local _ .vmem, ⟨4, _⟩ => ⟨S256x7168, .fp8e4m3⟩
  | .local _ .vmem, ⟨5, _⟩ => ⟨S256x7168, .fp8e4m3⟩
  | .local _ .vmem, ⟨6, _⟩ => ⟨S256x7168, .fp8e4m3⟩
  | .local _ .vmem, ⟨7, _⟩ => ⟨S256x7168, .fp8e4m3⟩
  | .local _ .vmem, ⟨8, _⟩ => ⟨S256x7168, .fp8e4m3⟩
  | .local _ .vmem, ⟨9, _⟩ => ⟨S256x7168, .fp8e4m3⟩
  | .local _ .vmem, ⟨10, _⟩ => ⟨S256x7168, .fp8e4m3⟩
  | .local _ .vmem, ⟨11, _⟩ => ⟨S256x7168, .fp8e4m3⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S4x256, .f32⟩
  | .local _ .vmem, ⟨21, _⟩ => ⟨S4x256, .f32⟩
  | .local _ .vmem, ⟨22, _⟩ => ⟨S4x256, .f32⟩
  | .local _ .vmem, ⟨23, _⟩ => ⟨S4x256, .f32⟩
  | .local _ .vmem, ⟨24, _⟩ => ⟨S4x256, .f32⟩
  | .local _ .vmem, ⟨25, _⟩ => ⟨S4x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S1x2x1024, .f32⟩
  | .local _ .vmem, ⟨41, _⟩ => ⟨S1x2x1024, .f32⟩
  | .local _ .vmem, ⟨42, _⟩ => ⟨S1x2x512, .f32⟩
  | .local _ .vmem, ⟨43, _⟩ => ⟨S1x2x512, .f32⟩
  | .local _ .vmem, ⟨44, _⟩ => ⟨S1024x1, .i32⟩
  | .local _ .vmem, ⟨45, _⟩ => ⟨S1024x1, .i32⟩
  | .local _ .vmem, ⟨46, _⟩ => ⟨S1x1x1024, .i32⟩
  | .local _ .vmem, ⟨47, _⟩ => ⟨S1x1x1024, .i32⟩
  | .local _ .vmem, ⟨48, _⟩ => ⟨S1x256, .bf16⟩
  | .local _ .vmem, ⟨49, _⟩ => ⟨S1x256, .bf16⟩
  | .local _ .vmem, ⟨50, _⟩ => ⟨S1024x256, .f32⟩
  | .local _ .vmem, ⟨51, _⟩ => ⟨S1024x256, .f32⟩
  | .local _ .vmem, ⟨52, _⟩ => ⟨S1024x128, .f32⟩
  | .local _ .vmem, ⟨53, _⟩ => ⟨S1024x128, .f32⟩
  | .local _ .vmem, ⟨54, _⟩ => ⟨S6x1032x128, .f32⟩
  | .local _ .vmem, ⟨55, _⟩ => ⟨S6x1024x128, .f32⟩
  | .local _ .vmem, ⟨56, _⟩ => ⟨S1024x256, .f32⟩
  | .local _ .vmem, ⟨57, _⟩ => ⟨S3x1024x128, .f32⟩
  | .local _ .vmem, ⟨58, _⟩ => ⟨S4x256x256, .f32⟩
  | .local _ .smem, ⟨0, _⟩ => ⟨S64, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .smem, ⟨0, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg24_1 : Ref sig .tc := ⟨.vmem, 47, rfl⟩
abbrev cc0_stg25_0 : Ref sig .tc := ⟨.vmem, 48, rfl⟩
abbrev cc0_stg25_1 : Ref sig .tc := ⟨.vmem, 49, rfl⟩
abbrev cc0_stg26_0 : Ref sig .tc := ⟨.vmem, 50, rfl⟩
abbrev cc0_stg26_1 : Ref sig .tc := ⟨.vmem, 51, rfl⟩
abbrev cc0_stg27_0 : Ref sig .tc := ⟨.vmem, 52, rfl⟩
abbrev cc0_stg27_1 : Ref sig .tc := ⟨.vmem, 53, rfl⟩
abbrev cc0_scratch0 : Ref sig .tc := ⟨.vmem, 54, rfl⟩
abbrev cc0_scratch1 : Ref sig .tc := ⟨.vmem, 55, rfl⟩
abbrev cc0_scratch2 : Ref sig .tc := ⟨.vmem, 56, rfl⟩
abbrev cc0_scratch3 : Ref sig .tc := ⟨.vmem, 57, rfl⟩
abbrev cc0_scratch4 : Ref sig .tc := ⟨.vmem, 58, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48
abbrev cc0_sem25_0 : DmaSem sig := 49
abbrev cc0_sem25_1 : DmaSem sig := 50
abbrev cc0_sem26_0 : DmaSem sig := 51
abbrev cc0_sem26_1 : DmaSem sig := 52
abbrev cc0_sem27_0 : DmaSem sig := 53
abbrev cc0_sem27_1 : DmaSem sig := 54

abbrev nD : Nat := 1
abbrev τ : Topo := Topo.v7x

variable {F : FTy → Type} [FloatOps F]

abbrev grid0 : Pipeline.Grid := ⟨2, ![6, 32], ![false, false]⟩

def k0_off1 (i : grid0.Coords) (c0_i32_859 : BitVec 32) : Fin 1 → Nat :=
  let arg1 : BitVec 32 := BitVec.ofNat 32 (i 1).val
  let c2_i32 : BitVec 32 := 2#32
  let v1076 : BitVec 32 := Scalar.muli arg1 c2_i32
  let v1077 : BitVec 32 := Scalar.addi v1076 c0_i32_859
  let v1145 : Index := Scalar.indexCast v1077
  ![v1145.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_16 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![c0_i32.toNat, v0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S4x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S4x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S4x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1024x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x2x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1024x1 .i32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]

abbrev stage0_24 : Fin 2 → Memref sig .tc .vmem S1x1x1024 .i32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]

abbrev stage0_25 : Fin 2 → Memref sig .tc .vmem S1x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![false, true]

abbrev stage0_26 : Fin 2 → Memref sig .tc .vmem S1024x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1024x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, false]
-- ==== MixerRefIdeal.lean ====
abbrev S64 : Shape := ⟨1, ![64]⟩
abbrev S6144x7168 : Shape := ⟨2, ![6144, 7168]⟩
abbrev S6144x1 : Shape := ⟨2, ![6144, 1]⟩
abbrev S7168x32832 : Shape := ⟨2, ![7168, 32832]⟩
abbrev S32832 : Shape := ⟨1, ![32832]⟩
abbrev S4x24576 : Shape := ⟨2, ![4, 24576]⟩
abbrev S24576 : Shape := ⟨1, ![24576]⟩
abbrev S6144x128 : Shape := ⟨2, ![6144, 128]⟩
abbrev S32x2x6144 : Shape := ⟨3, ![32, 2, 6144]⟩
abbrev S32x2x3072 : Shape := ⟨3, ![32, 2, 3072]⟩
abbrev S6x1024 : Shape := ⟨2, ![6, 1024]⟩
abbrev S8192 : Shape := ⟨1, ![8192]⟩
abbrev S1x32832 : Shape := ⟨2, ![1, 32832]⟩
abbrev S6144x32832 : Shape := ⟨2, ![6144, 32832]⟩
abbrev S6x1024x32832 : Shape := ⟨3, ![6, 1024, 32832]⟩
abbrev S6x1024x8192 : Shape := ⟨3, ![6, 1024, 8192]⟩
abbrev S6x1024x24576 : Shape := ⟨3, ![6, 1024, 24576]⟩
abbrev S_ : Shape := ⟨0, ![]⟩
abbrev S6x1027x24576 : Shape := ⟨3, ![6, 1027, 24576]⟩
abbrev S6x1027 : Shape := ⟨2, ![6, 1027]⟩
abbrev S6x1024x1 : Shape := ⟨3, ![6, 1024, 1]⟩
abbrev S1x24576 : Shape := ⟨2, ![1, 24576]⟩
abbrev S1x1x24576 : Shape := ⟨3, ![1, 1, 24576]⟩
abbrev S6x4x256x3x64x128 : Shape := ⟨6, ![6, 4, 256, 3, 64, 128]⟩
abbrev S6x4x256x1x64x128 : Shape := ⟨6, ![6, 4, 256, 1, 64, 128]⟩
abbrev S6x4x256x64x128 : Shape := ⟨5, ![6, 4, 256, 64, 128]⟩
abbrev S6x4x256 : Shape := ⟨3, ![6, 4, 256]⟩
abbrev S256 : Shape := ⟨1, ![256]⟩
abbrev S6x4x256x1 : Shape := ⟨4, ![6, 4, 256, 1]⟩
abbrev S6x4x1x256 : Shape := ⟨4, ![6, 4, 1, 256]⟩
abbrev S6x4x256x256 : Shape := ⟨4, ![6, 4, 256, 256]⟩
abbrev S256x1 : Shape := ⟨2, ![256, 1]⟩
abbrev S1x256 : Shape := ⟨2, ![1, 256]⟩
abbrev S256x256 : Shape := ⟨2, ![256, 256]⟩
abbrev S1x1x256x256 : Shape := ⟨4, ![1, 1, 256, 256]⟩
abbrev S64x6x4x256 : Shape := ⟨4, ![64, 6, 4, 256]⟩
abbrev S6x4x64x256 : Shape := ⟨4, ![6, 4, 64, 256]⟩
abbrev S6144x64 : Shape := ⟨2, ![6144, 64]⟩
abbrev S6x4x256x64 : Shape := ⟨4, ![6, 4, 256, 64]⟩
abbrev S6x4x64x256x1 : Shape := ⟨5, ![6, 4, 64, 256, 1]⟩
abbrev S6x4x64x1x256 : Shape := ⟨5, ![6, 4, 64, 1, 256]⟩
abbrev S6x4x64x256x256 : Shape := ⟨5, ![6, 4, 64, 256, 256]⟩
abbrev S6x4x1x256x256 : Shape := ⟨5, ![6, 4, 1, 256, 256]⟩
abbrev S6x4x256x64x1 : Shape := ⟨5, ![6, 4, 256, 64, 1]⟩
abbrev S6x4x64x128x256 : Shape := ⟨5, ![6, 4, 64, 128, 256]⟩
abbrev S6x4x64x128x128 : Shape := ⟨5, ![6, 4, 64, 128, 128]⟩
abbrev S64x6x4x128 : Shape := ⟨4, ![64, 6, 4, 128]⟩
abbrev S6x64x128x128 : Shape := ⟨4, ![6, 64, 128, 128]⟩
abbrev S64x6x1x128 : Shape := ⟨4, ![64, 6, 1, 128]⟩
abbrev S64x6x128 : Shape := ⟨3, ![64, 6, 128]⟩
abbrev S6x64x128 : Shape := ⟨3, ![6, 64, 128]⟩
abbrev S6x64x128x1 : Shape := ⟨4, ![6, 64, 128, 1]⟩
abbrev S6x1x64x128x128 : Shape := ⟨5, ![6, 1, 64, 128, 128]⟩
abbrev S64x1 : Shape := ⟨2, ![64, 1]⟩
abbrev S1x1x1x64x1 : Shape := ⟨5, ![1, 1, 1, 64, 1]⟩
abbrev S64x128 : Shape := ⟨2, ![64, 128]⟩
abbrev S1x1x1x64x128 : Shape := ⟨5, ![1, 1, 1, 64, 128]⟩
abbrev S6x4x256x128 : Shape := ⟨4, ![6, 4, 256, 128]⟩
abbrev S6144x8192 : Shape := ⟨2, ![6144, 8192]⟩

abbrev nBuf : Space → Nat
  | .hbm => 242
  | .vmem => 5
  | .smem => 0
  | _ => 0

abbrev hbmTy0_0 (i : Nat) : BufTy := match i % 128 with
  | 0 => ⟨S64, .f32⟩
  | 1 => ⟨S6144x7168, .fp8e4m3⟩
  | 2 => ⟨S6144x1, .f32⟩
  | 3 => ⟨S7168x32832, .fp8e4m3⟩
  | 4 => ⟨S32832, .f32⟩
  | 5 => ⟨S4x24576, .f32⟩
  | 6 => ⟨S24576, .f32⟩
  | 7 => ⟨S6144x128, .f32⟩
  | 8 => ⟨S6144x128, .f32⟩
  | 9 => ⟨S6144x128, .f32⟩
  | 10 => ⟨S6144x128, .f32⟩
  | 11 => ⟨S32x2x6144, .f32⟩
  | 12 => ⟨S32x2x3072, .f32⟩
  | 13 => ⟨S6x1024, .i32⟩
  | 14 => ⟨S8192, .bf16⟩
  | 15 => ⟨S1x32832, .f32⟩
  | 16 => ⟨S6144x32832, .f32⟩
  | 17 => ⟨S6x1024x32832, .f32⟩
  | 18 => ⟨S6x1024x8192, .f32⟩
  | 19 => ⟨S6x1024x24576, .f32⟩
  | 20 => ⟨S_, .i32⟩
  | 21 => ⟨S_, .f32⟩
  | 22 => ⟨S6x1027x24576, .f32⟩
  | 23 => ⟨S_, .i32⟩
  | 24 => ⟨S_, .i32⟩
  | 25 => ⟨S6x1027, .i32⟩
  | 26 => ⟨S6x1024, .i32⟩
  | 27 => ⟨S6x1024, .i1⟩
  | 28 => ⟨S6x1024x1, .i1⟩
  | 29 => ⟨S1x24576, .f32⟩
  | 30 => ⟨S24576, .f32⟩
  | 31 => ⟨S6x1024x24576, .f32⟩
  | 32 => ⟨S_, .f32⟩
  | 33 => ⟨S_, .f32⟩
  | 34 => ⟨S6x1024x24576, .i1⟩
  | 35 => ⟨S6x1024x24576, .f32⟩
  | 36 => ⟨S6x1024x24576, .f32⟩
  | 37 => ⟨S1x1x24576, .f32⟩
  | 38 => ⟨S6x1024x24576, .f32⟩
  | 39 => ⟨S6x1024x24576, .f32⟩
  | 40 => ⟨S1x1x24576, .f32⟩
  | 41 => ⟨S6x1024x24576, .f32⟩
  | 42 => ⟨S6x1024x24576, .f32⟩
  | 43 => ⟨S6x1024, .i32⟩
  | 44 => ⟨S6x1024, .i1⟩
  | 45 => ⟨S6x1024x1, .i1⟩
  | 46 => ⟨S1x24576, .f32⟩
  | 47 => ⟨S24576, .f32⟩
  | 48 => ⟨S6x1024x24576, .f32⟩
  | 49 => ⟨S_, .f32⟩
  | 50 => ⟨S_, .f32⟩
  | 51 => ⟨S6x1024x24576, .i1⟩
  | 52 => ⟨S6x1024x24576, .f32⟩
  | 53 => ⟨S6x1024x24576, .f32⟩
  | 54 => ⟨S1x1x24576, .f32⟩
  | 55 => ⟨S6x1024x24576, .f32⟩
  | 56 => ⟨S6x1024x24576, .f32⟩
  | 57 => ⟨S6x1024x24576, .f32⟩
  | 58 => ⟨S6x1024, .i32⟩
  | 59 => ⟨S6x1024, .i1⟩
  | 60 => ⟨S6x1024x1, .i1⟩
  | 61 => ⟨S1x24576, .f32⟩
  | 62 => ⟨S24576, .f32⟩
  | 63 => ⟨S6x1024x24576, .f32⟩
  | 64 => ⟨S_, .f32⟩
  | 65 => ⟨S_, .f32⟩
  | 66 => ⟨S6x1024x24576, .i1⟩
  | 67 => ⟨S6x1024x24576, .f32⟩
  | 68 => ⟨S6x1024x24576, .f32⟩
  | 69 => ⟨S1x1x24576, .f32⟩
  | 70 => ⟨S6x1024x24576, .f32⟩
  | 71 => ⟨S6x1024x24576, .f32⟩
  | 72 => ⟨S6x1024x24576, .f32⟩
  | 73 => ⟨S6x1024, .i32⟩
  | 74 => ⟨S6x1024, .i1⟩
  | 75 => ⟨S6x1024x1, .i1⟩
  | 76 => ⟨S1x24576, .f32⟩
  | 77 => ⟨S24576, .f32⟩
  | 78 => ⟨S6x1024x24576, .f32⟩
  | 79 => ⟨S_, .f32⟩
  | 80 => ⟨S_, .f32⟩
  | 81 => ⟨S6x1024x24576, .i1⟩
  | 82 => ⟨S6x1024x24576, .f32⟩
  | 83 => ⟨S6x1024x24576, .f32⟩
  | 84 => ⟨S1x1x24576, .f32⟩
  | 85 => ⟨S6x1024x24576, .f32⟩
  | 86 => ⟨S6x1024x24576, .f32⟩
  | 87 => ⟨S6x1024x24576, .f32⟩
  | 88 => ⟨S6x1024x24576, .f32⟩
  | 89 => ⟨S6x1024x24576, .f32⟩
  | 90 => ⟨S_, .f32⟩
  | 91 => ⟨S6x1024x24576, .f32⟩
  | 92 => ⟨S6x1024x24576, .f32⟩
  | 93 => ⟨S_, .f32⟩
  | 94 => ⟨S6x1024x24576, .f32⟩
  | 95 => ⟨S6x1024x24576, .f32⟩
  | 96 => ⟨S6x1024x24576, .f32⟩
  | 97 => ⟨S6x4x256x3x64x128, .f32⟩
  | 98 => ⟨S6x4x256x1x64x128, .f32⟩
  | 99 => ⟨S6x4x256x64x128, .f32⟩
  | 100 => ⟨S6x4x256x1x64x128, .f32⟩
  | 101 => ⟨S6x4x256x64x128, .f32⟩
  | 102 => ⟨S6x4x256x1x64x128, .f32⟩
  | 103 => ⟨S6x4x256x64x128, .f32⟩
  | 104 => ⟨S6x4x256, .i32⟩
  | 105 => ⟨S256, .i32⟩
  | 106 => ⟨S6x4x256x1, .i32⟩
  | 107 => ⟨S6x4x1x256, .i32⟩
  | 108 => ⟨S6x4x256x256, .i32⟩
  | 109 => ⟨S6x4x256x256, .i32⟩
  | 110 => ⟨S6x4x256x256, .i1⟩
  | 111 => ⟨S256x1, .i32⟩
  | 112 => ⟨S1x256, .i32⟩
  | 113 => ⟨S256x256, .i32⟩
  | 114 => ⟨S256x256, .i32⟩
  | 115 => ⟨S256x256, .i1⟩
  | 116 => ⟨S1x1x256x256, .i1⟩
  | 117 => ⟨S6x4x256x256, .i1⟩
  | 118 => ⟨S6x4x256x256, .i1⟩
  | 119 => ⟨S64x6x4x256, .f32⟩
  | 120 => ⟨S6x4x64x256, .f32⟩
  | 121 => ⟨S6144x64, .f32⟩
  | 122 => ⟨S6x4x256x64, .f32⟩
  | 123 => ⟨S6x4x64x256, .f32⟩
  | 124 => ⟨S6x4x64x256x1, .f32⟩
  | 125 => ⟨S6x4x64x1x256, .f32⟩
  | 126 => ⟨S6x4x64x256x256, .f32⟩
  | 127 => ⟨S6x4x64x256x256, .f32⟩
  | _ => ⟨S64, .f32⟩

abbrev hbmTy0_1 (i : Nat) : BufTy := match i % 128 with
  | 0 => ⟨S6x4x64x256x256, .f32⟩
  | 1 => ⟨S6x4x1x256x256, .i1⟩
  | 2 => ⟨S_, .f32⟩
  | 3 => ⟨S_, .f32⟩
  | 4 => ⟨S6x4x64x256x256, .i1⟩
  | 5 => ⟨S6x4x64x256x256, .f32⟩
  | 6 => ⟨S6x4x64x256x256, .f32⟩
  | 7 => ⟨S6x4x64x256x256, .f32⟩
  | 8 => ⟨S6x4x64x256x256, .f32⟩
  | 9 => ⟨S6x4x64x256x256, .f32⟩
  | 10 => ⟨S6144x64, .f32⟩
  | 11 => ⟨S6x4x256x64, .f32⟩
  | 12 => ⟨S6x4x256x64x1, .f32⟩
  | 13 => ⟨S6x4x256x64x128, .f32⟩
  | 14 => ⟨S6x4x256x64x128, .f32⟩
  | 15 => ⟨S6x4x64x128x256, .f32⟩
  | 16 => ⟨S6x4x256x64x128, .f32⟩
  | 17 => ⟨S6144x64, .f32⟩
  | 18 => ⟨S6x4x256x64, .f32⟩
  | 19 => ⟨S6x4x256x64x1, .f32⟩
  | 20 => ⟨S6x4x256x64x128, .f32⟩
  | 21 => ⟨S6x4x256x64x128, .f32⟩
  | 22 => ⟨S6x4x64x128x128, .f32⟩
  | 23 => ⟨S64x6x4x128, .f32⟩
  | 24 => ⟨S_, .f32⟩
  | 25 => ⟨S6x64x128x128, .f32⟩
  | 26 => ⟨S64x6x1x128, .f32⟩
  | 27 => ⟨S64x6x128, .f32⟩
  | 28 => ⟨S6x64x128, .f32⟩
  | 29 => ⟨S6x64x128x1, .f32⟩
  | 30 => ⟨S6x64x128x128, .f32⟩
  | 31 => ⟨S6x64x128x128, .f32⟩
  | 32 => ⟨S6x1x64x128x128, .f32⟩
  | 33 => ⟨S6x64x128x128, .f32⟩
  | 34 => ⟨S6x64x128x128, .f32⟩
  | 35 => ⟨S64x6x1x128, .f32⟩
  | 36 => ⟨S64x6x128, .f32⟩
  | 37 => ⟨S6x64x128, .f32⟩
  | 38 => ⟨S6x64x128x1, .f32⟩
  | 39 => ⟨S6x64x128x128, .f32⟩
  | 40 => ⟨S6x64x128x128, .f32⟩
  | 41 => ⟨S6x1x64x128x128, .f32⟩
  | 42 => ⟨S6x64x128x128, .f32⟩
  | 43 => ⟨S6x64x128x128, .f32⟩
  | 44 => ⟨S64x6x1x128, .f32⟩
  | 45 => ⟨S64x6x128, .f32⟩
  | 46 => ⟨S6x64x128, .f32⟩
  | 47 => ⟨S6x64x128x1, .f32⟩
  | 48 => ⟨S6x64x128x128, .f32⟩
  | 49 => ⟨S6x64x128x128, .f32⟩
  | 50 => ⟨S6x1x64x128x128, .f32⟩
  | 51 => ⟨S6x64x128x128, .f32⟩
  | 52 => ⟨S6x64x128x128, .f32⟩
  | 53 => ⟨S64x6x1x128, .f32⟩
  | 54 => ⟨S64x6x128, .f32⟩
  | 55 => ⟨S6x64x128, .f32⟩
  | 56 => ⟨S6x64x128x1, .f32⟩
  | 57 => ⟨S6x64x128x128, .f32⟩
  | 58 => ⟨S6x64x128x128, .f32⟩
  | 59 => ⟨S6x1x64x128x128, .f32⟩
  | 60 => ⟨S6x64x128x128, .f32⟩
  | 61 => ⟨S6x64x128x128, .f32⟩
  | 62 => ⟨S6x1x64x128x128, .f32⟩
  | 63 => ⟨S6x1x64x128x128, .f32⟩
  | 64 => ⟨S6x1x64x128x128, .f32⟩
  | 65 => ⟨S6x1x64x128x128, .f32⟩
  | 66 => ⟨S6x4x64x128x128, .f32⟩
  | 67 => ⟨S6x4x64x128x256, .f32⟩
  | 68 => ⟨S6x4x256x64x128, .f32⟩
  | 69 => ⟨S6144x64, .f32⟩
  | 70 => ⟨S6x4x256x64, .f32⟩
  | 71 => ⟨S6x4x256x64x1, .f32⟩
  | 72 => ⟨S6x4x256x64x128, .f32⟩
  | 73 => ⟨S6x4x256x64x128, .f32⟩
  | 74 => ⟨S6x4x256x64x128, .f32⟩
  | 75 => ⟨S64x1, .f32⟩
  | 76 => ⟨S1x1x1x64x1, .f32⟩
  | 77 => ⟨S6x4x256x64x128, .f32⟩
  | 78 => ⟨S6x4x256x64x128, .f32⟩
  | 79 => ⟨S6x4x256x64x128, .f32⟩
  | 80 => ⟨S6x4x256x64x128, .f32⟩
  | 81 => ⟨S6x4x256x64x128, .f32⟩
  | 82 => ⟨S6x4x256x64x128, .f32⟩
  | 83 => ⟨S_, .f32⟩
  | 84 => ⟨S6x4x256x64x128, .f32⟩
  | 85 => ⟨S6x4x256x64x128, .f32⟩
  | 86 => ⟨S_, .f32⟩
  | 87 => ⟨S6x4x256x64x128, .f32⟩
  | 88 => ⟨S6x4x256x64x128, .f32⟩
  | 89 => ⟨S6x4x256x64x128, .f32⟩
  | 90 => ⟨S6x4x256x64x128, .f32⟩
  | 91 => ⟨S6x4x256x64x128, .f32⟩
  | 92 => ⟨S_, .f32⟩
  | 93 => ⟨S6x4x256x64, .f32⟩
  | 94 => ⟨S6x4x256x64x1, .f32⟩
  | 95 => ⟨S_, .f32⟩
  | 96 => ⟨S6x4x256x64x1, .f32⟩
  | 97 => ⟨S6x4x256x64x1, .f32⟩
  | 98 => ⟨S_, .f32⟩
  | 99 => ⟨S6x4x256x64x1, .f32⟩
  | 100 => ⟨S6x4x256x64x1, .f32⟩
  | 101 => ⟨S6x4x256x64x1, .f32⟩
  | 102 => ⟨S6x4x256x64x128, .f32⟩
  | 103 => ⟨S6x4x256x64x128, .f32⟩
  | 104 => ⟨S8192, .f32⟩
  | 105 => ⟨S64x128, .f32⟩
  | 106 => ⟨S1x1x1x64x128, .f32⟩
  | 107 => ⟨S6x4x256x64x128, .f32⟩
  | 108 => ⟨S6x4x256x64x128, .f32⟩
  | 109 => ⟨S6x4x256x64x128, .f32⟩
  | 110 => ⟨S_, .f32⟩
  | 111 => ⟨S6x4x256x128, .f32⟩
  | 112 => ⟨S6144x8192, .f32⟩
  | 113 => ⟨S6144x128, .f32⟩
  | _ => ⟨S64, .f32⟩

abbrev hbmTy (i : Nat) : BufTy := match i / 128 with
  | 0 => hbmTy0_0 i
  | 1 => hbmTy0_1 i
  | _ => ⟨S64, .f32⟩

abbrev bufTy : (tb : Table) → Fin (tcTables nBuf tb) → BufTy
  | .hbm, ⟨i, _⟩ => hbmTy i
  | .local _ .vmem, ⟨0, _⟩ => ⟨S6144x7168, .fp8e4m3⟩
  | .local _ .vmem, ⟨1, _⟩ => ⟨S7168x32832, .fp8e4m3⟩
  | .local _ .vmem, ⟨2, _⟩ => ⟨S6144x1, .f32⟩
  | .local _ .vmem, ⟨3, _⟩ => ⟨S1x32832, .f32⟩
  | .local _ .vmem, ⟨4, _⟩ => ⟨S6144x32832, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call0_v0 : Ref sig .tc := ⟨.hbm, 21, rfl⟩
abbrev main_v5 : Ref sig .tc := ⟨.hbm, 22, rfl⟩
abbrev main_c_0 : Ref sig .tc := ⟨.hbm, 23, rfl⟩
abbrev main_call1_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_2 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_3 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_call6_v0 : Ref sig .tc := ⟨.hbm, 88, rfl⟩
abbrev main_call6_v1 : Ref sig .tc := ⟨.hbm, 89, rfl⟩
abbrev main_call6_cst : Ref sig .tc := ⟨.hbm, 90, rfl⟩
abbrev main_call6_v2 : Ref sig .tc := ⟨.hbm, 91, rfl⟩
abbrev main_call6_v3 : Ref sig .tc := ⟨.hbm, 92, rfl⟩
abbrev main_call6_cst_0 : Ref sig .tc := ⟨.hbm, 93, rfl⟩
abbrev main_call6_v4 : Ref sig .tc := ⟨.hbm, 94, rfl⟩
abbrev main_call6_v5 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_4 : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_5 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_call8_v0 : Ref sig .tc := ⟨.hbm, 209, rfl⟩
abbrev main_call8_v1 : Ref sig .tc := ⟨.hbm, 210, rfl⟩
abbrev main_call8_cst : Ref sig .tc := ⟨.hbm, 211, rfl⟩
abbrev main_call8_v2 : Ref sig .tc := ⟨.hbm, 212, rfl⟩
abbrev main_call8_v3 : Ref sig .tc := ⟨.hbm, 213, rfl⟩
abbrev main_call8_cst_0 : Ref sig .tc := ⟨.hbm, 214, rfl⟩
abbrev main_call8_v4 : Ref sig .tc := ⟨.hbm, 215, rfl⟩
abbrev main_call8_v5 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_6 : Ref sig .tc := ⟨.hbm, 220, rfl⟩
abbrev main_v164 : Ref sig .tc := ⟨.hbm, 221, rfl⟩
abbrev main_v165 : Ref sig .tc := ⟨.hbm, 222, rfl⟩
abbrev main_cst_7 : Ref sig .tc := ⟨.hbm, 223, rfl⟩
abbrev main_v166 : Ref sig .tc := ⟨.hbm, 224, rfl⟩
abbrev main_v167 : Ref sig .tc := ⟨.hbm, 225, rfl⟩
abbrev main_cst_8 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_cst_9 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x32832 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32832 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x32832 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Quantise.lean ====
abbrev S6144x8192 : Shape := ⟨2, ![6144, 8192]⟩
abbrev S6144x128 : Shape := ⟨2, ![6144, 128]⟩
abbrev S6144x1 : Shape := ⟨2, ![6144, 1]⟩
abbrev S256x8192 : Shape := ⟨2, ![256, 8192]⟩
abbrev S256x128 : Shape := ⟨2, ![256, 128]⟩
abbrev S256x1 : Shape := ⟨2, ![256, 1]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S6144x8192, .f32⟩
  | .hbm, ⟨1, _⟩ => ⟨S6144x128, .f32⟩
  | .hbm, ⟨2, _⟩ => ⟨S6144x8192, .fp8e4m3⟩
  | .hbm, ⟨3, _⟩ => ⟨S6144x1, .f32⟩
  | .local _ .vmem, ⟨0, _⟩ => ⟨S256x8192, .f32⟩
  | .local _ .vmem, ⟨1, _⟩ => ⟨S256x8192, .f32⟩
  | .local _ .vmem, ⟨2, _⟩ => ⟨S256x128, .f32⟩
  | .local _ .vmem, ⟨3, _⟩ => ⟨S256x128, .f32⟩
  | .local _ .vmem, ⟨4, _⟩ => ⟨S256x8192, .fp8e4m3⟩
  | .local _ .vmem, ⟨5, _⟩ => ⟨S256x8192, .fp8e4m3⟩
  | .local _ .vmem, ⟨6, _⟩ => ⟨S256x1, .f32⟩
  | .local _ .vmem, ⟨7, _⟩ => ⟨S256x1, .f32⟩
  | _, _ => ⟨S6144x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantRef.lean ====
abbrev S6144x8192 : Shape := ⟨2, ![6144, 8192]⟩
abbrev S6144x128 : Shape := ⟨2, ![6144, 128]⟩
abbrev S6144x1 : Shape := ⟨2, ![6144, 1]⟩
abbrev S6144 : Shape := ⟨1, ![6144]⟩

abbrev nBuf : Space → Nat
  | .hbm => 4
  | .vmem => 4
  | .smem => 0
  | _ => 0

abbrev bufTy : (tb : Table) → Fin (tcTables nBuf tb) → BufTy
  | .hbm, ⟨0, _⟩ => ⟨S6144x8192, .f32⟩
  | .hbm, ⟨1, _⟩ => ⟨S6144x128, .f32⟩
  | .hbm, ⟨2, _⟩ => ⟨S6144x8192, .fp8e4m3⟩
  | .hbm, ⟨3, _⟩ => ⟨S6144x1, .f32⟩
  | .local _ .vmem, ⟨0, _⟩ => ⟨S6144x8192, .f32⟩
  | .local _ .vmem, ⟨1, _⟩ => ⟨S6144x128, .f32⟩
  | .local _ .vmem, ⟨2, _⟩ => ⟨S6144x8192, .fp8e4m3⟩
  | .local _ .vmem, ⟨3, _⟩ => ⟨S6144x1, .f32⟩
  | _, _ => ⟨S6144x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S6144x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== OutProj.lean ====
abbrev S6144x8192 : Shape := ⟨2, ![6144, 8192]⟩
abbrev S8192x7168 : Shape := ⟨2, ![8192, 7168]⟩
abbrev S6144x1 : Shape := ⟨2, ![6144, 1]⟩
abbrev S7168 : Shape := ⟨1, ![7168]⟩
abbrev S6x1024x7168 : Shape := ⟨3, ![6, 1024, 7168]⟩
abbrev S1x7168 : Shape := ⟨2, ![1, 7168]⟩
abbrev S1024x8192 : Shape := ⟨2, ![1024, 8192]⟩
abbrev S8192x1024 : Shape := ⟨2, ![8192, 1024]⟩
abbrev S1024x1 : Shape := ⟨2, ![1024, 1]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 7
  | .vmem => 12
  | .smem => 0
  | _ => 0

abbrev bufTy : (tb : Table) → Fin (tcTables nBuf tb) → BufTy
  | .hbm, ⟨0, _⟩ => ⟨S6144x8192, .fp8e4m3⟩
  | .hbm, ⟨1, _⟩ => ⟨S8192x7168, .fp8e4m3⟩
  | .hbm, ⟨2, _⟩ => ⟨S6144x1, .f32⟩
  | .hbm, ⟨3, _⟩ => ⟨S7168, .f32⟩
  | .hbm, ⟨4, _⟩ => ⟨S6x1024x7168, .bf16⟩
  | .hbm, ⟨5, _⟩ => ⟨S1x7168, .f32⟩
  | .hbm, ⟨6, _⟩ => ⟨S6x1024x7168, .bf16⟩
  | .local _ .vmem, ⟨0, _⟩ => ⟨S1024x8192, .fp8e4m3⟩
  | .local _ .vmem, ⟨1, _⟩ => ⟨S1024x8192, .fp8e4m3⟩
  | .local _ .vmem, ⟨2, _⟩ => ⟨S8192x1024, .fp8e4m3⟩
  | .local _ .vmem, ⟨3, _⟩ => ⟨S8192x1024, .fp8e4m3⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | _, _ => ⟨S6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S6144x8192 : Shape := ⟨2, ![6144, 8192]⟩
abbrev S8192x7168 : Shape := ⟨2, ![8192, 7168]⟩
abbrev S6144x1 : Shape := ⟨2, ![6144, 1]⟩
abbrev S7168 : Shape := ⟨1, ![7168]⟩
abbrev S6x1024x7168 : Shape := ⟨3, ![6, 1024, 7168]⟩
abbrev S1x7168 : Shape := ⟨2, ![1, 7168]⟩
abbrev S6144x7168 : Shape := ⟨2, ![6144, 7168]⟩

abbrev nBuf : Space → Nat
  | .hbm => 7
  | .vmem => 6
  | .smem => 0
  | _ => 0

abbrev bufTy : (tb : Table) → Fin (tcTables nBuf tb) → BufTy
  | .hbm, ⟨0, _⟩ => ⟨S6144x8192, .fp8e4m3⟩
  | .hbm, ⟨1, _⟩ => ⟨S8192x7168, .fp8e4m3⟩
  | .hbm, ⟨2, _⟩ => ⟨S6144x1, .f32⟩
  | .hbm, ⟨3, _⟩ => ⟨S7168, .f32⟩
  | .hbm, ⟨4, _⟩ => ⟨S6x1024x7168, .bf16⟩
  | .hbm, ⟨5, _⟩ => ⟨S1x7168, .f32⟩
  | .hbm, ⟨6, _⟩ => ⟨S6x1024x7168, .bf16⟩
  | .local _ .vmem, ⟨0, _⟩ => ⟨S6144x8192, .fp8e4m3⟩
  | .local _ .vmem, ⟨1, _⟩ => ⟨S8192x7168, .fp8e4m3⟩
  | .local _ .vmem, ⟨2, _⟩ => ⟨S6144x1, .f32⟩
  | .local _ .vmem, ⟨3, _⟩ => ⟨S1x7168, .f32⟩
  | .local _ .vmem, ⟨4, _⟩ => ⟨S6x1024x7168, .bf16⟩
  | .local _ .vmem, ⟨5, _⟩ => ⟨S6x1024x7168, .bf16⟩
  | _, _ => ⟨S6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1024x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.MixerRuns.lean ====
/- What the runs of the mixer at its own precision share: its branch condition in closed form, the staging buffers of each
   window at a point, the scratch buffers; and its frame read off a run over relational proof data. -/
module

public import proofs.«01_k».proof.Proof.Gen.Mixer.Frame
public import proofs.«01_k».proof.Proof.Gen.Mixer.Launch
public import proofs.«01_k».proof.Proof.Gen.Mixer.Skeleton
public import proofs.«01_k».proof.Proof.Gen.Mixer.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Mixer.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame, from any relational proof data's run. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 13 rfl).trans ((hA c 13).trans (V_main_arg5 m c)),
      ((h c).2 main_arg6 (Pipeline.mem_restRefs_of main_arg6 (by decide) (by decide))).trans (V_main_arg6 m c),
      (Pipeline.RDat.FramePost.arr_in h c 17 rfl).trans ((hA c 17).trans (V_main_arg7 m c)),
      (Pipeline.RDat.FramePost.arr_in h c 18 rfl).trans ((hA c 18).trans (V_main_arg8 m c)),
      (Pipeline.RDat.FramePost.arr_in h c 19 rfl).trans ((hA c 19).trans (V_main_arg9 m c)),
      (Pipeline.RDat.FramePost.arr_in h c 20 rfl).trans ((hA c 20).trans (V_main_arg10 m c)),
      (Pipeline.RDat.FramePost.arr_in h c 21 rfl).trans ((hA c 21).trans (V_main_arg11 m c)),
      (Pipeline.RDat.FramePost.arr_in h c 22 rfl).trans ((hA c 22).trans (V_main_arg12 m c)),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 32) — by arithmetic of the point. -/
theorem hcond0_0 : ∀ t : Fin cfg0.N, cond0_0 (grid0.coords t) ↔ t.val % 32 = 0 :=
  (fun t => by
    have ht : t.val < 192 := Nat.lt_of_lt_of_eq t.isLt N_0
    have e0 : (grid0.coords t 0).val = t.val / 32 % 6 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .smem S64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x7168 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x7168 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x7168 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x7168 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1024x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1024x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1024x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x2x1024 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x2x512 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1024x1 .i32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x1x1024 .i32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x256 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1024x256 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S1024x128 .f32 := win0_27.stage (cfg0.slots t 27)
abbrev hs0_27 (t : Fin cfg0.N) : (ms0_27 t).IsWhole := hstage0_27 ((cfg0.slots t 27).cast nbuf0_27)
/-- The scratch operands: whole scoped buffers of the kernel's own, passed beside the windows. -/
abbrev scM0_0 : Memref sig .tc .vmem S6x1032x128 .f32 := Memref.whole cc0_scratch0
abbrev scM0_1 : Memref sig .tc .vmem S6x1024x128 .f32 := Memref.whole cc0_scratch1
abbrev scM0_2 : Memref sig .tc .vmem S1024x256 .f32 := Memref.whole cc0_scratch2
abbrev scM0_3 : Memref sig .tc .vmem S3x1024x128 .f32 := Memref.whole cc0_scratch3
abbrev scM0_4 : Memref sig .tc .vmem S4x256x256 .f32 := Memref.whole cc0_scratch4
/-- The scratch `arg33` the kernel carries between points, as a view: what it holds is stated through it. -/
abbrev VS0_3 : View sig .tc .vmem S3x1024x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Mixer.Gen

end
-- ==== Proof.MixerRunA.lean ====
/- The body of the mixer at its own precision, run at the first point of a batch. -/
module

public import proofs.«01_k».proof.Proof.MixerRuns

@[expose] public section

-- membership in a rectangle of production extents (`View.cover_of_tiled`): the elaborator's structural look
-- recurses once per coordinate of the long axes
set_option maxRecDepth 16384

noncomputable section

namespace Cert.Mixer.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2896000 in
/-- What the body's stores leave in each output's staging memref, as pieces (last first) IN CASE A (`scf.if` 0 taken: points 0, 32, 64, 96, 128, 160), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (26, 27) at anything, handed back at some contents nothing names. -/
noncomputable def kernelRun0_A (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) (hc0 : cond0_0 i)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) :
    { LS3 : List (View.Piece (Elt F) S3x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ f, arg33.view.loc (c : Thread nD τ) ↦[arg33.view.set]{fullShare} arg33.view.writes (Elt F) f LS3) ∗ (∃ d, owns (c : Thread nD τ) arg34 fullShare d)) -∗ K ⟨⟩))
          ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, fun E K => ?run⟩
  case run =>
    simp only [cc0_mixer_eq_skeleton]; unfold cc0_mixer_skel
    simp only [k0_part56_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _, _; isplitr; swap; · iexact H26
      ipureintro; rfl
    isplitl [H27]
    · iexists _, _; isplitr; swap; · iexact H27
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    iexists _, _; isplitr; swap; · iexact HS4
    ipureintro; rfl

end Cert.Mixer.Gen

end
-- ==== Proof.MixerRunB.lean ====
/- The body of the mixer at its own precision, run at the other points of a batch. -/
module

public import proofs.«01_k».proof.Proof.MixerRunA

@[expose] public section

-- membership in a rectangle of production extents (`View.cover_of_tiled`): the elaborator's structural look
-- recurses once per coordinate of the long axes
set_option maxRecDepth 16384

noncomputable section

namespace Cert.Mixer.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2760000 in
/-- What the body's stores leave in each output's staging memref, as pieces (last first) IN CASE B (`scf.if` 0 not taken: points 1, 2, … 191: 186 of 192), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (26, 27) at anything, handed back at some contents nothing names. -/
noncomputable def kernelRun0_B (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) (hc0 : ¬cond0_0 i)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xs3 : Vec F S3x1024x128 .f32) :
    { LS3 : List (View.Piece (Elt F) S3x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ owns (c : Thread nD τ) arg33 fullShare xs3 ∗ (∃ d, owns (c : Thread nD τ) arg34 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ owns (c : Thread nD τ) arg33 fullShare xs3 ∗ (∃ d, owns (c : Thread nD τ) arg34 fullShare d)) -∗ K ⟨⟩))
          ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨[], fun E K => ?run⟩
  case run =>
    simp only [cc0_mixer_eq_skeleton]; unfold cc0_mixer_skel
    simp only [k0_part56_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%ds0, %fs0, -, HS0⟩, ⟨%ds1, %fs1, -, HS1⟩, ⟨%ds2, %fs2, -, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg33.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _, _; isplitr; swap; · iexact H26
      ipureintro; rfl
    isplitl [H27]
    · iexists _, _; isplitr; swap; · iexact H27
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _; isplitr; · ipureintro; exact harg33.read_unread _
      iexact HS3
    iexists _, _; isplitr; swap; · iexact HS4
    ipureintro; rfl

end Cert.Mixer.Gen

end
-- ==== Proof.MixerFrame.lean ====
/- The frame of the mixer at its own precision, the contents of its two results forgotten: what the carried masks hold
   after each point, the proof data of the pipeline, the body's triple at a point, the launch. -/
module

public import proofs.«01_k».proof.Proof.MixerRunB
public import Idealize.ShloMosaic.Lib.Claim

@[expose] public section

-- membership in a rectangle of production extents (`View.cover_of_tiled`): the elaborator's structural look
-- recurses once per coordinate of the long axes
set_option maxRecDepth 16384

noncomputable section

namespace Cert.Mixer.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg33`, which the kernel carries between points, cover it: 3 pieces of `S1x1024x128` tiling it (Lib/Ring.lean `Piece.tiledL`). -/
theorem scover0_A_3 (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) (hc0 : cond0_0 i)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (y : S3x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25).1 S1x1024x128.size (by sl_kernel_rfl) y

/-- What case A leaves in scratch `arg33`: its pieces read back over junk. -/
def sout0_A_3 (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) (hc0 : cond0_0 i)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) : Vec F S3x1024x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25).1)

/-- Case B stores nothing into scratch `arg33`: it holds what the point before left. -/
def sout0_B_3 (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) (hc0 : ¬cond0_0 i)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xs3 : Vec F S3x1024x128 .f32) : Vec F S3x1024x128 .f32 := xs3

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S3x1024x128 .f32
  | 0, hn => sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (X0_3 m c ⟨0, hn⟩) (X0_4 m c ⟨0, hn⟩) (X0_5 m c ⟨0, hn⟩) (X0_6 m c ⟨0, hn⟩) (X0_7 m c ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩)
  | n + 1, hn =>
    if h0 : (n + 1) % 32 = 0 then
      sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (X0_3 m c ⟨n + 1, hn⟩) (X0_4 m c ⟨n + 1, hn⟩) (X0_5 m c ⟨n + 1, hn⟩) (X0_6 m c ⟨n + 1, hn⟩) (X0_7 m c ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩)
    else
      sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (X0_3 m c ⟨n + 1, hn⟩) (X0_4 m c ⟨n + 1, hn⟩) (X0_5 m c ⟨n + 1, hn⟩) (X0_6 m c ⟨n + 1, hn⟩) (X0_7 m c ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (outsAt0 c n (Nat.lt_of_succ_lt hn))

/-- `outsAt0` at a point of case A: that case's contents. -/
theorem outsAt0_A (c : Dev nD) (t : Fin cfg0.N) (h0 : t.val % 32 = 0) :
    outsAt0 m c t.val t.isLt = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn)) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn)) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega))) ∗ (∃ d, owns (c : Thread nD τ) scM0_4 fullShare d)) ∗ (∃ r, prngReg c r)) := by
  cases n with
  | zero => exact absurd rfl hz
  | succ n => rfl

/-! ## The pipeline's proof data -/

/-- The output windows this certificate FORGETS (26, 27): nothing reads what the kernel leaves in them, so nothing
    of it is named (Lib/Pipeline/Dat.lean `Dat.toRForget`). -/
def forgets0 : Fin 28 → Bool := fun w => w.val == 26 || w.val == 27

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => X0_8 m c t
    | ⟨9, _⟩ => X0_9 m c t
    | ⟨10, _⟩ => X0_10 m c t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, h⟩ => Pipeline.Dat.unnamed (cfg := cfg0) ⟨26, h⟩ t
    | ⟨27, h⟩ => Pipeline.Dat.unnamed (cfg := cfg0) ⟨27, h⟩ t
    | ⟨_ + 28, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare d)
    ∗ (∃ d, owns (c : Thread nD τ) (ms0_27 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ (∃ d, owns (c : Thread nD τ) (ms0_26 t) fullShare d)
    ∗ (∃ d, owns (c : Thread nD τ) (ms0_27 t) fullShare d))

set_option maxHeartbeats 25600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.succ = PhiS m c (t.val + 1) t.isLt from rfl, PhiS_succ]
  have hN : t.val < 192 := lt_of_lt_of_eq t.isLt (show cfg0.N = 192 from N_0)
  by_cases h0 : t.val % 32 = 0
  · by_cases hz : t.val = 0
    · rw [PhiS_castSucc m c t, PhiS_zero m c _ _ hz, PhiA0_eq]
      rw [outsAt0_A m c t h0]
      unfold sout0_A_3
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexists _; iexact H26
      isplitl [H27]; · iexists _; iexact H27
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, H19, H20, H21, H22, H23, H24, H25, H26, H27, HS0, HS1, HS2, ⟨%es3, HS3⟩, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iexact H27
    · rw [PhiS_castSucc m c t, PhiS_pos m c _ _ hz]
      rw [outsAt0_A m c t h0]
      unfold sout0_A_3
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexists _; iexact H26
      isplitl [H27]; · iexists _; iexact H27
      isplitl [HS0]; · iexact HS0
      isplitl [HS1]; · iexact HS1
      isplitl [HS2]; · iexact HS2
      isplitl [HS3]; · iexists _; iexact HS3
      isplitl [HS4]; · iexact HS4
      iintro ⟨H0, H1, H2, H3, H4, H5, H6, H7, H8, H9, H10, H11, H12, H13, H14, H15, H16, H17, H18, H19, H20, H21, H22, H23, H24, H25, H26, H27, HS0, HS1, HS2, ⟨%es3, HS3⟩, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iexact H27
  · by_cases hz : t.val = 0
    · exfalso; have hN : t.val < 192 := lt_of_lt_of_eq t.isLt (show cfg0.N = 192 from N_0); omega
    · rw [PhiS_castSucc m c t, PhiS_pos m c _ _ hz]
      rw [outsAt0_B m c t h0]
      unfold sout0_B_3
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexists _; iexact H26
      isplitl [H27]; · iexists _; iexact H27
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, H19, H20, H21, H22, H23, H24, H25, H26, H27, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 16000000 in
/-- The body's triple at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexact HS2
    isplitl [HS3]
    · iexists _; iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 192 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 26, 27) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_ofR m ρ (fun c => (dats m 0 c).toRForget forgets0) (A_eq m) (run_main m ρ)

/-- THE FRAME: `Cert.quiescent_Mixer`'s statement (Defs.lean) at any `F` — Proof.lean cites it at `Bits`:
    `theorem Cert.Proof.claim : Cert.Claim := ⟨Cert.Mixer.Gen.facts, fun m ρ _ => Cert.Mixer.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Mixer.Gen

end
-- ==== Proof.MixRuns.lean ====
/- What the runs of the mixer's body share: its branch condition in closed form, the staging buffers of each
   window at a point, the scratch buffers. -/
module

public import proofs.«01_k».proof.Proof.Gen.MixerIdeal.Frame
public import proofs.«01_k».proof.Proof.Gen.MixerIdeal.Skeleton
public import proofs.«01_k».proof.Proof.Gen.MixerIdeal

@[expose] public section

set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 32) — by arithmetic of the point. -/
theorem hcond0_0 : ∀ t : Fin cfg0.N, cond0_0 (grid0.coords t) ↔ t.val % 32 = 0 :=
  (fun t => by
    have ht : t.val < 192 := Nat.lt_of_lt_of_eq t.isLt N_0
    have e0 : (grid0.coords t 0).val = t.val / 32 % 6 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

/-! ## The kernel body on any staging memrefs: a subtype the run finds -/

/-- One staging buffer of output window 26, through which its contents are stated (`View.read_writes_of_cover`: the
    choice does not matter). -/
abbrev VO0_26 : View sig .tc .vmem S1024x256 .f32 := (Memref.whole cc0_stg26_0 : Memref sig .tc .vmem S1024x256 .f32).view
/-- One staging buffer of output window 27, through which its contents are stated (`View.read_writes_of_cover`: the
    choice does not matter). -/
abbrev VO0_27 : View sig .tc .vmem S1024x128 .f32 := (Memref.whole cc0_stg27_0 : Memref sig .tc .vmem S1024x128 .f32).view
/-- Each window's current staging memref at point `t`, spelled as the pipeline passes it (`bodyAt0`), and its wholeness. -/
abbrev ms0_0 (t : Fin cfg0.N) : Memref sig .tc .smem S64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x7168 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x7168 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x7168 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x7168 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1024x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1024x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1024x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x2x1024 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x2x512 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1024x1 .i32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x1x1024 .i32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x256 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1024x256 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S1024x128 .f32 := win0_27.stage (cfg0.slots t 27)
abbrev hs0_27 (t : Fin cfg0.N) : (ms0_27 t).IsWhole := hstage0_27 ((cfg0.slots t 27).cast nbuf0_27)
/-- The scratch operands: whole scoped buffers of the kernel's own, passed beside the windows. -/
abbrev scM0_0 : Memref sig .tc .vmem S6x1032x128 .f32 := Memref.whole cc0_scratch0
abbrev scM0_1 : Memref sig .tc .vmem S6x1024x128 .f32 := Memref.whole cc0_scratch1
abbrev scM0_2 : Memref sig .tc .vmem S1024x256 .f32 := Memref.whole cc0_scratch2
abbrev scM0_3 : Memref sig .tc .vmem S3x1024x128 .f32 := Memref.whole cc0_scratch3
abbrev scM0_4 : Memref sig .tc .vmem S4x256x256 .f32 := Memref.whole cc0_scratch4
/-- The scratch `arg33` the kernel carries between points, as a view: what it holds is stated through it. -/
abbrev VS0_3 : View sig .tc .vmem S3x1024x128 .f32 := scM0_3.view
/-- The scratch `arg34` the kernel carries between points, as a view: what it holds is stated through it. -/
abbrev VS0_4 : View sig .tc .vmem S4x256x256 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.MixerIdeal.Gen

end
-- ==== Proof.MixSplit.lean ====
/- The body of the mixer at a point, run once: the stores into the two carried masks (at the first point of a
   batch) and, apart from them, everything else. -/
module

public import proofs.«01_k».proof.Proof.MixRuns

@[expose] public section

set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of the two masks, at the first point of a batch. -/
noncomputable def masks (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let ⟨v1845, v1883⟩ : Σ' (v1845 : IVec S1024x1 32), IVec S256x256 32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34
    let ⟨v1884, v1920, cst_1303, cst_1304⟩ : Σ' (v1884 : IVec S256x256 32) (v1920 : IVec S256x256 1) (cst_1303 : F .f32), F .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1845 v1883
    let v1924 : Vec F S1x256x256 .f32 ← Prog.lift (.load arg34 (Rect.unit (s := S4x256x256) ![2, 0, 0] S1x256x256.size inb_S4x256x256_S1x256x256_2_0_0).toLoadRect (View.loadsAt_vmem h_S1x256x256))
    Prog.lift (.store arg34 (Rect.unit (s := S4x256x256) ![2, 0, 0] S1x256x256.size inb_S4x256x256_S1x256x256_2_0_0) (k0_pay9 v1920 cst_1303 cst_1304) Finset.univ (View.stores_vmem_bits_univ h_S1x256x256 rfl) (.inl rfl))
    let v1928 : Vec F S1x1x256 .i32 ← Prog.lift (.load arg26 (Rect.unit (s := S1x1x1024) ![0, 0, 768] S1x1x256.size inb_S1x1x1024_S1x1x256_0_0_768).toLoadRect (View.loadsAt_vmem h_S1x1x256))
    let v1938 : Vec F S1x256x256 .f32 ← Prog.lift (.load arg34 (Rect.unit (s := S4x256x256) ![3, 0, 0] S1x256x256.size inb_S4x256x256_S1x256x256_3_0_0).toLoadRect (View.loadsAt_vmem h_S1x256x256))
    Prog.lift (.store arg34 (Rect.unit (s := S4x256x256) ![3, 0, 0] S1x256x256.size inb_S4x256x256_S1x256x256_3_0_0) (k0_pay10 v1845 v1883 v1884 v1928) Finset.univ (View.stores_vmem_bits_univ h_S1x256x256 rfl) (.inl rfl))
    pure ⟨⟩
  else do
    pure ⟨⟩

/-- The first part after the masks: the projections' beginning. -/
noncomputable def part3r (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) :
    Prog (TpuEff nD τ sig (Elt F) Λ₀ .tc) (Σ' (arg1 : BitVec 32) (v3 : Vec F S1024x7168 .fp8e4m3) (v4 : Vec F S1024x1 .f32) (v25 : FVec F S1024x256 .f32), FVec F S1024x128 .f32) := do
  let arg1 : BitVec 32 := BitVec.ofNat 32 (i 1).val
  let v0 : BitVec 1 := Scalar.cmpi .eq arg1 0#32
  let v3 : Vec F S1024x7168 .fp8e4m3 ← Prog.lift (.load arg3 (Rect.unit (s := S1024x7168) ![0, 0] S1024x7168.size inb_S1024x7168_S1024x7168_0_0).toLoadRect (View.loadsAt_vmem h_S1024x7168))
  let v4 : Vec F S1024x1 .f32 ← Prog.lift (.load arg4 (Rect.unit (s := S1024x1) ![0, 0] S1024x1.size inb_S1024x1_S1024x1_0_0).toLoadRect (View.loadsAt_vmem h_S1024x1))
  let v5 : Vec F S256x7168 .fp8e4m3 ← Prog.lift (.load arg5 (Rect.unit (s := S256x7168) ![0, 0] S256x7168.size inb_S256x7168_S256x7168_0_0).toLoadRect (View.loadsAt_vmem h_S256x7168))
  let v10 : Vec F S1x256 .f32 ← Prog.lift (.load arg9 (Rect.unit (s := S1x256) ![0, 0] S1x256.size inb_S1x256_S1x256_0_0).toLoadRect (View.loadsAt_vmem h_S1x256))
  let v14 : Vec F S1024x256 .f32 ← Prog.lift (.load arg32 (Rect.unit (s := S1024x256) ![0, 0] S1024x256.size inb_S1024x256_S1024x256_0_0).toLoadRect (View.loadsAt_vmem h_S1024x256))
  Prog.lift (.store arg32 (Rect.unit (s := S1024x256) ![0, 0] S1024x256.size inb_S1024x256_S1024x256_0_0) (k0_pay11 v3 v4 v5 v10) Finset.univ (View.stores_vmem_bits_univ h_S1024x256 rfl) (.inl rfl))
  let v17 : Vec F S256x7168 .fp8e4m3 ← Prog.lift (.load arg6 (Rect.unit (s := S256x7168) ![0, 0] S256x7168.size inb_S256x7168_S256x7168_0_0).toLoadRect (View.loadsAt_vmem h_S256x7168))
  let v22 : Vec F S1x256 .f32 ← Prog.lift (.load arg10 (Rect.unit (s := S1x256) ![0, 0] S1x256.size inb_S1x256_S1x256_0_0).toLoadRect (View.loadsAt_vmem h_S1x256))
  let v27 : Vec F S1x8x128 .f32 ← Prog.lift (.load arg30 (Rect.unit (s := S6x1032x128) ![0, 0, 0] S1x8x128.size inb_S6x1032x128_S1x8x128_0_0_0).toLoadRect (View.loadsAt_vmem h_S1x8x128))
  Prog.lift (.store arg30 (Rect.unit (s := S6x1032x128) ![0, 0, 0] S1x8x128.size inb_S6x1032x128_S1x8x128_0_0_0) (k0_pay13 (F := F)) Finset.univ (View.stores_vmem_bits_univ h_S1x8x128 rfl) (.inl rfl))
  pure ⟨arg1, v3, v4, k0_pay12 v3 v4 v17 v22, k0_pay14 v3 v4 v17 v22⟩

/-- The parts after the masks. -/
noncomputable def part56r (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) :
    Prog (TpuEff nD τ sig (Elt F) Λ₀ .tc) (Σ' (v1833 : FVec F S256x128 .f32) (v1835 : BitVec 1), BitVec 1) := do
  let ⟨arg1, v3, v4, v25, v30⟩ : Σ' (arg1 : BitVec 32) (v3 : Vec F S1024x7168 .fp8e4m3) (v4 : Vec F S1024x1 .f32) (v25 : FVec F S1024x256 .f32), FVec F S1024x128 .f32 ← part3r i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34
  let ⟨v50, v59⟩ : Σ' (v50 : FVec F S1024x256 .f32), FVec F S8x128 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v3 v4 v25 v30
  k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v3 v4 v50 v59
  let ⟨v121, v123⟩ : Σ' (v121 : FVec F S256x128 .f32), FVec F S256x128 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34
  let ⟨v153, v155⟩ : Σ' (v153 : FVec F S256x128 .f32), FVec F S256x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v121 v123
  let ⟨v185, v187⟩ : Σ' (v185 : FVec F S256x128 .f32), FVec F S256x128 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v153 v155
  let ⟨v216, v218, v220⟩ : Σ' (v216 : FVec F S1x128 .f32) (v218 : FVec F S256x128 .f32), FVec F S256x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v185 v187
  let v252 : FVec F S256x128 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v216 v218 v220
  let v285 : FVec F S256x128 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v252
  let v317 : FVec F S256x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v285
  let ⟨v349, v350⟩ : Σ' (v349 : FVec F S256x128 .f32), Vec F S1x256x128 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v317
  let ⟨v380, v382⟩ : Σ' (v380 : FVec F S1x128 .f32), FVec F S256x128 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v349 v350
  let v416 : FVec F S256x128 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v380 v382
  let ⟨v440, v445, v447⟩ : Σ' (v440 : FVec F S256x128 .f32) (v445 : FVec F S256x128 .f32), FVec F S256x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v416
  let ⟨v472, v480⟩ : Σ' (v472 : FVec F S256x128 .f32), FVec F S256x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v440 v445 v447
  let v513 : FVec F S256x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v472 v480
  let v544 : FVec F S1x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v513
  let ⟨v572, v577⟩ : Σ' (v572 : FVec F S256x128 .f32), FVec F S256x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v544
  let ⟨v604, v609⟩ : Σ' (v604 : FVec F S256x128 .f32), FVec F S256x128 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v572 v577
  let ⟨v636, v641⟩ : Σ' (v636 : FVec F S256x128 .f32), FVec F S256x128 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v604 v609
  let ⟨v667, v672, v673⟩ : Σ' (v667 : FVec F S1x128 .f32) (v672 : FVec F S256x128 .f32), Vec F S1x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v636 v641
  k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v667 v672 v673
  let ⟨v736, v738⟩ : Σ' (v736 : FVec F S256x128 .f32), FVec F S256x128 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34
  let ⟨v768, v770⟩ : Σ' (v768 : FVec F S256x128 .f32), FVec F S256x128 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v736 v738
  let ⟨v800, v802⟩ : Σ' (v800 : FVec F S256x128 .f32), FVec F S256x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v768 v770
  let ⟨v831, v833, v835⟩ : Σ' (v831 : FVec F S1x128 .f32) (v833 : FVec F S256x128 .f32), FVec F S256x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v800 v802
  let v867 : FVec F S256x128 .f32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v831 v833 v835
  let v900 : FVec F S256x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v867
  let v932 : FVec F S256x128 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v900
  let ⟨v964, v965⟩ : Σ' (v964 : FVec F S256x128 .f32), Vec F S1x256x128 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v932
  let ⟨v995, v997⟩ : Σ' (v995 : FVec F S1x128 .f32), FVec F S256x128 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v964 v965
  let v1031 : FVec F S256x128 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v995 v997
  let ⟨v1055, v1060, v1062⟩ : Σ' (v1055 : FVec F S256x128 .f32) (v1060 : FVec F S256x128 .f32), FVec F S256x128 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1031
  let ⟨v1077, v1078, v1079, v1081, v1083, v1085, v1094⟩ : Σ' (v1077 : BitVec 32) (v1078 : IVec S256x128 32) (v1079 : FVec F S128x128 .f32) (v1081 : FVec F S256x128 .f32) (v1083 : FVec F S256x128 .f32) (v1085 : FVec F S256x128 .f32), FVec F S256x128 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v1055 v1060 v1062
  let ⟨v1128, v1129, v1136⟩ : Σ' (v1128 : FVec F S256x128 .f32) (v1129 : Vec F S256x128 .f32), IVec S256x128 32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1078 v1079 v1081 v1083 v1085 v1094
  let ⟨v1144, v1177⟩ : Σ' (v1144 : FVec F S128x128 .f32), FVec F S256x128 .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v1077 v1079 v1081 v1083 v1128 v1129 v1136
  let ⟨v1180, v1182, v1184, v1204, v1205, v1211⟩ : Σ' (v1180 : FVec F S256x128 .f32) (v1182 : FVec F S256x128 .f32) (v1184 : FVec F S256x128 .f32) (v1204 : FVec F S256x256 .f32) (v1205 : Vec F S256x128 .f32), IVec S256x128x1 32 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1078 v1177
  let ⟨v1243, v1252, v1254⟩ : Σ' (v1243 : FVec F S128x128 .f32) (v1252 : FVec F S256x128 .f32), FVec F S256 .f32 ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1077 v1078 v1144 v1180 v1182 v1184 v1204 v1205 v1211
  let ⟨v1279, v1281, v1283, v1284, v1286, v1287⟩ : Σ' (v1279 : FVec F S256x128 .f32) (v1281 : FVec F S256x128 .f32) (v1283 : FVec F S256x128 .f32) (v1284 : Vec F S256x128 .f32) (v1286 : IVec S256x128 1), IVec S256x128 32 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v1078 v1252 v1254
  let ⟨v1326, v1327, c0_i32_997⟩ : Σ' (v1326 : FVec F S256x128 .f32) (v1327 : Vec F S256x128 .f32), BitVec 32 ← k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1078 v1243 v1279 v1281 v1283 v1284 v1286 v1287
  let ⟨v1342, v1366, v1369, v1370⟩ : Σ' (v1342 : FVec F S128x128 .f32) (v1366 : FVec F S256x128 .f32) (v1369 : BitVec 1), FVec F S256x128 .f32 ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v1077 v1078 v1243 v1279 v1281 v1326 v1327 c0_i32_997
  let ⟨v1378, v1382, v1402, v1403⟩ : Σ' (v1378 : FVec F S256x128 .f32) (v1382 : FVec F S256x128 .f32) (v1402 : FVec F S256x256 .f32), Vec F S256x128 .f32 ← k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1078 v1366 v1369 v1370
  let ⟨v1444, v1448⟩ : Σ' (v1444 : FVec F S256x128 .f32), FVec F S256x128 .f32 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1077 v1078 v1342 v1378 v1382 v1402 v1403
  let ⟨v1461, v1462, v1463, v1465, v1467, v1469, v1478, v1479⟩ : Σ' (v1461 : BitVec 32) (v1462 : IVec S256x128 32) (v1463 : FVec F S128x128 .f32) (v1465 : FVec F S256x128 .f32) (v1467 : FVec F S256x128 .f32) (v1469 : FVec F S256x128 .f32) (v1478 : FVec F S256x128 .f32), Vec F S1x1x256 .f32 ← k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v1444 v1448
  let ⟨v1512, v1521⟩ : Σ' (v1512 : FVec F S256x128 .f32), FVec F S256x128 .f32 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1462 v1463 v1465 v1467 v1469 v1478 v1479
  let ⟨v1528, v1561⟩ : Σ' (v1528 : FVec F S128x128 .f32), FVec F S256x128 .f32 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v1461 v1463 v1465 v1467 v1512 v1521
  let ⟨v1564, v1566, v1568, v1588, v1589, v1596⟩ : Σ' (v1564 : FVec F S256x128 .f32) (v1566 : FVec F S256x128 .f32) (v1568 : FVec F S256x128 .f32) (v1588 : FVec F S256x256 .f32) (v1589 : Vec F S256x128 .f32), IVec S256x128 32 ← k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1462 v1561
  let ⟨v1627, v1636, v1639⟩ : Σ' (v1627 : FVec F S128x128 .f32) (v1636 : FVec F S256x128 .f32), FVec F S256x1 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1461 v1462 v1528 v1564 v1566 v1568 v1588 v1589 v1596
  let ⟨v1663, v1665, v1667, v1668, v1670, v1672⟩ : Σ' (v1663 : FVec F S256x128 .f32) (v1665 : FVec F S256x128 .f32) (v1667 : FVec F S256x128 .f32) (v1668 : Vec F S256x128 .f32) (v1670 : IVec S256x128 1), IVec S256x128 32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v1462 v1636 v1639
  let ⟨v1710, v1711, v1712⟩ : Σ' (v1710 : FVec F S256x128 .f32) (v1711 : Vec F S256x128 .f32), IVec S256x128 32 ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1462 v1627 v1663 v1665 v1667 v1668 v1670 v1672
  let ⟨v1726, v1750, v1753, v1754⟩ : Σ' (v1726 : FVec F S128x128 .f32) (v1750 : FVec F S256x128 .f32) (v1753 : BitVec 1), FVec F S256x128 .f32 ← k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg1 v1461 v1462 v1627 v1663 v1665 v1710 v1711 v1712
  let ⟨v1762, v1766, v1786, v1787, c0_i32_1245⟩ : Σ' (v1762 : FVec F S256x128 .f32) (v1766 : FVec F S256x128 .f32) (v1786 : FVec F S256x256 .f32) (v1787 : Vec F S256x128 .f32), BitVec 32 ← k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1462 v1750 v1753 v1754
  let v1833 : FVec F S256x128 .f32 ← k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v1461 v1462 v1726 v1762 v1766 v1786 v1787 c0_i32_1245
  let v1834 : Vec F S256x128 .f32 ← Prog.lift (.load arg28 (Rect.unit (s := S1024x256) ![768, 128] S256x128.size inb_S1024x256_S256x128_768_128).toLoadRect (View.loadsAt_vmem h_S256x128))
  Prog.lift (.store arg28 (Rect.unit (s := S1024x256) ![768, 128] S256x128.size inb_S1024x256_S256x128_768_128) v1833 Finset.univ (View.stores_vmem_bits_univ h_S256x128 rfl) (.inl rfl))
  let v1835 : BitVec 1 := Scalar.cmpi .eq arg1 0#32
  pure ⟨v1833, v1835, 0#1⟩

/-- The body after the masks. -/
noncomputable def rest (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) :
    Prog (TpuEff nD τ sig (Elt F) Λ₀ .tc) PUnit := do
  let ⟨v1833, v1835, false_1263⟩ : Σ' (v1833 : FVec F S256x128 .f32) (v1835 : BitVec 1), BitVec 1 ← part56r i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34
  let v1838 : Vec F S256x128 .f32 ← Prog.lift (.load arg29 (Rect.unit (s := S1024x128) ![768, 0] S256x128.size inb_S1024x128_S256x128_768_0).toLoadRect (View.loadsAt_vmem h_S256x128))
  let v1843 : Vec F S256x128 .f32 ← Prog.lift (.load arg29 (Rect.unit (s := S1024x128) ![768, 0] S256x128.size inb_S1024x128_S256x128_768_0).toLoadRect (View.loadsAt_vmem h_S256x128))
  Prog.lift (.store arg29 (Rect.unit (s := S1024x128) ![768, 0] S256x128.size inb_S1024x128_S256x128_768_0) (k0_pay1 v1833 v1835 false_1263 v1838) Finset.univ (View.stores_vmem_bits_univ h_S256x128 rfl) (.inl rfl))
  pure ⟨⟩

set_option maxRecDepth 65536 in
theorem part3_split (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) :
    k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 = masks i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 >>= fun _ => part3r i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 := by
  rw [k0_part3_eq_skeleton]; unfold k0_part3_skel masks part3r
  by_cases h : Scalar.cmpi .ne (Scalar.extui (Scalar.cmpi .eq (BitVec.ofNat 32 (i 1).val) 0#32)) 0#32 = 1#1
  · simp only [dif_pos h, bind_assoc, pure_bind]
  · simp only [dif_neg h, bind_assoc, pure_bind]

set_option maxRecDepth 65536 in
theorem part56_split (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) :
    k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 = masks i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 >>= fun _ => part56r i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 := by
  rw [k0_part56_eq_skeleton]; unfold k0_part56_skel part56r; rw [part3_split]; exact bind_assoc _ _ _

set_option maxRecDepth 65536 in
/-- The body is the masks' stores and then everything else. -/
theorem mixer_split (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) :
    cc0_mixer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 = masks i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 >>= fun _ => rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 := by
  rw [cc0_mixer_eq_skeleton]; unfold cc0_mixer_skel rest; rw [part56_split]; exact bind_assoc _ _ _

set_option maxHeartbeats 2896000 in
/-- What the masks' stores leave in the two carried buffers at the first point of a batch, with the proof that they run. -/
noncomputable def maskRun (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) (hc0 : cond0_0 i) (x23 : Vec F S1024x1 .i32) (x24 : Vec F S1x1x1024 .i32) :
    Σ' (LS3 : List (View.Piece (Elt F) S3x1024x128 .f32)), { LS4 : List (View.Piece (Elt F) S4x256x256 .f32) //
      ∀ (E : Set ℕ) (K : PUnit → sProp 𝕄),
        iprop(owns (c : Thread nD τ) arg25 fullShare x23 ∗ owns (c : Thread nD τ) arg26 fullShare x24 ∗ (∃ d, owns (c : Thread nD τ) arg33 fullShare d) ∗ (∃ d, owns (c : Thread nD τ) arg34 fullShare d)
            ∗ (iprop(owns (c : Thread nD τ) arg25 fullShare x23 ∗ owns (c : Thread nD τ) arg26 fullShare x24 ∗ (∃ f, arg33.view.loc (c : Thread nD τ) ↦[arg33.view.set]{fullShare} arg33.view.writes (Elt F) f LS3) ∗ (∃ f, arg34.view.loc (c : Thread nD τ) ↦[arg34.view.set]{fullShare} arg34.view.writes (Elt F) f LS4)) -∗ K ⟨⟩))
          ⊢ wp frame (wpE (defs₀ (F := F)) Variants.none c none) E (masks i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, fun E K => ?run⟩
  case run =>
    unfold masks
    simp only [k0_part1_eq_skeleton, k0_part2_eq_skeleton]
    unfold owns
    iintro ⟨⟨%f23, %hf23, H23⟩, ⟨%f24, %hf24, H24⟩, ⟨%ds3, %fs3, -, HS3⟩, ⟨%ds4, %fs4, -, HS4⟩, Hk⟩
    obtain rfl := harg25.eq_unread hf23; obtain rfl := harg26.eq_unread hf24
    sl_exec (disch := first | sl_exact hc0)
    sl_step
    iapply Hk
    isplitl [H23]
    · iexists _; isplitr; · ipureintro; exact harg25.read_unread _
      iexact H23
    isplitl [H24]
    · iexists _; isplitr; · ipureintro; exact harg26.read_unread _
      iexact H24
    isplitl [HS3]; · iexists _; iexact HS3
    iexists _; iexact HS4

set_option maxHeartbeats 400000 in
/-- Off the first point of a batch the masks' stores do nothing. -/
theorem masks_skip (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) (hc0 : ¬cond0_0 i) : masks (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 = pure ⟨⟩ := by
  unfold masks; exact dif_neg hc0

end Cert.MixerIdeal.Gen

end
-- ==== Proof.MixRun.lean ====
/- The body of the mixer after the masks, run once for every point. -/
module

public import proofs.«01_k».proof.Proof.MixSplit

@[expose] public section

set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2896000 in
/-- What the body after the masks leaves in each buffer it stores into, as pieces (last first), over the contents of its
    inputs, of the running maxima's buffer (`xo27`) and of the two masks (`xs3`, `xs4`), with the proof that it runs. -/
noncomputable def mixRun (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xo27 : Vec F S1024x128 .f32) (xs3 : Vec F S3x1024x128 .f32) (xs4 : Vec F S4x256x256 .f32) :
    Σ' (L26 : List (View.Piece (Elt F) S1024x256 .f32)), Σ' (L27 : List (View.Piece (Elt F) S1024x128 .f32)), Σ' (LT0 : List (View.Piece (Elt F) S6x1032x128 .f32)), Σ' (LT1 : List (View.Piece (Elt F) S6x1024x128 .f32)), { LT2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ d, owns (c : Thread nD τ) arg28 fullShare d) ∗ owns (c : Thread nD τ) arg29 fullShare xo27 ∗ (∃ d, owns (c : Thread nD τ) arg30 fullShare d) ∗ (∃ d, owns (c : Thread nD τ) arg31 fullShare d) ∗ (∃ d, owns (c : Thread nD τ) arg32 fullShare d) ∗ owns (c : Thread nD τ) arg33 fullShare xs3 ∗ owns (c : Thread nD τ) arg34 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f LT0) ∗ (∃ f, arg31.view.loc (c : Thread nD τ) ↦[arg31.view.set]{fullShare} arg31.view.writes (Elt F) f LT1) ∗ (∃ f, arg32.view.loc (c : Thread nD τ) ↦[arg32.view.set]{fullShare} arg32.view.writes (Elt F) f LT2) ∗ owns (c : Thread nD τ) arg33 fullShare xs3 ∗ owns (c : Thread nD τ) arg34 fullShare xs4) -∗ K ⟨⟩))
          ⊢ wp frame (wpE (defs₀ (F := F)) Variants.none c none) E (rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, ?_, fun E K => ?run⟩
  case run =>
    unfold rest part56r part3r
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%f27, %hf27, H27⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg29.eq_unread hf27; obtain rfl := harg33.eq_unread hfs3; obtain rfl := harg34.eq_unread hfs4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]; · iexists _; iexact H26
    isplitl [H27]; · iexists _; iexact H27
    isplitl [HS0]; · iexists _; iexact HS0
    isplitl [HS1]; · iexists _; iexact HS1
    isplitl [HS2]; · iexists _; iexact HS2
    isplitl [HS3]
    · iexists _; isplitr; · ipureintro; exact harg33.read_unread _
      iexact HS3
    iexists _; isplitr; · ipureintro; exact harg34.read_unread _
    iexact HS4

end Cert.MixerIdeal.Gen

end
-- ==== Proof.MixVal0.lean ====
/- The values the body stores, head by head and chunk by chunk, and the lists of stores of the two results in
   terms of them. -/
module

public import proofs.«01_k».proof.Proof.MixRun

@[expose] public section

set_option maxRecDepth 16384

noncomputable section

namespace Cert.MixerIdeal.Gen

open Idealize.ShloMosaic Idealize.ShloMosaic.TcCoe Idealize.ShloMosaic.Tactic
open Idealize.ShloMosaic.Rounds

variable {F : FTy → Type} [FloatOps F]
/-- The gated and normalised values of head 0 of the pair in chunk 0. -/
def gw0 (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xs3 : Vec F S3x1024x128 .f32) (xs4 : Vec F S4x256x256 .f32) : Vec F S256x128 .f32 :=
  k0_pay112 (mixRun.sl.r_53 c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (mixRun.sl.r_57 c i arg3 harg3 arg4 harg4 arg6 harg6 arg7 harg7 arg8 harg8 arg10 harg10 arg11 harg11 arg12 harg12 arg13 harg13 arg14 harg14 arg15 harg15 arg16 harg16 arg17 harg17 arg18 harg18 arg19 harg19 arg20 harg20 arg22 harg22 arg23 harg23 arg30 arg31 arg33 harg33 arg34 harg34 x1 x2 x4 x5 x6 x8 x9 x10 x11 x12 x13 x14 x15 x16 x17 x18 x20 x21 xs3 xs4) (mixRun.sl.r_60 c i arg2 harg2 x0) (mixRun.sl.v1150 c arg3 harg3 arg4 harg4 arg5 harg5 arg9 harg9 arg32 x1 x2 x3 x7) (View.readAt (Elt F) arg27.view (Rect.unit (s := S1x256) ![0, 0] S1x128.size inb_S1x256_S1x128_0_0).toLoadRect (harg27.unread x25))

/-- The gated and normalised values of head 0 of the pair in chunk 1. -/
def gw1 (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xs3 : Vec F S3x1024x128 .f32) (xs4 : Vec F S4x256x256 .f32) : Vec F S256x128 .f32 :=
  k0_pay122 (mixRun.sl.r_70 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 arg31 arg32 arg33 harg33 arg34 harg34 x0 x1 x2 x3 x4 x5 x6 x7 x8 x9 x10 x11 x12 x13 x14 x15 x16 x17 x18 x19 x20 x21 x22 xs3 xs4) (mixRun.sl.r_71 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 arg31 arg32 arg33 harg33 arg34 harg34 x0 x1 x2 x3 x4 x5 x6 x7 x8 x9 x10 x11 x12 x13 x14 x15 x16 x17 x18 x19 x20 x21 x22 xs3 xs4) (View.readAt (Elt F) arg27.view (Rect.unit (s := S1x256) ![0, 0] S1x128.size inb_S1x256_S1x128_0_0).toLoadRect (harg27.unread x25))

/-- The gated and normalised values of head 0 of the pair in chunk 2. -/
def gw2 (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xs3 : Vec F S3x1024x128 .f32) (xs4 : Vec F S4x256x256 .f32) : Vec F S256x128 .f32 :=
  mixRun.sl.r_80 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg30 arg31 arg32 arg33 harg33 arg34 harg34 x0 x1 x2 x3 x4 x5 x6 x7 x8 x9 x10 x11 x12 x13 x14 x15 x16 x17 x18 x19 x20 x21 x22 x25 xs3 xs4

/-- The gated and normalised values of head 0 of the pair in chunk 3. -/
def gw3 (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xs3 : Vec F S3x1024x128 .f32) (xs4 : Vec F S4x256x256 .f32) : Vec F S256x128 .f32 :=
  k0_pay139 (mixRun.sl.r_86 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 arg31 arg32 arg33 harg33 arg34 harg34 x0 x1 x2 x3 x4 x5 x6 x7 x8 x9 x10 x11 x12 x13 x14 x15 x16 x17 x18 x19 x20 x21 x22 xs3 xs4) (mixRun.sl.r_87 c arg27 harg27 x25)

/-- The gated and normalised values of head 1 of the pair in chunk 0. -/
def gw4 (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xs3 : Vec F S3x1024x128 .f32) (xs4 : Vec F S4x256x256 .f32) : Vec F S256x128 .f32 :=
  k0_pay150 (mixRun.sl.r_89 c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (mixRun.sl.r_94 c i arg3 harg3 arg4 harg4 arg6 harg6 arg7 harg7 arg8 harg8 arg10 harg10 arg11 harg11 arg12 harg12 arg13 harg13 arg14 harg14 arg15 harg15 arg16 harg16 arg17 harg17 arg18 harg18 arg19 harg19 arg20 harg20 arg22 harg22 arg23 harg23 arg30 arg31 arg33 harg33 arg34 harg34 x1 x2 x4 x5 x6 x8 x9 x10 x11 x12 x13 x14 x15 x16 x17 x18 x20 x21 xs3 xs4) (mixRun.sl.r_96 c i arg2 harg2 x0) (mixRun.sl.v1534 c arg3 harg3 arg4 harg4 arg5 harg5 arg9 harg9 arg32 x1 x2 x3 x7) (View.readAt (Elt F) arg27.view (Rect.unit (s := S1x256) ![0, 128] S1x128.size inb_S1x256_S1x128_0_128).toLoadRect (harg27.unread x25))

/-- The gated and normalised values of head 1 of the pair in chunk 1. -/
def gw5 (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xs3 : Vec F S3x1024x128 .f32) (xs4 : Vec F S4x256x256 .f32) : Vec F S256x128 .f32 :=
  k0_pay160 (mixRun.sl.r_105 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 arg31 arg32 arg33 harg33 arg34 harg34 x0 x1 x2 x3 x4 x5 x6 x7 x8 x9 x10 x11 x12 x13 x14 x15 x16 x17 x18 x19 x20 x21 x22 xs3 xs4) (mixRun.sl.r_106 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg30 arg31 arg32 arg33 harg33 arg34 harg34 x0 x1 x2 x3 x4 x5 x6 x7 x8 x9 x10 x11 x12 x13 x14 x15 x16 x17 x18 x19 x20 x21 x22 xs3 xs4) (View.readAt (Elt F) arg27.view (Rect.unit (s := S1x256) ![0, 128] S1x128.size inb_S1x256_S1x128_0_128).toLoadRect (harg27.unread x25))

/-- The gated and normalised values of head 1 of the pair in chunk 2. -/
def gw6 (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xs3 : Vec F S3x1024x128 .f32) (xs4 : Vec F S4x256x256 .f32) : Vec F S256x128 .f32 :=
  mixRun.sl.r_114 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg30 arg31 arg32 arg33 harg33 arg34 harg34 x0 x1 x2 x3 x4 x5 x6 x7 x8 x9 x10 x11 x12 x13 x14 x15 x16 x17 x18 x19 x20 x21 x22 x25 xs3 xs4

/-- The gated and normalised values of head 1 of the pair in chunk 3. -/
def gw7 (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole)
    (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xs3 : Vec F S3x1024x128 .f32) (xs4 : Vec F S4x256x256 .f32) : Vec F S256x128 .f32 :=
  mixRun.sl.r_119 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg30 arg31 arg32 arg33 harg33 arg34 harg34 x0 x1 x2 x3 x4 x5 x6 x7 x8 x9 x10 x11 x12 x13 x14 x15 x16 x17 x18 x19 x20 x21 x22 x25 xs3 xs4

/-- One update of the running maxima: replaced where `b` is one. -/
def mxs (b : BitVec 1) (g prev : Vec F S256x128 .f32) : Vec F S256x128 .f32 :=
  Scalar.select b (absf g) (maximumf (shapeCast S256x128 prev shapeCasts_S256x128_S256x128) (absf g))

/-- The stores of the first head of the pair. -/
def mx4 (b : BitVec 1) (arg29 : Memref sig .tc .vmem S1024x128 .f32) (harg29 : arg29.IsWhole) (xo27 : Vec F S1024x128 .f32) (g0 g1 g2 g3 : Vec F S256x128 .f32) :
    List (View.Piece (Elt F) S1024x128 .f32) :=
  [⟨Rect.unit (s := S1024x128) ![768, 0] S256x128.size inb_S1024x128_S256x128_768_0, mxs b g3 (View.readAt (Elt F) arg29.view (Rect.unit (s := S1024x128) ![768, 0] S256x128.size inb_S1024x128_S256x128_768_0).toLoadRect (harg29.unread xo27))⟩,
    ⟨Rect.unit (s := S1024x128) ![512, 0] S256x128.size inb_S1024x128_S256x128_512_0, mxs b g2 (View.readAt (Elt F) arg29.view (Rect.unit (s := S1024x128) ![512, 0] S256x128.size inb_S1024x128_S256x128_512_0).toLoadRect (harg29.unread xo27))⟩,
    ⟨Rect.unit (s := S1024x128) ![256, 0] S256x128.size inb_S1024x128_S256x128_256_0, mxs b g1 (View.readAt (Elt F) arg29.view (Rect.unit (s := S1024x128) ![256, 0] S256x128.size inb_S1024x128_S256x128_256_0).toLoadRect (harg29.unread xo27))⟩,
    ⟨Rect.unit (s := S1024x128) ![0, 0] S256x128.size inb_S1024x128_S256x128_0_0, mxs b g0 (View.readAt (Elt F) arg29.view (Rect.unit (s := S1024x128) ![0, 0] S256x128.size inb_S1024x128_S256x128_0_0).toLoadRect (harg29.unread xo27))⟩]

/-- The stores of the second head of the pair, over those of the first. -/
def mx8 (b : BitVec 1) (arg29 : Memref sig .tc .vmem S1024x128 .f32) (g4 g5 g6 g7 : Vec F S256x128 .f32)
    (L : List (View.Piece (Elt F) S1024x128 .f32)) : List (View.Piece (Elt F) S1024x128 .f32) :=
  let L0 : List (View.Piece (Elt F) S1024x128 .f32) := ⟨Rect.unit (s := S1024x128) ![0, 0] S256x128.size inb_S1024x128_S256x128_0_0, mxs b g4 (arg29.view.readCov L (Rect.unit (s := S1024x128) ![0, 0] S256x128.size inb_S1024x128_S256x128_0_0).toLoadRect)⟩ :: L
  let L1 : List (View.Piece (Elt F) S1024x128 .f32) := ⟨Rect.unit (s := S1024x128) ![256, 0] S256x128.size inb_S1024x128_S256x128_256_0, mxs b g5 (arg29.view.readCov L0 (Rect.unit (s := S1024x128) ![256, 0] S256x128.size inb_S1024x128_S256x128_256_0).toLoadRect)⟩ :: L0
  let L2 : List (View.Piece (Elt F) S1024x128 .f32) := ⟨Rect.unit (s := S1024x128) ![512, 0] S256x128.size inb_S1024x128_S256x128_512_0, mxs b g6 (arg29.view.readCov L1 (Rect.unit (s := S1024x128) ![512, 0] S256x128.size inb_S1024x128_S256x128_512_0).toLoadRect)⟩ :: L1
  let L3 : List (View.Piece (Elt F) S1024x128 .f32) := ⟨Rect.unit (s := S1024x128) ![768, 0] S256x128.size inb_S1024x128_S256x128_768_0, mxs b g7 (arg29.view.readCov L2 (Rect.unit (s := S1024x128) ![768, 0] S256x128.size inb_S1024x128_S256x128_768_0).toLoadRect)⟩ :: L2
  L3

variable (c : Dev nD) (i : grid0.Coords) (arg2 : Memref sig .tc .smem S64 .f32) (harg2 : arg2.IsWhole) (arg3 : Memref sig .tc .vmem S1024x7168 .fp8e4m3) (harg3 : arg3.IsWhole) (arg4 : Memref sig .tc .vmem S1024x1 .f32) (harg4 : arg4.IsWhole) (arg5 : Memref sig .tc .vmem S256x7168 .fp8e4m3) (harg5 : arg5.IsWhole) (arg6 : Memref sig .tc .vmem S256x7168 .fp8e4m3) (harg6 : arg6.IsWhole) (arg7 : Memref sig .tc .vmem S256x7168 .fp8e4m3) (harg7 : arg7.IsWhole) (arg8 : Memref sig .tc .vmem S256x7168 .fp8e4m3) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256 .f32) (harg13 : arg13.IsWhole) (arg14 : Memref sig .tc .vmem S4x256 .f32) (harg14 : arg14.IsWhole) (arg15 : Memref sig .tc .vmem S4x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1x2x1024 .f32) (harg23 : arg23.IsWhole) (arg24 : Memref sig .tc .vmem S1x2x512 .f32) (harg24 : arg24.IsWhole) (arg25 : Memref sig .tc .vmem S1024x1 .i32) (harg25 : arg25.IsWhole) (arg26 : Memref sig .tc .vmem S1x1x1024 .i32) (harg26 : arg26.IsWhole) (arg27 : Memref sig .tc .vmem S1x256 .bf16) (harg27 : arg27.IsWhole) (arg28 : Memref sig .tc .vmem S1024x256 .f32) (harg28 : arg28.IsWhole) (arg29 : Memref sig .tc .vmem S1024x128 .f32) (harg29 : arg29.IsWhole) (arg30 : Memref sig .tc .vmem S6x1032x128 .f32) (harg30 : arg30.IsWhole) (arg31 : Memref sig .tc .vmem S6x1024x128 .f32) (harg31 : arg31.IsWhole) (arg32 : Memref sig .tc .vmem S1024x256 .f32) (harg32 : arg32.IsWhole) (arg33 : Memref sig .tc .vmem S3x1024x128 .f32) (harg33 : arg33.IsWhole) (arg34 : Memref sig .tc .vmem S4x256x256 .f32) (harg34 : arg34.IsWhole) (x0 : Vec F S64 .f32) (x1 : Vec F S1024x7168 .fp8e4m3) (x2 : Vec F S1024x1 .f32) (x3 : Vec F S256x7168 .fp8e4m3) (x4 : Vec F S256x7168 .fp8e4m3) (x5 : Vec F S256x7168 .fp8e4m3) (x6 : Vec F S256x7168 .fp8e4m3) (x7 : Vec F S1x256 .f32) (x8 : Vec F S1x256 .f32) (x9 : Vec F S1x256 .f32) (x10 : Vec F S1x256 .f32) (x11 : Vec F S4x256 .f32) (x12 : Vec F S4x256 .f32) (x13 : Vec F S4x256 .f32) (x14 : Vec F S1x256 .f32) (x15 : Vec F S1x256 .f32) (x16 : Vec F S1x256 .f32) (x17 : Vec F S1024x128 .f32) (x18 : Vec F S1024x128 .f32) (x19 : Vec F S1024x128 .f32) (x20 : Vec F S1024x128 .f32) (x21 : Vec F S1x2x1024 .f32) (x22 : Vec F S1x2x512 .f32) (x23 : Vec F S1024x1 .i32) (x24 : Vec F S1x1x1024 .i32) (x25 : Vec F S1x256 .bf16) (xo27 : Vec F S1024x128 .f32) (xs3 : Vec F S3x1024x128 .f32) (xs4 : Vec F S4x256x256 .f32)

theorem L26_eq : (mixRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xo27 xs3 xs4).1 =
    [⟨Rect.unit (s := S1024x256) ![768, 128] S256x128.size inb_S1024x256_S256x128_768_128, gw7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4⟩,
      ⟨Rect.unit (s := S1024x256) ![512, 128] S256x128.size inb_S1024x256_S256x128_512_128, gw6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4⟩,
      ⟨Rect.unit (s := S1024x256) ![256, 128] S256x128.size inb_S1024x256_S256x128_256_128, gw5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4⟩,
      ⟨Rect.unit (s := S1024x256) ![0, 128] S256x128.size inb_S1024x256_S256x128_0_128, gw4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4⟩,
      ⟨Rect.unit (s := S1024x256) ![768, 0] S256x128.size inb_S1024x256_S256x128_768_0, gw3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4⟩,
      ⟨Rect.unit (s := S1024x256) ![512, 0] S256x128.size inb_S1024x256_S256x128_512_0, gw2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4⟩,
      ⟨Rect.unit (s := S1024x256) ![256, 0] S256x128.size inb_S1024x256_S256x128_256_0, gw1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4⟩,
      ⟨Rect.unit (s := S1024x256) ![0, 0] S256x128.size inb_S1024x256_S256x128_0_0, gw0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4⟩] := rfl

theorem H4_eq : (mixRun.sl.H27_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg29 harg29 arg30 arg31 arg32 arg33 harg33 arg34 harg34 x0 x1 x2 x3 x4 x5 x6 x7 x8 x9 x10 x11 x12 x13 x14 x15 x16 x17 x18 x19 x20 x21 x22 x25 xo27 xs3 xs4) =
    mx4 (Scalar.andi (Scalar.cmpi .eq (BitVec.ofNat 32 (i 1).val) 0#32) 1#1) arg29 harg29 xo27 (gw0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) := by
  unfold mixRun.sl.H27_4 mx4
  congr 1

theorem H5_eq : (mixRun.sl.H27_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg29 harg29 arg30 arg31 arg32 arg33 harg33 arg34 harg34 x0 x1 x2 x3 x4 x5 x6 x7 x8 x9 x10 x11 x12 x13 x14 x15 x16 x17 x18 x19 x20 x21 x22 x25 xo27 xs3 xs4) =
    ⟨Rect.unit (s := S1024x128) ![0, 0] S256x128.size inb_S1024x128_S256x128_0_0, mxs (Scalar.andi (Scalar.cmpi .eq (BitVec.ofNat 32 (i 1).val) 0#32) 0#1) (gw4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (arg29.view.readCov (mixRun.sl.H27_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg29 harg29 arg30 arg31 arg32 arg33 harg33 arg34 harg34 x0 x1 x2 x3 x4 x5 x6 x7 x8 x9 x10 x11 x12 x13 x14 x15 x16 x17 x18 x19 x20 x21 x22 x25 xo27 xs3 xs4) (Rect.unit (s := S1024x128) ![0, 0] S256x128.size inb_S1024x128_S256x128_0_0).toLoadRect)⟩ :: (mixRun.sl.H27_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg29 harg29 arg30 arg31 arg32 arg33 harg33 arg34 harg34 x0 x1 x2 x3 x4 x5 x6 x7 x8 x9 x10 x11 x12 x13 x14 x15 x16 x17 x18 x19 x20 x21 x22 x25 xo27 xs3 xs4) := by
  unfold mixRun.sl.H27_5
  congr 1

theorem H6_eq : (mixRun.sl.H27_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg29 harg29 arg30 arg31 arg32 arg33 harg33 arg34 harg34 x0 x1 x2 x3 x4 x5 x6 x7 x8 x9 x10 x11 x12 x13 x14 x15 x16 x17 x18 x19 x20 x21 x22 x25 xo27 xs3 xs4) =
    ⟨Rect.unit (s := S1024x128) ![256, 0] S256x128.size inb_S1024x128_S256x128_256_0, mxs (Scalar.andi (Scalar.cmpi .eq (BitVec.ofNat 32 (i 1).val) 0#32) 0#1) (gw5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (arg29.view.readCov (mixRun.sl.H27_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg29 harg29 arg30 arg31 arg32 arg33 harg33 arg34 harg34 x0 x1 x2 x3 x4 x5 x6 x7 x8 x9 x10 x11 x12 x13 x14 x15 x16 x17 x18 x19 x20 x21 x22 x25 xo27 xs3 xs4) (Rect.unit (s := S1024x128) ![256, 0] S256x128.size inb_S1024x128_S256x128_256_0).toLoadRect)⟩ :: (mixRun.sl.H27_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg29 harg29 arg30 arg31 arg32 arg33 harg33 arg34 harg34 x0 x1 x2 x3 x4 x5 x6 x7 x8 x9 x10 x11 x12 x13 x14 x15 x16 x17 x18 x19 x20 x21 x22 x25 xo27 xs3 xs4) := by
  unfold mixRun.sl.H27_6
  congr 1

theorem H7_eq : (mixRun.sl.H27_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg29 harg29 arg30 arg31 arg32 arg33 harg33 arg34 harg34 x0 x1 x2 x3 x4 x5 x6 x7 x8 x9 x10 x11 x12 x13 x14 x15 x16 x17 x18 x19 x20 x21 x22 x25 xo27 xs3 xs4) =
    ⟨Rect.unit (s := S1024x128) ![512, 0] S256x128.size inb_S1024x128_S256x128_512_0, mxs (Scalar.andi (Scalar.cmpi .eq (BitVec.ofNat 32 (i 1).val) 0#32) 0#1) (gw6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (arg29.view.readCov (mixRun.sl.H27_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg29 harg29 arg30 arg31 arg32 arg33 harg33 arg34 harg34 x0 x1 x2 x3 x4 x5 x6 x7 x8 x9 x10 x11 x12 x13 x14 x15 x16 x17 x18 x19 x20 x21 x22 x25 xo27 xs3 xs4) (Rect.unit (s := S1024x128) ![512, 0] S256x128.size inb_S1024x128_S256x128_512_0).toLoadRect)⟩ :: (mixRun.sl.H27_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg29 harg29 arg30 arg31 arg32 arg33 harg33 arg34 harg34 x0 x1 x2 x3 x4 x5 x6 x7 x8 x9 x10 x11 x12 x13 x14 x15 x16 x17 x18 x19 x20 x21 x22 x25 xo27 xs3 xs4) := by
  unfold mixRun.sl.H27_7
  congr 1

theorem H8_eq : (mixRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xo27 xs3 xs4).2.1 =
    mx8 (Scalar.andi (Scalar.cmpi .eq (BitVec.ofNat 32 (i 1).val) 0#32) 0#1) arg29 (gw4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (mixRun.sl.H27_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg27 harg27 arg29 harg29 arg30 arg31 arg32 arg33 harg33 arg34 harg34 x0 x1 x2 x3 x4 x5 x6 x7 x8 x9 x10 x11 x12 x13 x14 x15 x16 x17 x18 x19 x20 x21 x22 x25 xo27 xs3 xs4) := by
  dsimp only [mx8, mixRun]
  rw [← H5_eq, ← H6_eq, ← H7_eq]
  congr 1

theorem L27_eq : (mixRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xo27 xs3 xs4).2.1 =
    mx8 (Scalar.andi (Scalar.cmpi .eq (BitVec.ofNat 32 (i 1).val) 0#32) 0#1) arg29 (gw4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4)
      (mx4 (Scalar.andi (Scalar.cmpi .eq (BitVec.ofNat 32 (i 1).val) 0#32) 1#1) arg29 harg29 xo27 (gw0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4) (gw3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4)) := by
  rw [H8_eq, H4_eq]

theorem mxs_one (g prev : Vec F S256x128 .f32) : mxs 1#1 g prev = absf g := by
  unfold mxs; rfl

theorem mx4_first (xo27' : Vec F S1024x128 .f32) (g0 g1 g2 g3 : Vec F S256x128 .f32) :
    mx4 1#1 arg29 harg29 xo27 g0 g1 g2 g3 = mx4 1#1 arg29 harg29 xo27' g0 g1 g2 g3 := by
  unfold mx4; simp only [mxs_one]

theorem first_bit (h : (i 1).val = 0) : Scalar.andi (Scalar.cmpi .eq (BitVec.ofNat 32 (i 1).val) 0#32) 1#1 = 1#1 := by
  rw [h]; rfl

theorem L26_indep (xo27' : Vec F S1024x128 .f32) : (mixRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xo27 xs3 xs4).1 = (mixRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xo27' xs3 xs4).1 := rfl

theorem L27_first (xo27' : Vec F S1024x128 .f32) (h : (i 1).val = 0) : (mixRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xo27 xs3 xs4).2.1 = (mixRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xo27' xs3 xs4).2.1 := by
  rw [L27_eq, L27_eq, first_bit i h, mx4_first _ _ _ xo27']

end Cert.MixerIdeal.Gen
-- ==== Proof.MixFrame.lean ====
/- The frame of the mixer: what its two results' buffers and the two carried masks hold after each point, the proof
   data of the pipeline, the body's triple at a point, the launch. -/
module

public import proofs.«01_k».proof.Proof.MixVal0
public import Idealize.ShloMosaic.Lib.Claim

@[expose] public section

set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at point `t`, over the contents of the running maxima's buffer and of the masks. -/
abbrev runT (c : Dev nD) (t : Fin cfg0.N) (xo : Vec F S1024x128 .f32) (s3 : Vec F S3x1024x128 .f32) (s4 : Vec F S4x256x256 .f32) :=
  mixRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) xo s3 s4

/-- The masks' run at a first point of a batch. -/
abbrev maskT (c : Dev nD) (t : Fin cfg0.N) (h0 : t.val % 32 = 0) :=
  maskRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 23 t) (iblk m c 24 t)

/-- What the first point of a batch leaves in the shift masks. -/
def CM (c : Dev nD) (t : Fin cfg0.N) (h0 : t.val % 32 = 0) : Vec F S3x1024x128 .f32 :=
  VS0_3.read (Elt F) (VS0_3.writes (Elt F) VS0_3.junk (maskT m c t h0).1)

/-- What the first point of a batch leaves in the additive masks. -/
def NM (c : Dev nD) (t : Fin cfg0.N) (h0 : t.val % 32 = 0) : Vec F S4x256x256 .f32 :=
  VS0_4.read (Elt F) (VS0_4.writes (Elt F) VS0_4.junk (maskT m c t h0).2.1)

/-- What point `t` leaves in the gated values' buffer. -/
def out26 (c : Dev nD) (t : Fin cfg0.N) (xo : Vec F S1024x128 .f32) (s3 : Vec F S3x1024x128 .f32) (s4 : Vec F S4x256x256 .f32) : Vec F S1024x256 .f32 :=
  VO0_26.read (Elt F) (VO0_26.writes (Elt F) VO0_26.junk (runT m c t xo s3 s4).1)

/-- What point `t` leaves in the running maxima's buffer. -/
def out27 (c : Dev nD) (t : Fin cfg0.N) (xo : Vec F S1024x128 .f32) (s3 : Vec F S3x1024x128 .f32) (s4 : Vec F S4x256x256 .f32) : Vec F S1024x128 .f32 :=
  VO0_27.read (Elt F) (VO0_27.writes (Elt F) VO0_27.junk (runT m c t xo s3 s4).2.1)

theorem cover26 (c : Dev nD) (t : Fin cfg0.N) (xo : Vec F S1024x128 .f32) (s3 : Vec F S3x1024x128 .f32) (s4 : Vec F S4x256x256 .f32) (y : S1024x256.Idx) :
    ∃ pc ∈ (runT m c t xo s3 s4).1, y ∈ pc.1.set :=
  View.cover_of_tiledL (runT m c t xo s3 s4).1 S256x128.size (by sl_kernel_rfl) y

theorem cover27 (c : Dev nD) (t : Fin cfg0.N) (xo : Vec F S1024x128 .f32) (s3 : Vec F S3x1024x128 .f32) (s4 : Vec F S4x256x256 .f32) (y : S1024x128.Idx) :
    ∃ pc ∈ (runT m c t xo s3 s4).2.1, y ∈ pc.1.set :=
  View.cover_of_tiledBy (runT m c t xo s3 s4).2.1 ![256, 128] (by sl_kernel_rfl) y

theorem coverCM (c : Dev nD) (t : Fin cfg0.N) (h0 : t.val % 32 = 0) (y : S3x1024x128.Idx) :
    ∃ pc ∈ (maskT m c t h0).1, y ∈ pc.1.set :=
  View.cover_of_tiledL (maskT m c t h0).1 S1x1024x128.size (by sl_kernel_rfl) y

theorem coverNM (c : Dev nD) (t : Fin cfg0.N) (h0 : t.val % 32 = 0) (y : S4x256x256.Idx) :
    ∃ pc ∈ (maskT m c t h0).2.1, y ∈ pc.1.set :=
  View.cover_of_tiledL (maskT m c t h0).2.1 S1x256x256.size (by sl_kernel_rfl) y

/-- Contents for a buffer nothing reads. -/
def dflt27 : Vec F S1024x128 .f32 := VO0_27.read (Elt F) VO0_27.junk

theorem coord_first (t : Fin cfg0.N) (h0 : t.val % 32 = 0) : (grid0.coords t 1).val = 0 := by
  have e1 : (grid0.coords t 1).val = t.val / 1 % 32 := Pipeline.Grid.coords_val t 1 (by decide) rfl
  rw [e1, Nat.div_one]; exact h0

theorem out26_first (c : Dev nD) (t : Fin cfg0.N) (h0 : t.val % 32 = 0) (xo xo' : Vec F S1024x128 .f32) :
    out26 m c t xo (CM m c t h0) (NM m c t h0) = out26 m c t xo' (CM m c t h0) (NM m c t h0) :=
  congrArg (fun L => VO0_26.read (Elt F) (VO0_26.writes (Elt F) VO0_26.junk L))
    (L26_indep (c := c) (i := grid0.coords t) (xo27 := xo) (xo27' := xo') ..)

theorem out27_first (c : Dev nD) (t : Fin cfg0.N) (h0 : t.val % 32 = 0) (xo xo' : Vec F S1024x128 .f32) :
    out27 m c t xo (CM m c t h0) (NM m c t h0) = out27 m c t xo' (CM m c t h0) (NM m c t h0) :=
  congrArg (fun L => VO0_27.read (Elt F) (VO0_27.writes (Elt F) VO0_27.junk L))
    (L27_first (c := c) (i := grid0.coords t) (xo27 := xo) (xo27' := xo') (h := coord_first t h0) ..)

/-- What the outputs' buffers and the masks hold after point `n`. -/
def outsAt0 (c : Dev nD) : (n : ℕ) → n < cfg0.N → Vec F S1024x256 .f32 × Vec F S1024x128 .f32 × Vec F S3x1024x128 .f32 × Vec F S4x256x256 .f32
  | 0, hn => (out26 m c ⟨0, hn⟩ dflt27 (CM m c ⟨0, hn⟩ rfl) (NM m c ⟨0, hn⟩ rfl),
      out27 m c ⟨0, hn⟩ dflt27 (CM m c ⟨0, hn⟩ rfl) (NM m c ⟨0, hn⟩ rfl), CM m c ⟨0, hn⟩ rfl, NM m c ⟨0, hn⟩ rfl)
  | n + 1, hn =>
    if h0 : (n + 1) % 32 = 0 then
      (out26 m c ⟨n + 1, hn⟩ dflt27 (CM m c ⟨n + 1, hn⟩ h0) (NM m c ⟨n + 1, hn⟩ h0),
        out27 m c ⟨n + 1, hn⟩ dflt27 (CM m c ⟨n + 1, hn⟩ h0) (NM m c ⟨n + 1, hn⟩ h0), CM m c ⟨n + 1, hn⟩ h0, NM m c ⟨n + 1, hn⟩ h0)
    else
      (out26 m c ⟨n + 1, hn⟩ (outsAt0 c n (Nat.lt_of_succ_lt hn)).2.1 (outsAt0 c n (Nat.lt_of_succ_lt hn)).2.2.1 (outsAt0 c n (Nat.lt_of_succ_lt hn)).2.2.2,
        out27 m c ⟨n + 1, hn⟩ (outsAt0 c n (Nat.lt_of_succ_lt hn)).2.1 (outsAt0 c n (Nat.lt_of_succ_lt hn)).2.2.1 (outsAt0 c n (Nat.lt_of_succ_lt hn)).2.2.2,
        (outsAt0 c n (Nat.lt_of_succ_lt hn)).2.2.1, (outsAt0 c n (Nat.lt_of_succ_lt hn)).2.2.2)

/-- The contents before point `t`, when it is not the first of its batch. -/
abbrev prev (c : Dev nD) (t : Fin cfg0.N) := outsAt0 m c (t.val - 1) (Nat.lt_of_le_of_lt (Nat.sub_le _ _) t.isLt)

theorem outsAt0_A (c : Dev nD) (t : Fin cfg0.N) (h0 : t.val % 32 = 0) :
    outsAt0 m c t.val t.isLt = (out26 m c t dflt27 (CM m c t h0) (NM m c t h0), out27 m c t dflt27 (CM m c t h0) (NM m c t h0),
      CM m c t h0, NM m c t h0) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = (out26 m c t (prev m c t).2.1 (prev m c t).2.2.1 (prev m c t).2.2.2,
      out27 m c t (prev m c t).2.1 (prev m c t).2.2.1 (prev m c t).2.2.2, (prev m c t).2.2.1, (prev m c t).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).2.2.1) ∗ owns (c : Thread nD τ) scM0_4 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => X0_8 m c t
    | ⟨9, _⟩ => X0_9 m c t
    | ⟨10, _⟩ => X0_10 m c t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (outsAt0 m c t.val t.isLt).1
    | ⟨27, _⟩ => (outsAt0 m c t.val t.isLt).2.1
    | ⟨_ + 28, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = (outsAt0 m c t.val t.isLt).1 := by dsimp only [dats]
theorem after0_27 (c : Dev nD) (t : Fin cfg0.N) : (dats m 0 c).after 27 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
/-- At a point of case B output 27's current staging buffer holds what the body left at the point before: the point is
    not the first, the buffer was not written back between (`flush0_27`), the window is live and uncut (Lib/Pipeline/Frame.lean
    `Dat.before_out_kept`). -/
theorem before0_27_B (c : Dev nD) (t : Fin cfg0.N) (h0 : ¬t.val % 32 = 0) (d) :
    (dats m 0 c).before 27 t d = (outsAt0 m c (t.val - 1) (Nat.lt_of_le_of_lt (Nat.sub_le _ _) t.isLt)).2.1 := by
  have hN : t.val < 192 := lt_of_lt_of_eq t.isLt (show cfg0.N = 192 from N_0)
  rw [Dat.before_out_kept _ 27 rfl t (by omega) (Bool.eq_false_iff.mpr fun h => by have := (flush0_27 _).mp h; dsimp only at this; omega)
    (fun _ => rfl) (fun _ _ => rfl)]
  dsimp only [dats]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

/-- After any point but the first the invariant gives the class's back: the masks' contents are forgotten. -/
theorem Phi_out (c : Dev nD) (n : ℕ) (h : n ≤ cfg0.N) (ht : n ≠ 0) : PhiS m c n h ⊢ Pipeline.ΦA spec0 c := by
  rw [PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexact HS2
    isplitl [HS3]
    · iexists _; iexact HS3
    iexists _; iexact HS4
  iexact Hg

theorem Phi_any (c : Dev nD) (n : ℕ) (h : n ≤ cfg0.N) : PhiS m c n h ⊢ Pipeline.ΦA spec0 c := by
  by_cases hz : n = 0
  · rw [PhiS_zero m c n h hz]; try exact Idealize.SL.BI.Entails.refl _
  · exact Phi_out m c n h hz

set_option maxHeartbeats 25600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  rw [show (dats m 0 c).Φ t.succ = PhiS m c (t.val + 1) t.isLt from rfl, PhiS_succ]
  have hN : t.val < 192 := lt_of_lt_of_eq t.isLt (show cfg0.N = 192 from N_0)
  rw [PhiS_castSucc m c t, mixer_split]
  by_cases h0 : t.val % 32 = 0
  · refine (sep_mono_left (Phi_any m c _ _)).trans ?_
    rw [PhiA0_eq, outsAt0_A m c t h0, wp_bind]
    dsimp only
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply (maskT m c t h0).2.2 Set.univ _
    isplitl [H23]; · iexact H23
    isplitl [H24]; · iexact H24
    isplitl [HS3]; · iexact HS3
    isplitl [HS4]; · iexact HS4
    iintro ⟨H23, H24, ⟨%es3, HS3⟩, ⟨%es4, HS4⟩⟩
    iapply ((runT m c t ((dats m 0 c).before 27 t d27) (CM m c t h0) (NM m c t h0)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [H27]; · iexact H27
    isplitl [HS0]; · iexact HS0
    isplitl [HS1]; · iexact HS1
    isplitl [HS2]; · iexact HS2
    isplitl [HS3]
    · unfold owns; iexists _; isplitr
      swap; · iexact HS3
      ipureintro; exact View.read_writes_of_cover _ _ _ _ _ (coverCM m c t h0)
    isplitl [HS4]
    · unfold owns; iexists _; isplitr
      swap; · iexact HS4
      ipureintro; exact View.read_writes_of_cover _ _ _ _ _ (coverNM m c t h0)
    iintro ⟨H0, H1, H2, H3, H4, H5, H6, H7, H8, H9, H10, H11, H12, H13, H14, H15, H16, H17, H18, H19, H20, H21, H22, H23, H24, H25, ⟨%e26, H26⟩, ⟨%e27, H27⟩, ⟨%fT0, HS0⟩, ⟨%fT1, HS1⟩, ⟨%fT2, HS2⟩, HS3, HS4⟩
    isplitl [HS0 HS1 HS2 HS3 HS4 Hg]
    · isplitl [HS0 HS1 HS2 HS3 HS4]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]
    · unfold owns; iexists _; isplitr
      swap; · iexact H26
      ipureintro; rw [out26_first m c t h0 _ ((dats m 0 c).before 27 t d27)]; exact View.read_writes_of_cover _ _ _ _ _ (cover26 m c t _ _ _)
    unfold owns; iexists _; isplitr
    swap; · iexact H27
    ipureintro; rw [out27_first m c t h0 _ ((dats m 0 c).before 27 t d27)]; exact View.read_writes_of_cover _ _ _ _ _ (cover27 m c t _ _ _)
  · have hz : t.val ≠ 0 := fun h => h0 (by rw [h])
    rw [PhiS_pos m c _ _ hz, outsAt0_B m c t h0, masks_skip _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)), pure_bind]
    simp only [before0_27_B m c t h0]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply ((runT m c t (prev m c t).2.1 (prev m c t).2.2.1 (prev m c t).2.2.2).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [H27]; · iexact H27
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, H16, H17, H18, H19, H20, H21, H22, H23, H24, H25, ⟨%e26, H26⟩, ⟨%e27, H27⟩, ⟨%fT0, HS0⟩, ⟨%fT1, HS1⟩, ⟨%fT2, HS2⟩, HS3, HS4⟩
    isplitl [HS0 HS1 HS2 HS3 HS4 Hg]
    · isplitl [HS0 HS1 HS2 HS3 HS4]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]
    · unfold owns; iexists _; isplitr
      swap; · iexact H26
      ipureintro; exact View.read_writes_of_cover _ _ _ _ _ (cover26 m c t _ _ _)
    unfold owns; iexists _; isplitr
    swap; · iexact H27
    ipureintro; exact View.read_writes_of_cover _ _ _ _ _ (cover27 m c t _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 16000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The same after the last point. -/
theorem hout (c : Dev nD) : (dats m 0 c).Φ (Fin.last cfg0.N) ⊢ Pipeline.ΦA spec0 c :=
  Phi_any m c (Fin.last cfg0.N).val (Nat.lt_succ_iff.mp (Fin.last cfg0.N).isLt)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_MixerIdeal`'s statement (Defs.lean) at any `F` — Proof.lean cites it at `Bits`:
    `theorem Cert.Proof.claim : Cert.Claim := ⟨Cert.MixerIdeal.Gen.facts, fun m ρ _ => Cert.MixerIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.MixerIdeal.Gen

end
-- ==== Proof.MixMath.lean ====
/- The mixer of one head over the extended reals, written plainly: the convolution with its masked taps, the gated
   scan over four chunks, the gate and the normalisation. Both programs' values are stated through it. -/
module

public import Idealize.ShloMosaic.Lib.Pointwise

@[expose] public section

noncomputable section

open Idealize.ShloMosaic

namespace Cert.Mix

/-- What one head of one batch is computed from: four projections, the convolution's taps and biases, the row
    weights, the two tables stored by column, the skip weight, the gate's weight, the documents. -/
structure Loc where
  pz : Fin 1024 → Fin 128 → EReal
  px : Fin 1024 → Fin 128 → EReal
  pb : Fin 1024 → Fin 128 → EReal
  pc : Fin 1024 → Fin 128 → EReal
  wx : Fin 4 → Fin 128 → EReal
  wb : Fin 4 → Fin 128 → EReal
  wc : Fin 4 → Fin 128 → EReal
  bx : Fin 128 → EReal
  bb : Fin 128 → EReal
  bc : Fin 128 → EReal
  ac : Fin 1024 → EReal
  dt : Fin 1024 → EReal
  dw : Fin 1024 → EReal
  fp : Fin 1024 → EReal
  ar : Fin 1024 → EReal
  cd : Fin 4 → Fin 128 → EReal
  dk : EReal
  gw : Fin 128 → EReal
  doc : Fin 1024 → BitVec 32

/-- Row `r` of chunk `k`. -/
def row (k : Fin 4) (r : Fin 256) : Fin 1024 := ⟨k.val * 256 + r.val, by omega⟩

/-- `x` times its logistic. -/
def silu (x : EReal) : EReal := x * Ideal.div 1 (1 + Ideal.exp (-x))

/-- The tap `d` rows above row `t`: zero before the first row and across documents. -/
def tap (doc : Fin 1024 → BitVec 32) (p : Fin 1024 → Fin 128 → EReal) (d : ℕ) (t : Fin 1024) (q : Fin 128) : EReal :=
  if d ≤ t.val ∧ doc ⟨t.val - d, by omega⟩ = doc t then p ⟨t.val - d, by omega⟩ q else 0

/-- The convolution of width four, then silu. -/
def conv (doc : Fin 1024 → BitVec 32) (w : Fin 4 → Fin 128 → EReal) (b : Fin 128 → EReal) (p : Fin 1024 → Fin 128 → EReal)
    (t : Fin 1024) (q : Fin 128) : EReal :=
  silu (b q + w 0 q * tap doc p 3 t q + w 1 q * tap doc p 2 t q + w 2 q * tap doc p 1 t q + w 3 q * p t q)

namespace Loc

variable (L : Loc)

def X (t : Fin 1024) (q : Fin 128) : EReal := conv L.doc L.wx L.bx L.px t q
def B (t : Fin 1024) (q : Fin 128) : EReal := conv L.doc L.wb L.bb L.pb t q
def C (t : Fin 1024) (q : Fin 128) : EReal := conv L.doc L.wc L.bc L.pc t q

/-- What chunk `k` adds to the state. -/
def own (k : Fin 4) (n p : Fin 128) : EReal := ∑ l : Fin 256, L.B (row k l) n * (L.X (row k l) p * L.dw (row k l))

/-- The state on entry to chunk `k`. -/
def st : ℕ → Fin 128 → Fin 128 → EReal
  | 0, _, _ => 0
  | k + 1, n, p => st k n p * L.cd (Fin.ofNat 4 k) p + L.own (Fin.ofNat 4 k) n p

/-- The decay from row `s` to row `r` of chunk `k`. -/
def dec (k : Fin 4) (r s : Fin 256) : EReal :=
  Ideal.exp (if L.doc (row k r) = L.doc (row k s) ∧ s ≤ r then L.ac (row k r) - L.ar (row k s) else ⊥)

/-- The scan's value with the skip. -/
def y (k : Fin 4) (r : Fin 256) (p : Fin 128) : EReal :=
  (∑ s : Fin 256, (∑ n : Fin 128, L.C (row k r) n * L.B (row k s) n) * L.dec k r s * (L.X (row k s) p * L.dt (row k s)))
    + (∑ n : Fin 128, L.C (row k r) n * L.st k.val n p) * L.fp (row k r) + L.dk * L.X (row k r) p

/-- The gated value. -/
def g (k : Fin 4) (r : Fin 256) (p : Fin 128) : EReal := L.y k r p * silu (L.pz (row k r) p)

/-- The normalised gated value. -/
def G (k : Fin 4) (r : Fin 256) (p : Fin 128) : EReal :=
  L.g k r p * Ideal.rsqrt (Ideal.div (∑ q : Fin 128, L.g k r q * L.g k r q) (Ideal.ofBits .f32 0x43000000#32)
    + Ideal.ofBits .f32 0x3727C5AC#32) * L.gw p

end Loc

end Cert.Mix
-- ==== Proof.MixVal1.lean ====
/- The projections the mixer leaves in its scratch, read back. -/
module

public import proofs.«01_k».proof.Proof.MixRun
public import proofs.«01_k».proof.Proof.MixMath
public import Idealize.ShloMosaic.Lib.WholeRead
public import Idealize.ShloMosaic.Lib.Pipeline.ValueKit.Tiles

@[expose] public section

set_option maxRecDepth 16384

noncomputable section

namespace Cert.MixerIdeal.Gen

open Idealize.ShloMosaic Idealize.ShloMosaic.TcCoe Idealize.ShloMosaic.Tactic
open Idealize.ShloMosaic.Rounds
open scoped BigOperators

/-- A projection of head `hd` of the pair: the dot of the codes with the weight's row, times the row's and the column's scales. -/
def PJ (x1 : Vec Ideal S1024x7168 .fp8e4m3) (x2 : Vec Ideal S1024x1 .f32) (w : Vec Ideal S256x7168 .fp8e4m3) (s : Vec Ideal S1x256 .f32)
    (hd : Fin 2) (t : Fin 1024) (q : Fin 128) : EReal :=
  (∑ k : Fin 7168, x1 (ix2 t k) * w (ix2 (⟨128 * hd.val + q.val, by omega⟩ : Fin 256) k)) * x2 (ix2 t (0 : Fin 1)) * s (ix2 (0 : Fin 1) (⟨128 * hd.val + q.val, by omega⟩ : Fin 256))

theorem ld2 {n0 n1 m0 m1 : ℕ} {e : EltTy} {k : Kind} {sp : Space} {arg : Memref sig k sp ⟨2, ![n0, n1]⟩ e} (h : arg.IsWhole) (X : (⟨2, ![n0, n1]⟩ : Shape).Idx → Elt Ideal e)
    (a b : ℕ) (inb) (i : Fin m0) (j : Fin m1) (ha : a + m0 ≤ n0) (hb : b + m1 ≤ n1) :
    View.readAt (Elt Ideal) arg.view (Rect.unit (s := ⟨2, ![n0, n1]⟩) ![a, b] ![m0, m1] inb).toLoadRect (h.unread X) (ix2 i j) = X (ix2 (⟨a + i.val, by omega⟩ : Fin n0) (⟨b + j.val, by omega⟩ : Fin n1)) := by
  rw [h.readAt_unread]
  refine congrArg X (funext fun x => Fin.ext ?_)
  refine (Rect.idx_unit_val _ _ inb (ix2 i j) x).trans ?_
  fin_cases x <;> rfl

theorem ld3 {n0 n1 n2 m0 m1 m2 : ℕ} {e : EltTy} {k : Kind} {sp : Space} {arg : Memref sig k sp ⟨3, ![n0, n1, n2]⟩ e} (h : arg.IsWhole) (X : (⟨3, ![n0, n1, n2]⟩ : Shape).Idx → Elt Ideal e)
    (a b d : ℕ) (inb) (i : Fin m0) (j : Fin m1) (l : Fin m2) (ha : a + m0 ≤ n0) (hb : b + m1 ≤ n1) (hd : d + m2 ≤ n2) :
    View.readAt (Elt Ideal) arg.view (Rect.unit (s := ⟨3, ![n0, n1, n2]⟩) ![a, b, d] ![m0, m1, m2] inb).toLoadRect (h.unread X) (ix3 i j l)
      = X (ix3 (⟨a + i.val, by omega⟩ : Fin n0) (⟨b + j.val, by omega⟩ : Fin n1) (⟨d + l.val, by omega⟩ : Fin n2)) := by
  rw [h.readAt_unread]
  refine congrArg X (funext fun x => Fin.ext ?_)
  refine (Rect.idx_unit_val _ _ inb (ix3 i j l) x).trans ?_
  fin_cases x <;> rfl

theorem pay12_at (v3 : Vec Ideal S1024x7168 .fp8e4m3) (v4 : Vec Ideal S1024x1 .f32) (w : Vec Ideal S256x7168 .fp8e4m3) (s : Vec Ideal S1x256 .f32) (t : Fin 1024) (q : Fin 256) :
    k0_pay12 v3 v4 w s (ix2 t q) = (∑ k : Fin 7168, v3 (ix2 t k) * w (ix2 q k)) * v4 (ix2 t (0 : Fin 1)) * s (ix2 (0 : Fin 1) q) := by
  pointwise [k0_pay12]

theorem pay18_eq (v3 : Vec Ideal S1024x7168 .fp8e4m3) (v4 : Vec Ideal S1024x1 .f32) (w : Vec Ideal S256x7168 .fp8e4m3) (s : Vec Ideal S1x256 .f32) :
    k0_pay18 v3 v4 w s = k0_pay12 v3 v4 w s := rfl

theorem pay24_eq (v3 : Vec Ideal S1024x7168 .fp8e4m3) (v4 : Vec Ideal S1024x1 .f32) (w : Vec Ideal S256x7168 .fp8e4m3) (s : Vec Ideal S1x256 .f32) :
    k0_pay24 v3 v4 w s = k0_pay12 v3 v4 w s := rfl

theorem cast0_at (v : FVec Ideal S1024x256 .f32) (z : Fin 1) (t : Fin 1024) (q : Fin 128) :
    shapeCast S1x1024x128 (extractStridedSlice S1024x128 ![0, 0] v slices_S1024x256_o0_0_S1024x128) shapeCasts_S1024x128_S1x1024x128 (ix3 z t q)
      = v (ix2 t (⟨128 * (0 : Fin 2).val + q.val, by simp; omega⟩ : Fin 256)) := by
  pointwise

theorem cast1_at (v : FVec Ideal S1024x256 .f32) (z : Fin 1) (t : Fin 1024) (q : Fin 128) :
    shapeCast S1x1024x128 (extractStridedSlice S1024x128 ![0, 128] v slices_S1024x256_o0_128_S1024x128) shapeCasts_S1024x128_S1x1024x128 (ix3 z t q)
      = v (ix2 t (⟨128 * (1 : Fin 2).val + q.val, by simp; omega⟩ : Fin 256)) := by
  pointwise

theorem pj_at {arg3 : Memref sig .tc .vmem S1024x7168 .fp8e4m3} (harg3 : arg3.IsWhole) {arg4 : Memref sig .tc .vmem S1024x1 .f32} (harg4 : arg4.IsWhole)
    {arg6 : Memref sig .tc .vmem S256x7168 .fp8e4m3} (harg6 : arg6.IsWhole) {arg10 : Memref sig .tc .vmem S1x256 .f32} (harg10 : arg10.IsWhole)
    (x1 : Vec Ideal S1024x7168 .fp8e4m3) (x2 : Vec Ideal S1024x1 .f32) (w : Vec Ideal S256x7168 .fp8e4m3) (s : Vec Ideal S1x256 .f32)
    (i1 i2 i3 i4) (hd : Fin 2) (t : Fin 1024) (q : Fin 128) :
    k0_pay12 (View.readAt (Elt Ideal) arg3.view (Rect.unit (s := S1024x7168) ![0, 0] ![1024, 7168] i1).toLoadRect (harg3.unread x1))
      (View.readAt (Elt Ideal) arg4.view (Rect.unit (s := S1024x1) ![0, 0] ![1024, 1] i2).toLoadRect (harg4.unread x2))
      (View.readAt (Elt Ideal) arg6.view (Rect.unit (s := S256x7168) ![0, 0] ![256, 7168] i3).toLoadRect (harg6.unread w))
      (View.readAt (Elt Ideal) arg10.view (Rect.unit (s := S1x256) ![0, 0] ![1, 256] i4).toLoadRect (harg10.unread s))
      (ix2 t (⟨128 * hd.val + q.val, by omega⟩ : Fin 256)) = PJ x1 x2 w s hd t q := by
  rw [pay12_at]
  unfold PJ
  have e1 : ∀ k : Fin 7168, _ = _ := fun k => ld2 harg3 x1 0 0 i1 t k (by omega) (by omega)
  have e2 := ld2 harg4 x2 0 0 i2 t (0 : Fin 1) (by omega) (by omega)
  have e3 : ∀ k : Fin 7168, _ = _ := fun k => ld2 harg6 w 0 0 i3 (⟨128 * hd.val + q.val, by omega⟩ : Fin 256) k (by omega) (by omega)
  have e4 := ld2 harg10 s 0 0 i4 (0 : Fin 1) (⟨128 * hd.val + q.val, by omega⟩ : Fin 256) (by omega) (by omega)
  simp only [Nat.zero_add, Fin.eta] at e1 e2 e3 e4
  exact congrArg₂ (· * ·) (congrArg₂ (· * ·) (Finset.sum_congr rfl fun k _ => congrArg₂ (· * ·) (e1 k) (e3 k)) e2) e4

theorem zero8 (z : Fin 1) (t : Fin 8) (q : Fin 128) : k0_pay13 (F := Ideal) (ix3 z t q) = 0 := by
  pointwise [k0_pay13]

variable {c : Dev nD} {i : grid0.Coords} {arg2 : Memref sig .tc .smem S64 .f32} {harg2 : arg2.IsWhole} {arg3 : Memref sig .tc .vmem S1024x7168 .fp8e4m3} {harg3 : arg3.IsWhole} {arg4 : Memref sig .tc .vmem S1024x1 .f32} {harg4 : arg4.IsWhole} {arg5 : Memref sig .tc .vmem S256x7168 .fp8e4m3} {harg5 : arg5.IsWhole} {arg6 : Memref sig .tc .vmem S256x7168 .fp8e4m3} {harg6 : arg6.IsWhole} {arg7 : Memref sig .tc .vmem S256x7168 .fp8e4m3} {harg7 : arg7.IsWhole} {arg8 : Memref sig .tc .vmem S256x7168 .fp8e4m3} {harg8 : arg8.IsWhole} {arg9 : Memref sig .tc .vmem S1x256 .f32} {harg9 : arg9.IsWhole} {arg10 : Memref sig .tc .vmem S1x256 .f32} {harg10 : arg10.IsWhole} {arg11 : Memref sig .tc .vmem S1x256 .f32} {harg11 : arg11.IsWhole} {arg12 : Memref sig .tc .vmem S1x256 .f32} {harg12 : arg12.IsWhole} {arg13 : Memref sig .tc .vmem S4x256 .f32} {harg13 : arg13.IsWhole} {arg14 : Memref sig .tc .vmem S4x256 .f32} {harg14 : arg14.IsWhole} {arg15 : Memref sig .tc .vmem S4x256 .f32} {harg15 : arg15.IsWhole} {arg16 : Memref sig .tc .vmem S1x256 .f32} {harg16 : arg16.IsWhole} {arg17 : Memref sig .tc .vmem S1x256 .f32} {harg17 : arg17.IsWhole} {arg18 : Memref sig .tc .vmem S1x256 .f32} {harg18 : arg18.IsWhole} {arg19 : Memref sig .tc .vmem S1024x128 .f32} {harg19 : arg19.IsWhole} {arg20 : Memref sig .tc .vmem S1024x128 .f32} {harg20 : arg20.IsWhole} {arg21 : Memref sig .tc .vmem S1024x128 .f32} {harg21 : arg21.IsWhole} {arg22 : Memref sig .tc .vmem S1024x128 .f32} {harg22 : arg22.IsWhole} {arg23 : Memref sig .tc .vmem S1x2x1024 .f32} {harg23 : arg23.IsWhole} {arg24 : Memref sig .tc .vmem S1x2x512 .f32} {harg24 : arg24.IsWhole} {arg25 : Memref sig .tc .vmem S1024x1 .i32} {harg25 : arg25.IsWhole} {arg26 : Memref sig .tc .vmem S1x1x1024 .i32} {harg26 : arg26.IsWhole} {arg27 : Memref sig .tc .vmem S1x256 .bf16} {harg27 : arg27.IsWhole} {arg28 : Memref sig .tc .vmem S1024x256 .f32} {harg28 : arg28.IsWhole} {arg29 : Memref sig .tc .vmem S1024x128 .f32} {harg29 : arg29.IsWhole} {arg30 : Memref sig .tc .vmem S6x1032x128 .f32} {harg30 : arg30.IsWhole} {arg31 : Memref sig .tc .vmem S6x1024x128 .f32} {harg31 : arg31.IsWhole} {arg32 : Memref sig .tc .vmem S1024x256 .f32} {harg32 : arg32.IsWhole} {arg33 : Memref sig .tc .vmem S3x1024x128 .f32} {harg33 : arg33.IsWhole} {arg34 : Memref sig .tc .vmem S4x256x256 .f32} {harg34 : arg34.IsWhole} {x0 : Vec Ideal S64 .f32} {x1 : Vec Ideal S1024x7168 .fp8e4m3} {x2 : Vec Ideal S1024x1 .f32} {x3 : Vec Ideal S256x7168 .fp8e4m3} {x4 : Vec Ideal S256x7168 .fp8e4m3} {x5 : Vec Ideal S256x7168 .fp8e4m3} {x6 : Vec Ideal S256x7168 .fp8e4m3} {x7 : Vec Ideal S1x256 .f32} {x8 : Vec Ideal S1x256 .f32} {x9 : Vec Ideal S1x256 .f32} {x10 : Vec Ideal S1x256 .f32} {x11 : Vec Ideal S4x256 .f32} {x12 : Vec Ideal S4x256 .f32} {x13 : Vec Ideal S4x256 .f32} {x14 : Vec Ideal S1x256 .f32} {x15 : Vec Ideal S1x256 .f32} {x16 : Vec Ideal S1x256 .f32} {x17 : Vec Ideal S1024x128 .f32} {x18 : Vec Ideal S1024x128 .f32} {x19 : Vec Ideal S1024x128 .f32} {x20 : Vec Ideal S1024x128 .f32} {x21 : Vec Ideal S1x2x1024 .f32} {x22 : Vec Ideal S1x2x512 .f32} {x23 : Vec Ideal S1024x1 .i32} {x24 : Vec Ideal S1x1x1024 .i32} {x25 : Vec Ideal S1x256 .bf16} {xo27 : Vec Ideal S1024x128 .f32} {xs3 : Vec Ideal S3x1024x128 .f32} {xs4 : Vec Ideal S4x256x256 .f32}

theorem coverU (y : S6x1032x128.Idx) : ∃ p ∈ (mixRun.sl.HS0_12 (F := Ideal) c i arg3 harg3 arg4 harg4 arg6 harg6 arg7 harg7 arg8 harg8 arg10 harg10 arg11 harg11 arg12 harg12 x1 x2 x4 x5 x6 x8 x9 x10), y ∈ p.1.set :=
  View.cover_of_tiledBy _ ![1, 8, 128] (by sl_kernel_rfl) y

theorem U0 (off : ℕ) (inb) (z : Fin 1) (r : Fin 256) (q : Fin 128) :
    arg30.view.readCov (mixRun.sl.HS0_12 (F := Ideal) c i arg3 harg3 arg4 harg4 arg6 harg6 arg7 harg7 arg8 harg8 arg10 harg10 arg11 harg11 arg12 harg12 x1 x2 x4 x5 x6 x8 x9 x10) (Rect.unit (s := S6x1032x128) ![0, off, 0] S1x256x128.size inb).toLoadRect (ix3 z r q)
      = if h : 8 ≤ off + r.val then PJ x1 x2 x4 x8 0 ⟨off + r.val - 8, by have : off + 256 ≤ 1032 := inb 1; omega⟩ q else 0 := by
  have hlt : off + 256 ≤ 1032 := inb 1
  rw [View.readCov_eq_canon']
  have e : (Rect.unit (s := S6x1032x128) ![0, off, 0] S1x256x128.size inb).toLoadRect.idx (ix3 z r q) = ix3 (⟨0, by omega⟩ : Fin 6) (⟨off + r.val, by omega⟩ : Fin 1032) q := by
    refine funext fun x => Fin.ext ?_
    refine (Rect.idx_unit_val _ _ inb (ix3 z r q) x).trans ?_
    fin_cases x <;> simp
  show View.canon _ _ = _
  rw [e]
  refine View.canon_eq_of_allAt _ _ _ (coverU _) ?_
  unfold mixRun.sl.HS0_12
  repeat' (first | exact View.allAt_nil _ _ | refine View.allAt_cons_unit _ _ _ _ _ ?_ ?_)
  all_goals
    intro x h
    obtain ⟨x0, x1', x2', rfl⟩ : ∃ x0 x1' x2', x = ix3 x0 x1' x2' := ⟨x 0, x 1, x 2, eq_ix3 x⟩
    have h0 := h 0; have h1 := h 1; have h2 := h 2
    simp at h0 h1 h2
  · have hx := x1'.isLt
    obtain rfl : q = x2' := Fin.ext h2
    rw [dif_pos (by omega)]
    have e1 : x1' = ⟨off + r.val - 8, by omega⟩ := Fin.ext (by dsimp only; omega)
    rw [← e1]
    exact (cast0_at _ _ _ _).trans (pj_at harg3 harg4 harg6 harg10 x1 x2 x4 x8 _ _ _ _ 0 _ _)
  · have hx := x1'.isLt
    rw [dif_neg (by omega)]
    exact zero8 _ _ _

theorem U1 (off : ℕ) (inb) (z : Fin 1) (r : Fin 256) (q : Fin 128) :
    arg30.view.readCov (mixRun.sl.HS0_12 (F := Ideal) c i arg3 harg3 arg4 harg4 arg6 harg6 arg7 harg7 arg8 harg8 arg10 harg10 arg11 harg11 arg12 harg12 x1 x2 x4 x5 x6 x8 x9 x10) (Rect.unit (s := S6x1032x128) ![1, off, 0] S1x256x128.size inb).toLoadRect (ix3 z r q)
      = if h : 8 ≤ off + r.val then PJ x1 x2 x4 x8 1 ⟨off + r.val - 8, by have : off + 256 ≤ 1032 := inb 1; omega⟩ q else 0 := by
  have hlt : off + 256 ≤ 1032 := inb 1
  rw [View.readCov_eq_canon']
  have e : (Rect.unit (s := S6x1032x128) ![1, off, 0] S1x256x128.size inb).toLoadRect.idx (ix3 z r q) = ix3 (⟨1, by omega⟩ : Fin 6) (⟨off + r.val, by omega⟩ : Fin 1032) q := by
    refine funext fun x => Fin.ext ?_
    refine (Rect.idx_unit_val _ _ inb (ix3 z r q) x).trans ?_
    fin_cases x <;> simp
  show View.canon _ _ = _
  rw [e]
  refine View.canon_eq_of_allAt _ _ _ (coverU _) ?_
  unfold mixRun.sl.HS0_12
  repeat' (first | exact View.allAt_nil _ _ | refine View.allAt_cons_unit _ _ _ _ _ ?_ ?_)
  all_goals
    intro x h
    obtain ⟨x0, x1', x2', rfl⟩ : ∃ x0 x1' x2', x = ix3 x0 x1' x2' := ⟨x 0, x 1, x 2, eq_ix3 x⟩
    have h0 := h 0; have h1 := h 1; have h2 := h 2
    simp at h0 h1 h2
  · have hx := x1'.isLt
    obtain rfl : q = x2' := Fin.ext h2
    rw [dif_pos (by omega)]
    have e1 : x1' = ⟨off + r.val - 8, by omega⟩ := Fin.ext (by dsimp only; omega)
    rw [← e1]
    exact (cast1_at _ _ _ _).trans (pj_at harg3 harg4 harg6 harg10 x1 x2 x4 x8 _ _ _ _ 1 _ _)
  · have hx := x1'.isLt
    rw [dif_neg (by omega)]
    exact zero8 _ _ _

theorem U2 (off : ℕ) (inb) (z : Fin 1) (r : Fin 256) (q : Fin 128) :
    arg30.view.readCov (mixRun.sl.HS0_12 (F := Ideal) c i arg3 harg3 arg4 harg4 arg6 harg6 arg7 harg7 arg8 harg8 arg10 harg10 arg11 harg11 arg12 harg12 x1 x2 x4 x5 x6 x8 x9 x10) (Rect.unit (s := S6x1032x128) ![2, off, 0] S1x256x128.size inb).toLoadRect (ix3 z r q)
      = if h : 8 ≤ off + r.val then PJ x1 x2 x5 x9 0 ⟨off + r.val - 8, by have : off + 256 ≤ 1032 := inb 1; omega⟩ q else 0 := by
  have hlt : off + 256 ≤ 1032 := inb 1
  rw [View.readCov_eq_canon']
  have e : (Rect.unit (s := S6x1032x128) ![2, off, 0] S1x256x128.size inb).toLoadRect.idx (ix3 z r q) = ix3 (⟨2, by omega⟩ : Fin 6) (⟨off + r.val, by omega⟩ : Fin 1032) q := by
    refine funext fun x => Fin.ext ?_
    refine (Rect.idx_unit_val _ _ inb (ix3 z r q) x).trans ?_
    fin_cases x <;> simp
  show View.canon _ _ = _
  rw [e]
  refine View.canon_eq_of_allAt _ _ _ (coverU _) ?_
  unfold mixRun.sl.HS0_12
  repeat' (first | exact View.allAt_nil _ _ | refine View.allAt_cons_unit _ _ _ _ _ ?_ ?_)
  all_goals
    intro x h
    obtain ⟨x0, x1', x2', rfl⟩ : ∃ x0 x1' x2', x = ix3 x0 x1' x2' := ⟨x 0, x 1, x 2, eq_ix3 x⟩
    have h0 := h 0; have h1 := h 1; have h2 := h 2
    simp at h0 h1 h2
  · have hx := x1'.isLt
    obtain rfl : q = x2' := Fin.ext h2
    rw [dif_pos (by omega)]
    have e1 : x1' = ⟨off + r.val - 8, by omega⟩ := Fin.ext (by dsimp only; omega)
    rw [← e1]
    exact (cast0_at _ _ _ _).trans (pj_at harg3 harg4 harg7 harg11 x1 x2 x5 x9 _ _ _ _ 0 _ _)
  · have hx := x1'.isLt
    rw [dif_neg (by omega)]
    exact zero8 _ _ _

theorem U3 (off : ℕ) (inb) (z : Fin 1) (r : Fin 256) (q : Fin 128) :
    arg30.view.readCov (mixRun.sl.HS0_12 (F := Ideal) c i arg3 harg3 arg4 harg4 arg6 harg6 arg7 harg7 arg8 harg8 arg10 harg10 arg11 harg11 arg12 harg12 x1 x2 x4 x5 x6 x8 x9 x10) (Rect.unit (s := S6x1032x128) ![3, off, 0] S1x256x128.size inb).toLoadRect (ix3 z r q)
      = if h : 8 ≤ off + r.val then PJ x1 x2 x5 x9 1 ⟨off + r.val - 8, by have : off + 256 ≤ 1032 := inb 1; omega⟩ q else 0 := by
  have hlt : off + 256 ≤ 1032 := inb 1
  rw [View.readCov_eq_canon']
  have e : (Rect.unit (s := S6x1032x128) ![3, off, 0] S1x256x128.size inb).toLoadRect.idx (ix3 z r q) = ix3 (⟨3, by omega⟩ : Fin 6) (⟨off + r.val, by omega⟩ : Fin 1032) q := by
    refine funext fun x => Fin.ext ?_
    refine (Rect.idx_unit_val _ _ inb (ix3 z r q) x).trans ?_
    fin_cases x <;> simp
  show View.canon _ _ = _
  rw [e]
  refine View.canon_eq_of_allAt _ _ _ (coverU _) ?_
  unfold mixRun.sl.HS0_12
  repeat' (first | exact View.allAt_nil _ _ | refine View.allAt_cons_unit _ _ _ _ _ ?_ ?_)
  all_goals
    intro x h
    obtain ⟨x0, x1', x2', rfl⟩ : ∃ x0 x1' x2', x = ix3 x0 x1' x2' := ⟨x 0, x 1, x 2, eq_ix3 x⟩
    have h0 := h 0; have h1 := h 1; have h2 := h 2
    simp at h0 h1 h2
  · have hx := x1'.isLt
    obtain rfl : q = x2' := Fin.ext h2
    rw [dif_pos (by omega)]
    have e1 : x1' = ⟨off + r.val - 8, by omega⟩ := Fin.ext (by dsimp only; omega)
    rw [← e1]
    exact (cast1_at _ _ _ _).trans (pj_at harg3 harg4 harg7 harg11 x1 x2 x5 x9 _ _ _ _ 1 _ _)
  · have hx := x1'.isLt
    rw [dif_neg (by omega)]
    exact zero8 _ _ _

theorem U4 (off : ℕ) (inb) (z : Fin 1) (r : Fin 256) (q : Fin 128) :
    arg30.view.readCov (mixRun.sl.HS0_12 (F := Ideal) c i arg3 harg3 arg4 harg4 arg6 harg6 arg7 harg7 arg8 harg8 arg10 harg10 arg11 harg11 arg12 harg12 x1 x2 x4 x5 x6 x8 x9 x10) (Rect.unit (s := S6x1032x128) ![4, off, 0] S1x256x128.size inb).toLoadRect (ix3 z r q)
      = if h : 8 ≤ off + r.val then PJ x1 x2 x6 x10 0 ⟨off + r.val - 8, by have : off + 256 ≤ 1032 := inb 1; omega⟩ q else 0 := by
  have hlt : off + 256 ≤ 1032 := inb 1
  rw [View.readCov_eq_canon']
  have e : (Rect.unit (s := S6x1032x128) ![4, off, 0] S1x256x128.size inb).toLoadRect.idx (ix3 z r q) = ix3 (⟨4, by omega⟩ : Fin 6) (⟨off + r.val, by omega⟩ : Fin 1032) q := by
    refine funext fun x => Fin.ext ?_
    refine (Rect.idx_unit_val _ _ inb (ix3 z r q) x).trans ?_
    fin_cases x <;> simp
  show View.canon _ _ = _
  rw [e]
  refine View.canon_eq_of_allAt _ _ _ (coverU _) ?_
  unfold mixRun.sl.HS0_12
  repeat' (first | exact View.allAt_nil _ _ | refine View.allAt_cons_unit _ _ _ _ _ ?_ ?_)
  all_goals
    intro x h
    obtain ⟨x0, x1', x2', rfl⟩ : ∃ x0 x1' x2', x = ix3 x0 x1' x2' := ⟨x 0, x 1, x 2, eq_ix3 x⟩
    have h0 := h 0; have h1 := h 1; have h2 := h 2
    simp at h0 h1 h2
  · have hx := x1'.isLt
    obtain rfl : q = x2' := Fin.ext h2
    rw [dif_pos (by omega)]
    have e1 : x1' = ⟨off + r.val - 8, by omega⟩ := Fin.ext (by dsimp only; omega)
    rw [← e1]
    exact (cast0_at _ _ _ _).trans (pj_at harg3 harg4 harg8 harg12 x1 x2 x6 x10 _ _ _ _ 0 _ _)
  · have hx := x1'.isLt
    rw [dif_neg (by omega)]
    exact zero8 _ _ _

theorem U5 (off : ℕ) (inb) (z : Fin 1) (r : Fin 256) (q : Fin 128) :
    arg30.view.readCov (mixRun.sl.HS0_12 (F := Ideal) c i arg3 harg3 arg4 harg4 arg6 harg6 arg7 harg7 arg8 harg8 arg10 harg10 arg11 harg11 arg12 harg12 x1 x2 x4 x5 x6 x8 x9 x10) (Rect.unit (s := S6x1032x128) ![5, off, 0] S1x256x128.size inb).toLoadRect (ix3 z r q)
      = if h : 8 ≤ off + r.val then PJ x1 x2 x6 x10 1 ⟨off + r.val - 8, by have : off + 256 ≤ 1032 := inb 1; omega⟩ q else 0 := by
  have hlt : off + 256 ≤ 1032 := inb 1
  rw [View.readCov_eq_canon']
  have e : (Rect.unit (s := S6x1032x128) ![5, off, 0] S1x256x128.size inb).toLoadRect.idx (ix3 z r q) = ix3 (⟨5, by omega⟩ : Fin 6) (⟨off + r.val, by omega⟩ : Fin 1032) q := by
    refine funext fun x => Fin.ext ?_
    refine (Rect.idx_unit_val _ _ inb (ix3 z r q) x).trans ?_
    fin_cases x <;> simp
  show View.canon _ _ = _
  rw [e]
  refine View.canon_eq_of_allAt _ _ _ (coverU _) ?_
  unfold mixRun.sl.HS0_12
  repeat' (first | exact View.allAt_nil _ _ | refine View.allAt_cons_unit _ _ _ _ _ ?_ ?_)
  all_goals
    intro x h
    obtain ⟨x0, x1', x2', rfl⟩ : ∃ x0 x1' x2', x = ix3 x0 x1' x2' := ⟨x 0, x 1, x 2, eq_ix3 x⟩
    have h0 := h 0; have h1 := h 1; have h2 := h 2
    simp at h0 h1 h2
  · have hx := x1'.isLt
    obtain rfl : q = x2' := Fin.ext h2
    rw [dif_pos (by omega)]
    have e1 : x1' = ⟨off + r.val - 8, by omega⟩ := Fin.ext (by dsimp only; omega)
    rw [← e1]
    exact (cast1_at _ _ _ _).trans (pj_at harg3 harg4 harg8 harg12 x1 x2 x6 x10 _ _ _ _ 1 _ _)
  · have hx := x1'.isLt
    rw [dif_neg (by omega)]
    exact zero8 _ _ _

end Cert.MixerIdeal.Gen
-- ==== Proof.MixVal2.lean ====
/- The convolved heads: each read of a chunk of x, B or C is the convolution with its taps of the projections. -/
module

public import proofs.«01_k».proof.Proof.MixVal1
public import Idealize.ShloMosaic.Lib.Pipeline.ReadBack

@[expose] public section

set_option maxRecDepth 16384

noncomputable section

namespace Cert.MixerIdeal.Gen

open Idealize.ShloMosaic Idealize.ShloMosaic.TcCoe Idealize.ShloMosaic.Tactic
open Idealize.ShloMosaic.Rounds
open scoped BigOperators

/-- A convolution's weights of head `hd` of the pair. -/
def W4 (x : Vec Ideal S4x256 .f32) (hd : Fin 2) (k : Fin 4) (q : Fin 128) : EReal := x (ix2 k (⟨128 * hd.val + q.val, by omega⟩ : Fin 256))

/-- A convolution's bias of head `hd` of the pair. -/
def B1 (x : Vec Ideal S1x256 .f32) (hd : Fin 2) (q : Fin 128) : EReal := x (ix2 (0 : Fin 1) (⟨128 * hd.val + q.val, by omega⟩ : Fin 256))

/-- What the shift masks hold: one where the row `d + 1` above is there and in the same document. -/
def MaskC (doc : Fin 1024 → BitVec 32) (x : Vec Ideal S3x1024x128 .f32) : Prop :=
  ∀ (d : Fin 3) (t : Fin 1024) (q : Fin 128), x (ix3 d t q) = if d.val + 1 ≤ t.val ∧ doc ⟨t.val - (d.val + 1), by omega⟩ = doc t then 1 else 0

theorem tap_at {doc : Fin 1024 → BitVec 32} {x : Vec Ideal S3x1024x128 .f32} (hx : MaskC doc x) (p : Fin 1024 → Fin 128 → EReal)
    (d : ℕ) (k : Fin 4) (off : ℕ) (r : Fin 256) (q : Fin 128) (d' : Fin 3) (t : Fin 1024) (q' : Fin 128) (hd : d'.val + 1 = d) (ht : t.val = k.val * 256 + r.val) (hq : q'.val = q.val)
    (ho : off + d = 8 + k.val * 256) (u : EReal)
    (hu : u = if h : 8 ≤ off + r.val then p ⟨off + r.val - 8, by omega⟩ q else 0) :
    u * x (ix3 d' t q') = Mix.tap doc p d (Mix.row k r) q := by
  obtain rfl : q = q' := Fin.ext hq.symm
  obtain rfl : t = Mix.row k r := Fin.ext ht
  subst hd
  rw [hx, hu]
  unfold Mix.tap
  by_cases h8 : 8 ≤ off + r.val
  · have hle : d'.val + 1 ≤ (Mix.row k r).val := by simp only [Mix.row]; omega
    have he : (⟨off + r.val - 8, by omega⟩ : Fin 1024) = ⟨(Mix.row k r).val - (d'.val + 1), by omega⟩ := Fin.ext (by simp only [Mix.row]; omega)
    rw [dif_pos h8, he]
    split_ifs with hc
    · exact mul_one _
    · exact mul_zero _
  · have hle : ¬ (d'.val + 1 ≤ (Mix.row k r).val) := by simp only [Mix.row]; omega
    rw [dif_neg h8, if_neg (fun hc => hle hc.1), if_neg (fun hc => hle hc.1)]
    exact zero_mul _

theorem p0_at (p : Fin 1024 → Fin 128 → EReal) (k : Fin 4) (off : ℕ) (r : Fin 256) (q : Fin 128) (ho : off = 8 + k.val * 256) (u : EReal)
    (hu : u = if h : 8 ≤ off + r.val then p ⟨off + r.val - 8, by omega⟩ q else 0) : u = p (Mix.row k r) q := by
  rw [hu, dif_pos (by omega)]
  exact congrArg (fun t => p t q) (Fin.ext (by simp only [Mix.row]; omega))

theorem ldW {arg : Memref sig .tc .vmem S4x256 .f32} (h : arg.IsWhole) (x : Vec Ideal S4x256 .f32) (a b : ℕ) (inb) (z : Fin 1) (q : Fin 128) :
    View.readAt (Elt Ideal) arg.view (Rect.unit (s := S4x256) ![a, b] S1x128.size inb).toLoadRect (h.unread x) (ix2 z q)
      = x (ix2 (⟨a + z.val, by have : a + 1 ≤ 4 := inb 0; omega⟩ : Fin 4) (⟨b + q.val, by have : b + 128 ≤ 256 := inb 1; omega⟩ : Fin 256)) :=
  ld2 h x a b inb z q (inb 0) (inb 1)

theorem ldB {e : EltTy} {arg : Memref sig .tc .vmem S1x256 e} (h : arg.IsWhole) (x : S1x256.Idx → Elt Ideal e) (a b : ℕ) (inb) (z : Fin 1) (q : Fin 128) :
    View.readAt (Elt Ideal) arg.view (Rect.unit (s := S1x256) ![a, b] S1x128.size inb).toLoadRect (h.unread x) (ix2 z q)
      = x (ix2 (0 : Fin 1) (⟨b + q.val, by have : b + 128 ≤ 256 := inb 1; omega⟩ : Fin 256)) :=
  (ld2 h x a b inb z q (inb 0) (inb 1)).trans (congrArg (fun t : Fin 1 => x (ix2 t _)) (Subsingleton.elim _ _))

theorem ldM {arg : Memref sig .tc .vmem S3x1024x128 .f32} (h : arg.IsWhole) (x : Vec Ideal S3x1024x128 .f32) (a b d : ℕ) (inb) (z : Fin 1) (r : Fin 256) (q : Fin 128) :
    View.readAt (Elt Ideal) arg.view (Rect.unit (s := S3x1024x128) ![a, b, d] S1x256x128.size inb).toLoadRect (h.unread x) (ix3 z r q)
      = x (ix3 (⟨a + z.val, by have : a + 1 ≤ 3 := inb 0; omega⟩ : Fin 3) (⟨b + r.val, by have : b + 256 ≤ 1024 := inb 1; omega⟩ : Fin 1024) (⟨d + q.val, by have : d + 128 ≤ 128 := inb 2; omega⟩ : Fin 128)) :=
  ld3 h x a b d inb z r q (inb 0) (inb 1) (inb 2)

theorem conv_at {doc : Fin 1024 → BitVec 32} {w : Fin 4 → Fin 128 → EReal} {b : Fin 128 → EReal} {p : Fin 1024 → Fin 128 → EReal} {k : Fin 4} {r : Fin 256} {q : Fin 128}
    {b0 w0 w1 w2 w3 t3 t2 t1 t0 : EReal}
    (hb : b0 = b q) (h0 : w0 = w 0 q) (h1 : w1 = w 1 q) (h2 : w2 = w 2 q) (h3 : w3 = w 3 q)
    (e3 : t3 = Mix.tap doc p 3 (Mix.row k r) q) (e2 : t2 = Mix.tap doc p 2 (Mix.row k r) q) (e1 : t1 = Mix.tap doc p 1 (Mix.row k r) q) (e0 : t0 = p (Mix.row k r) q) :
    Mix.silu (b0 + w0 * t3 + w1 * t2 + w2 * t1 + w3 * t0) = Mix.conv doc w b p (Mix.row k r) q := by
  subst hb h0 h1 h2 h3 e3 e2 e1 e0; rfl

variable {c : Dev nD} {i : grid0.Coords} {arg2 : Memref sig .tc .smem S64 .f32} {harg2 : arg2.IsWhole} {arg3 : Memref sig .tc .vmem S1024x7168 .fp8e4m3} {harg3 : arg3.IsWhole} {arg4 : Memref sig .tc .vmem S1024x1 .f32} {harg4 : arg4.IsWhole} {arg5 : Memref sig .tc .vmem S256x7168 .fp8e4m3} {harg5 : arg5.IsWhole} {arg6 : Memref sig .tc .vmem S256x7168 .fp8e4m3} {harg6 : arg6.IsWhole} {arg7 : Memref sig .tc .vmem S256x7168 .fp8e4m3} {harg7 : arg7.IsWhole} {arg8 : Memref sig .tc .vmem S256x7168 .fp8e4m3} {harg8 : arg8.IsWhole} {arg9 : Memref sig .tc .vmem S1x256 .f32} {harg9 : arg9.IsWhole} {arg10 : Memref sig .tc .vmem S1x256 .f32} {harg10 : arg10.IsWhole} {arg11 : Memref sig .tc .vmem S1x256 .f32} {harg11 : arg11.IsWhole} {arg12 : Memref sig .tc .vmem S1x256 .f32} {harg12 : arg12.IsWhole} {arg13 : Memref sig .tc .vmem S4x256 .f32} {harg13 : arg13.IsWhole} {arg14 : Memref sig .tc .vmem S4x256 .f32} {harg14 : arg14.IsWhole} {arg15 : Memref sig .tc .vmem S4x256 .f32} {harg15 : arg15.IsWhole} {arg16 : Memref sig .tc .vmem S1x256 .f32} {harg16 : arg16.IsWhole} {arg17 : Memref sig .tc .vmem S1x256 .f32} {harg17 : arg17.IsWhole} {arg18 : Memref sig .tc .vmem S1x256 .f32} {harg18 : arg18.IsWhole} {arg19 : Memref sig .tc .vmem S1024x128 .f32} {harg19 : arg19.IsWhole} {arg20 : Memref sig .tc .vmem S1024x128 .f32} {harg20 : arg20.IsWhole} {arg21 : Memref sig .tc .vmem S1024x128 .f32} {harg21 : arg21.IsWhole} {arg22 : Memref sig .tc .vmem S1024x128 .f32} {harg22 : arg22.IsWhole} {arg23 : Memref sig .tc .vmem S1x2x1024 .f32} {harg23 : arg23.IsWhole} {arg24 : Memref sig .tc .vmem S1x2x512 .f32} {harg24 : arg24.IsWhole} {arg25 : Memref sig .tc .vmem S1024x1 .i32} {harg25 : arg25.IsWhole} {arg26 : Memref sig .tc .vmem S1x1x1024 .i32} {harg26 : arg26.IsWhole} {arg27 : Memref sig .tc .vmem S1x256 .bf16} {harg27 : arg27.IsWhole} {arg28 : Memref sig .tc .vmem S1024x256 .f32} {harg28 : arg28.IsWhole} {arg29 : Memref sig .tc .vmem S1024x128 .f32} {harg29 : arg29.IsWhole} {arg30 : Memref sig .tc .vmem S6x1032x128 .f32} {harg30 : arg30.IsWhole} {arg31 : Memref sig .tc .vmem S6x1024x128 .f32} {harg31 : arg31.IsWhole} {arg32 : Memref sig .tc .vmem S1024x256 .f32} {harg32 : arg32.IsWhole} {arg33 : Memref sig .tc .vmem S3x1024x128 .f32} {harg33 : arg33.IsWhole} {arg34 : Memref sig .tc .vmem S4x256x256 .f32} {harg34 : arg34.IsWhole} {x0 : Vec Ideal S64 .f32} {x1 : Vec Ideal S1024x7168 .fp8e4m3} {x2 : Vec Ideal S1024x1 .f32} {x3 : Vec Ideal S256x7168 .fp8e4m3} {x4 : Vec Ideal S256x7168 .fp8e4m3} {x5 : Vec Ideal S256x7168 .fp8e4m3} {x6 : Vec Ideal S256x7168 .fp8e4m3} {x7 : Vec Ideal S1x256 .f32} {x8 : Vec Ideal S1x256 .f32} {x9 : Vec Ideal S1x256 .f32} {x10 : Vec Ideal S1x256 .f32} {x11 : Vec Ideal S4x256 .f32} {x12 : Vec Ideal S4x256 .f32} {x13 : Vec Ideal S4x256 .f32} {x14 : Vec Ideal S1x256 .f32} {x15 : Vec Ideal S1x256 .f32} {x16 : Vec Ideal S1x256 .f32} {x17 : Vec Ideal S1024x128 .f32} {x18 : Vec Ideal S1024x128 .f32} {x19 : Vec Ideal S1024x128 .f32} {x20 : Vec Ideal S1024x128 .f32} {x21 : Vec Ideal S1x2x1024 .f32} {x22 : Vec Ideal S1x2x512 .f32} {x23 : Vec Ideal S1024x1 .i32} {x24 : Vec Ideal S1x1x1024 .i32} {x25 : Vec Ideal S1x256 .bf16} {xo27 : Vec Ideal S1024x128 .f32} {xs3 : Vec Ideal S3x1024x128 .f32} {xs4 : Vec Ideal S4x256x256 .f32}

theorem V0_0 {doc : Fin 1024 → BitVec 32} (hx : MaskC doc xs3) (z : Fin 1) (r : Fin 256) (q : Fin 128) :
    (mixRun.sl.v1080 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x11 0) (B1 x14 0) (PJ x1 x2 x4 x8 0) (Mix.row 0 r) q := by
  unfold mixRun.sl.v1080 mixRun.sl.HS1_24
  simp (disch := decide) only [↓ View.readCov_skip, ↓ View.readCov_cons_toLoadRect]
  simp only [mixRun.sl.r_1, mixRun.sl.r_2]
  pointwise [k0_pay29, k0_pay30, k0_pay31]
  simp only [mixRun.sl.v122, mixRun.sl.v94, mixRun.sl.v104, mixRun.sl.v113, U0, ldM, ldW, ldB]
  refine conv_at (ldB harg16 x14 0 0 _ 0 q) (ldW harg13 x11 0 0 _ 0 q) (ldW harg13 x11 1 0 _ 0 q) (ldW harg13 x11 2 0 _ 0 q) (ldW harg13 x11 3 0 _ 0 q)
    ?_ ?_ ?_ (p0_at (PJ x1 x2 x4 x8 0) 0 8 r q rfl _ (U0 8 _ 0 r q))
  · exact (congrArg₂ (· * ·) (Eq.refl _) (ldM harg33 xs3 2 0 0 _ 0 r q)).trans (tap_at hx (PJ x1 x2 x4 x8 0) 3 0 5 r q _ _ _ rfl rfl (Nat.zero_add _) rfl _ (U0 5 _ 0 r q))
  · exact (congrArg₂ (· * ·) (Eq.refl _) (ldM harg33 xs3 1 0 0 _ 0 r q)).trans (tap_at hx (PJ x1 x2 x4 x8 0) 2 0 6 r q _ _ _ rfl rfl (Nat.zero_add _) rfl _ (U0 6 _ 0 r q))
  · exact (congrArg₂ (· * ·) (Eq.refl _) (ldM harg33 xs3 0 0 0 _ 0 r q)).trans (tap_at hx (PJ x1 x2 x4 x8 0) 1 0 7 r q _ _ _ rfl rfl (Nat.zero_add _) rfl _ (U0 7 _ 0 r q))

theorem V0_1 {doc : Fin 1024 → BitVec 32} (hx : MaskC doc xs3) (z : Fin 1) (r : Fin 256) (q : Fin 128) :
    (mixRun.sl.v1179 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x11 0) (B1 x14 0) (PJ x1 x2 x4 x8 0) (Mix.row 1 r) q := by
  unfold mixRun.sl.v1179 mixRun.sl.HS1_24
  simp (disch := decide) only [↓ View.readCov_skip, ↓ View.readCov_cons_toLoadRect]
  simp only [mixRun.sl.r_3, mixRun.sl.r_4]
  pointwise [k0_pay32, k0_pay33, k0_pay34]
  simp only [mixRun.sl.v163, mixRun.sl.v154, mixRun.sl.v135, mixRun.sl.v145, U0, ldM, ldW, ldB]
  refine conv_at (ldB harg16 x14 0 0 _ 0 q) (ldW harg13 x11 0 0 _ 0 q) (ldW harg13 x11 1 0 _ 0 q) (ldW harg13 x11 2 0 _ 0 q) (ldW harg13 x11 3 0 _ 0 q)
    ?_ ?_ ?_ (p0_at (PJ x1 x2 x4 x8 0) 1 264 r q rfl _ (U0 264 _ 0 r q))
  · exact (congrArg₂ (· * ·) (Eq.refl _) (ldM harg33 xs3 2 256 0 _ 0 r q)).trans (tap_at hx (PJ x1 x2 x4 x8 0) 3 1 261 r q _ _ _ rfl rfl (Nat.zero_add _) rfl _ (U0 261 _ 0 r q))
  · exact (congrArg₂ (· * ·) (Eq.refl _) (ldM harg33 xs3 1 256 0 _ 0 r q)).trans (tap_at hx (PJ x1 x2 x4 x8 0) 2 1 262 r q _ _ _ rfl rfl (Nat.zero_add _) rfl _ (U0 262 _ 0 r q))
  · exact (congrArg₂ (· * ·) (Eq.refl _) (ldM harg33 xs3 0 256 0 _ 0 r q)).trans (tap_at hx (PJ x1 x2 x4 x8 0) 1 1 263 r q _ _ _ rfl rfl (Nat.zero_add _) rfl _ (U0 263 _ 0 r q))

theorem V0_2 {doc : Fin 1024 → BitVec 32} (hx : MaskC doc xs3) (z : Fin 1) (r : Fin 256) (q : Fin 128) :
    (mixRun.sl.v1278 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x11 0) (B1 x14 0) (PJ x1 x2 x4 x8 0) (Mix.row 2 r) q := by
  unfold mixRun.sl.v1278 mixRun.sl.HS1_24
  simp (disch := decide) only [↓ View.readCov_skip, ↓ View.readCov_cons_toLoadRect]
  simp only [mixRun.sl.r_5, mixRun.sl.r_6]
  pointwise [k0_pay35, k0_pay36, k0_pay37]
  simp only [mixRun.sl.v195, mixRun.sl.v204, mixRun.sl.v186, mixRun.sl.v176, U0, ldM, ldW, ldB]
  refine conv_at (ldB harg16 x14 0 0 _ 0 q) (ldW harg13 x11 0 0 _ 0 q) (ldW harg13 x11 1 0 _ 0 q) (ldW harg13 x11 2 0 _ 0 q) (ldW harg13 x11 3 0 _ 0 q)
    ?_ ?_ ?_ (p0_at (PJ x1 x2 x4 x8 0) 2 520 r q rfl _ (U0 520 _ 0 r q))
  · exact (congrArg₂ (· * ·) (Eq.refl _) (ldM harg33 xs3 2 512 0 _ 0 r q)).trans (tap_at hx (PJ x1 x2 x4 x8 0) 3 2 517 r q _ _ _ rfl rfl (Nat.zero_add _) rfl _ (U0 517 _ 0 r q))
  · exact (congrArg₂ (· * ·) (Eq.refl _) (ldM harg33 xs3 1 512 0 _ 0 r q)).trans (tap_at hx (PJ x1 x2 x4 x8 0) 2 2 518 r q _ _ _ rfl rfl (Nat.zero_add _) rfl _ (U0 518 _ 0 r q))
  · exact (congrArg₂ (· * ·) (Eq.refl _) (ldM harg33 xs3 0 512 0 _ 0 r q)).trans (tap_at hx (PJ x1 x2 x4 x8 0) 1 2 519 r q _ _ _ rfl rfl (Nat.zero_add _) rfl _ (U0 519 _ 0 r q))

theorem V0_3 {doc : Fin 1024 → BitVec 32} (hx : MaskC doc xs3) (z : Fin 1) (r : Fin 256) (q : Fin 128) :
    (mixRun.sl.v1377 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x11 0) (B1 x14 0) (PJ x1 x2 x4 x8 0) (Mix.row 3 r) q := by
  unfold mixRun.sl.v1377 mixRun.sl.HS1_24
  simp (disch := decide) only [↓ View.readCov_skip, ↓ View.readCov_cons_toLoadRect]
  simp only [mixRun.sl.r_10, mixRun.sl.r_7, mixRun.sl.r_8, mixRun.sl.r_9]
  pointwise [k0_pay38, k0_pay39, k0_pay40, k0_pay41, k0_pay42]
  simp only [mixRun.sl.v227, mixRun.sl.v236, mixRun.sl.v245, mixRun.sl.v217, U0, ldM, ldW, ldB]
  refine conv_at (ldB harg16 x14 0 0 _ 0 q) (ldW harg13 x11 0 0 _ 0 q) (ldW harg13 x11 1 0 _ 0 q) (ldW harg13 x11 2 0 _ 0 q) (ldW harg13 x11 3 0 _ 0 q)
    ?_ ?_ ?_ (p0_at (PJ x1 x2 x4 x8 0) 3 776 r q rfl _ (U0 776 _ 0 r q))
  · exact (congrArg₂ (· * ·) (Eq.refl _) (ldM harg33 xs3 2 768 0 _ 0 r q)).trans (tap_at hx (PJ x1 x2 x4 x8 0) 3 3 773 r q _ _ _ rfl rfl (Nat.zero_add _) rfl _ (U0 773 _ 0 r q))
  · exact (congrArg₂ (· * ·) (Eq.refl _) (ldM harg33 xs3 1 768 0 _ 0 r q)).trans (tap_at hx (PJ x1 x2 x4 x8 0) 2 3 774 r q _ _ _ rfl rfl (Nat.zero_add _) rfl _ (U0 774 _ 0 r q))
  · exact (congrArg₂ (· * ·) (Eq.refl _) (ldM harg33 xs3 0 768 0 _ 0 r q)).trans (tap_at hx (PJ x1 x2 x4 x8 0) 1 3 775 r q _ _ _ rfl rfl (Nat.zero_add _) rfl _ (U0 775 _ 0 r q))

theorem V1_0 {doc : Fin 1024 → BitVec 32} (hx : MaskC doc xs3) (z : Fin 1) (r : Fin 256) (q : Fin 128) :
    (mixRun.sl.v1464 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x11 1) (B1 x14 1) (PJ x1 x2 x4 x8 1) (Mix.row 0 r) q := by
  unfold mixRun.sl.v1464 mixRun.sl.HS1_24
  simp (disch := decide) only [↓ View.readCov_skip, ↓ View.readCov_cons_toLoadRect]
  simp only [mixRun.sl.r_11]
  pointwise [k0_pay43, k0_pay44]
  simp only [mixRun.sl.v286, mixRun.sl.v258, mixRun.sl.v268, mixRun.sl.v277, U1, ldM, ldW, ldB]
  refine conv_at (ldB harg16 x14 0 128 _ 0 q) (ldW harg13 x11 0 128 _ 0 q) (ldW harg13 x11 1 128 _ 0 q) (ldW harg13 x11 2 128 _ 0 q) (ldW harg13 x11 3 128 _ 0 q)
    ?_ ?_ ?_ (p0_at (PJ x1 x2 x4 x8 1) 0 8 r q rfl _ (U1 8 _ 0 r q))
  · exact (congrArg₂ (· * ·) (Eq.refl _) (ldM harg33 xs3 2 0 0 _ 0 r q)).trans (tap_at hx (PJ x1 x2 x4 x8 1) 3 0 5 r q _ _ _ rfl rfl (Nat.zero_add _) rfl _ (U1 5 _ 0 r q))
  · exact (congrArg₂ (· * ·) (Eq.refl _) (ldM harg33 xs3 1 0 0 _ 0 r q)).trans (tap_at hx (PJ x1 x2 x4 x8 1) 2 0 6 r q _ _ _ rfl rfl (Nat.zero_add _) rfl _ (U1 6 _ 0 r q))
  · exact (congrArg₂ (· * ·) (Eq.refl _) (ldM harg33 xs3 0 0 0 _ 0 r q)).trans (tap_at hx (PJ x1 x2 x4 x8 1) 1 0 7 r q _ _ _ rfl rfl (Nat.zero_add _) rfl _ (U1 7 _ 0 r q))

theorem V1_1 {doc : Fin 1024 → BitVec 32} (hx : MaskC doc xs3) (z : Fin 1) (r : Fin 256) (q : Fin 128) :
    (mixRun.sl.v1563 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x11 1) (B1 x14 1) (PJ x1 x2 x4 x8 1) (Mix.row 1 r) q := by
  unfold mixRun.sl.v1563 mixRun.sl.HS1_24
  simp (disch := decide) only [↓ View.readCov_skip, ↓ View.readCov_cons_toLoadRect]
  simp only [mixRun.sl.r_12]
  pointwise [k0_pay45, k0_pay46]
  simp only [mixRun.sl.v318, mixRun.sl.v327, mixRun.sl.v299, mixRun.sl.v309, U1, ldM, ldW, ldB]
  refine conv_at (ldB harg16 x14 0 128 _ 0 q) (ldW harg13 x11 0 128 _ 0 q) (ldW harg13 x11 1 128 _ 0 q) (ldW harg13 x11 2 128 _ 0 q) (ldW harg13 x11 3 128 _ 0 q)
    ?_ ?_ ?_ (p0_at (PJ x1 x2 x4 x8 1) 1 264 r q rfl _ (U1 264 _ 0 r q))
  · exact (congrArg₂ (· * ·) (Eq.refl _) (ldM harg33 xs3 2 256 0 _ 0 r q)).trans (tap_at hx (PJ x1 x2 x4 x8 1) 3 1 261 r q _ _ _ rfl rfl (Nat.zero_add _) rfl _ (U1 261 _ 0 r q))
  · exact (congrArg₂ (· * ·) (Eq.refl _) (ldM harg33 xs3 1 256 0 _ 0 r q)).trans (tap_at hx (PJ x1 x2 x4 x8 1) 2 1 262 r q _ _ _ rfl rfl (Nat.zero_add _) rfl _ (U1 262 _ 0 r q))
  · exact (congrArg₂ (· * ·) (Eq.refl _) (ldM harg33 xs3 0 256 0 _ 0 r q)).trans (tap_at hx (PJ x1 x2 x4 x8 1) 1 1 263 r q _ _ _ rfl rfl (Nat.zero_add _) rfl _ (U1 263 _ 0 r q))

theorem V1_2 {doc : Fin 1024 → BitVec 32} (hx : MaskC doc xs3) (z : Fin 1) (r : Fin 256) (q : Fin 128) :
    (mixRun.sl.v1662 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x11 1) (B1 x14 1) (PJ x1 x2 x4 x8 1) (Mix.row 2 r) q := by
  unfold mixRun.sl.v1662 mixRun.sl.HS1_24
  simp (disch := decide) only [↓ View.readCov_skip, ↓ View.readCov_cons_toLoadRect]
  simp only [mixRun.sl.r_13]
  pointwise [k0_pay47, k0_pay48]
  simp only [mixRun.sl.v350, mixRun.sl.v359, mixRun.sl.v368, mixRun.sl.v340, U1, ldM, ldW, ldB]
  refine conv_at (ldB harg16 x14 0 128 _ 0 q) (ldW harg13 x11 0 128 _ 0 q) (ldW harg13 x11 1 128 _ 0 q) (ldW harg13 x11 2 128 _ 0 q) (ldW harg13 x11 3 128 _ 0 q)
    ?_ ?_ ?_ (p0_at (PJ x1 x2 x4 x8 1) 2 520 r q rfl _ (U1 520 _ 0 r q))
  · exact (congrArg₂ (· * ·) (Eq.refl _) (ldM harg33 xs3 2 512 0 _ 0 r q)).trans (tap_at hx (PJ x1 x2 x4 x8 1) 3 2 517 r q _ _ _ rfl rfl (Nat.zero_add _) rfl _ (U1 517 _ 0 r q))
  · exact (congrArg₂ (· * ·) (Eq.refl _) (ldM harg33 xs3 1 512 0 _ 0 r q)).trans (tap_at hx (PJ x1 x2 x4 x8 1) 2 2 518 r q _ _ _ rfl rfl (Nat.zero_add _) rfl _ (U1 518 _ 0 r q))
  · exact (congrArg₂ (· * ·) (Eq.refl _) (ldM harg33 xs3 0 512 0 _ 0 r q)).trans (tap_at hx (PJ x1 x2 x4 x8 1) 1 2 519 r q _ _ _ rfl rfl (Nat.zero_add _) rfl _ (U1 519 _ 0 r q))

theorem V1_3 {doc : Fin 1024 → BitVec 32} (hx : MaskC doc xs3) (z : Fin 1) (r : Fin 256) (q : Fin 128) :
    (mixRun.sl.v1761 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x11 1) (B1 x14 1) (PJ x1 x2 x4 x8 1) (Mix.row 3 r) q := by
  unfold mixRun.sl.v1761 mixRun.sl.HS1_24
  simp (disch := decide) only [↓ View.readCov_skip, ↓ View.readCov_cons_toLoadRect]
  simp only [mixRun.sl.r_16, mixRun.sl.r_14, mixRun.sl.r_15]
  pointwise [k0_pay49, k0_pay50, k0_pay51, k0_pay52]
  simp only [mixRun.sl.v391, mixRun.sl.v400, mixRun.sl.v409, mixRun.sl.v381, U1, ldM, ldW, ldB]
  refine conv_at (ldB harg16 x14 0 128 _ 0 q) (ldW harg13 x11 0 128 _ 0 q) (ldW harg13 x11 1 128 _ 0 q) (ldW harg13 x11 2 128 _ 0 q) (ldW harg13 x11 3 128 _ 0 q)
    ?_ ?_ ?_ (p0_at (PJ x1 x2 x4 x8 1) 3 776 r q rfl _ (U1 776 _ 0 r q))
  · exact (congrArg₂ (· * ·) (Eq.refl _) (ldM harg33 xs3 2 768 0 _ 0 r q)).trans (tap_at hx (PJ x1 x2 x4 x8 1) 3 3 773 r q _ _ _ rfl rfl (Nat.zero_add _) rfl _ (U1 773 _ 0 r q))
  · exact (congrArg₂ (· * ·) (Eq.refl _) (ldM harg33 xs3 1 768 0 _ 0 r q)).trans (tap_at hx (PJ x1 x2 x4 x8 1) 2 3 774 r q _ _ _ rfl rfl (Nat.zero_add _) rfl _ (U1 774 _ 0 r q))
  · exact (congrArg₂ (· * ·) (Eq.refl _) (ldM harg33 xs3 0 768 0 _ 0 r q)).trans (tap_at hx (PJ x1 x2 x4 x8 1) 1 3 775 r q _ _ _ rfl rfl (Nat.zero_add _) rfl _ (U1 775 _ 0 r q))

theorem V2_0 {doc : Fin 1024 → BitVec 32} (hx : MaskC doc xs3) (z : Fin 1) (r : Fin 256) (q : Fin 128) :
    (mixRun.sl.v1082 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x12 0) (B1 x15 0) (PJ x1 x2 x5 x9 0) (Mix.row 0 r) q := by
  unfold mixRun.sl.v1082 mixRun.sl.HS1_24
  simp (disch := decide) only [↓ View.readCov_skip, ↓ View.readCov_cons_toLoadRect]
  simp only [mixRun.sl.r_17, mixRun.sl.r_18, mixRun.sl.r_19]
  pointwise [k0_pay53, k0_pay54, k0_pay55, k0_pay56]
  simp only [mixRun.sl.v450, mixRun.sl.v441, mixRun.sl.v422, mixRun.sl.v432, U2, ldM, ldW, ldB]
  refine conv_at (ldB harg17 x15 0 0 _ 0 q) (ldW harg14 x12 0 0 _ 0 q) (ldW harg14 x12 1 0 _ 0 q) (ldW harg14 x12 2 0 _ 0 q) (ldW harg14 x12 3 0 _ 0 q)
    ?_ ?_ ?_ (p0_at (PJ x1 x2 x5 x9 0) 0 8 r q rfl _ (U2 8 _ 0 r q))
  · exact (congrArg₂ (· * ·) (Eq.refl _) (ldM harg33 xs3 2 0 0 _ 0 r q)).trans (tap_at hx (PJ x1 x2 x5 x9 0) 3 0 5 r q _ _ _ rfl rfl (Nat.zero_add _) rfl _ (U2 5 _ 0 r q))
  · exact (congrArg₂ (· * ·) (Eq.refl _) (ldM harg33 xs3 1 0 0 _ 0 r q)).trans (tap_at hx (PJ x1 x2 x5 x9 0) 2 0 6 r q _ _ _ rfl rfl (Nat.zero_add _) rfl _ (U2 6 _ 0 r q))
  · exact (congrArg₂ (· * ·) (Eq.refl _) (ldM harg33 xs3 0 0 0 _ 0 r q)).trans (tap_at hx (PJ x1 x2 x5 x9 0) 1 0 7 r q _ _ _ rfl rfl (Nat.zero_add _) rfl _ (U2 7 _ 0 r q))

theorem V2_1 {doc : Fin 1024 → BitVec 32} (hx : MaskC doc xs3) (z : Fin 1) (r : Fin 256) (q : Fin 128) :
    (mixRun.sl.v1181 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x12 0) (B1 x15 0) (PJ x1 x2 x5 x9 0) (Mix.row 1 r) q := by
  unfold mixRun.sl.v1181 mixRun.sl.HS1_24
  simp (disch := decide) only [↓ View.readCov_skip, ↓ View.readCov_cons_toLoadRect]
  simp only [mixRun.sl.r_20, mixRun.sl.r_21]
  pointwise [k0_pay57, k0_pay58, k0_pay59]
  simp only [mixRun.sl.v482, mixRun.sl.v491, mixRun.sl.v473, mixRun.sl.v463, U2, ldM, ldW, ldB]
  refine conv_at (ldB harg17 x15 0 0 _ 0 q) (ldW harg14 x12 0 0 _ 0 q) (ldW harg14 x12 1 0 _ 0 q) (ldW harg14 x12 2 0 _ 0 q) (ldW harg14 x12 3 0 _ 0 q)
    ?_ ?_ ?_ (p0_at (PJ x1 x2 x5 x9 0) 1 264 r q rfl _ (U2 264 _ 0 r q))
  · exact (congrArg₂ (· * ·) (Eq.refl _) (ldM harg33 xs3 2 256 0 _ 0 r q)).trans (tap_at hx (PJ x1 x2 x5 x9 0) 3 1 261 r q _ _ _ rfl rfl (Nat.zero_add _) rfl _ (U2 261 _ 0 r q))
  · exact (congrArg₂ (· * ·) (Eq.refl _) (ldM harg33 xs3 1 256 0 _ 0 r q)).trans (tap_at hx (PJ x1 x2 x5 x9 0) 2 1 262 r q _ _ _ rfl rfl (Nat.zero_add _) rfl _ (U2 262 _ 0 r q))
  · exact (congrArg₂ (· * ·) (Eq.refl _) (ldM harg33 xs3 0 256 0 _ 0 r q)).trans (tap_at hx (PJ x1 x2 x5 x9 0) 1 1 263 r q _ _ _ rfl rfl (Nat.zero_add _) rfl _ (U2 263 _ 0 r q))

theorem V2_2 {doc : Fin 1024 → BitVec 32} (hx : MaskC doc xs3) (z : Fin 1) (r : Fin 256) (q : Fin 128) :
    (mixRun.sl.v1280 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x12 0) (B1 x15 0) (PJ x1 x2 x5 x9 0) (Mix.row 2 r) q := by
  unfold mixRun.sl.v1280 mixRun.sl.HS1_24
  simp (disch := decide) only [↓ View.readCov_skip, ↓ View.readCov_cons_toLoadRect]
  simp only [mixRun.sl.r_22]
  pointwise [k0_pay60, k0_pay61]
  simp only [mixRun.sl.v514, mixRun.sl.v523, mixRun.sl.v532, mixRun.sl.v504, U2, ldM, ldW, ldB]
  refine conv_at (ldB harg17 x15 0 0 _ 0 q) (ldW harg14 x12 0 0 _ 0 q) (ldW harg14 x12 1 0 _ 0 q) (ldW harg14 x12 2 0 _ 0 q) (ldW harg14 x12 3 0 _ 0 q)
    ?_ ?_ ?_ (p0_at (PJ x1 x2 x5 x9 0) 2 520 r q rfl _ (U2 520 _ 0 r q))
  · exact (congrArg₂ (· * ·) (Eq.refl _) (ldM harg33 xs3 2 512 0 _ 0 r q)).trans (tap_at hx (PJ x1 x2 x5 x9 0) 3 2 517 r q _ _ _ rfl rfl (Nat.zero_add _) rfl _ (U2 517 _ 0 r q))
  · exact (congrArg₂ (· * ·) (Eq.refl _) (ldM harg33 xs3 1 512 0 _ 0 r q)).trans (tap_at hx (PJ x1 x2 x5 x9 0) 2 2 518 r q _ _ _ rfl rfl (Nat.zero_add _) rfl _ (U2 518 _ 0 r q))
  · exact (congrArg₂ (· * ·) (Eq.refl _) (ldM harg33 xs3 0 512 0 _ 0 r q)).trans (tap_at hx (PJ x1 x2 x5 x9 0) 1 2 519 r q _ _ _ rfl rfl (Nat.zero_add _) rfl _ (U2 519 _ 0 r q))

theorem V2_3 {doc : Fin 1024 → BitVec 32} (hx : MaskC doc xs3) (z : Fin 1) (r : Fin 256) (q : Fin 128) :
    (mixRun.sl.v1379 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x12 0) (B1 x15 0) (PJ x1 x2 x5 x9 0) (Mix.row 3 r) q := by
  unfold mixRun.sl.v1379 mixRun.sl.HS1_24
  simp (disch := decide) only [↓ View.readCov_skip, ↓ View.readCov_cons_toLoadRect]
  simp only [mixRun.sl.r_24, mixRun.sl.r_25, mixRun.sl.r_23]
  pointwise [k0_pay62, k0_pay63, k0_pay64, k0_pay65]
  simp only [mixRun.sl.v573, mixRun.sl.v545, mixRun.sl.v555, mixRun.sl.v564, U2, ldM, ldW, ldB]
  refine conv_at (ldB harg17 x15 0 0 _ 0 q) (ldW harg14 x12 0 0 _ 0 q) (ldW harg14 x12 1 0 _ 0 q) (ldW harg14 x12 2 0 _ 0 q) (ldW harg14 x12 3 0 _ 0 q)
    ?_ ?_ ?_ (p0_at (PJ x1 x2 x5 x9 0) 3 776 r q rfl _ (U2 776 _ 0 r q))
  · exact (congrArg₂ (· * ·) (Eq.refl _) (ldM harg33 xs3 2 768 0 _ 0 r q)).trans (tap_at hx (PJ x1 x2 x5 x9 0) 3 3 773 r q _ _ _ rfl rfl (Nat.zero_add _) rfl _ (U2 773 _ 0 r q))
  · exact (congrArg₂ (· * ·) (Eq.refl _) (ldM harg33 xs3 1 768 0 _ 0 r q)).trans (tap_at hx (PJ x1 x2 x5 x9 0) 2 3 774 r q _ _ _ rfl rfl (Nat.zero_add _) rfl _ (U2 774 _ 0 r q))
  · exact (congrArg₂ (· * ·) (Eq.refl _) (ldM harg33 xs3 0 768 0 _ 0 r q)).trans (tap_at hx (PJ x1 x2 x5 x9 0) 1 3 775 r q _ _ _ rfl rfl (Nat.zero_add _) rfl _ (U2 775 _ 0 r q))

theorem V3_0 {doc : Fin 1024 → BitVec 32} (hx : MaskC doc xs3) (z : Fin 1) (r : Fin 256) (q : Fin 128) :
    (mixRun.sl.v1466 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x12 1) (B1 x15 1) (PJ x1 x2 x5 x9 1) (Mix.row 0 r) q := by
  unfold mixRun.sl.v1466 mixRun.sl.HS1_24
  simp (disch := decide) only [↓ View.readCov_skip, ↓ View.readCov_cons_toLoadRect]
  simp only [mixRun.sl.r_26, mixRun.sl.r_27]
  pointwise [k0_pay66, k0_pay67, k0_pay68]
  simp only [mixRun.sl.v614, mixRun.sl.v605, mixRun.sl.v586, mixRun.sl.v596, U3, ldM, ldW, ldB]
  refine conv_at (ldB harg17 x15 0 128 _ 0 q) (ldW harg14 x12 0 128 _ 0 q) (ldW harg14 x12 1 128 _ 0 q) (ldW harg14 x12 2 128 _ 0 q) (ldW harg14 x12 3 128 _ 0 q)
    ?_ ?_ ?_ (p0_at (PJ x1 x2 x5 x9 1) 0 8 r q rfl _ (U3 8 _ 0 r q))
  · exact (congrArg₂ (· * ·) (Eq.refl _) (ldM harg33 xs3 2 0 0 _ 0 r q)).trans (tap_at hx (PJ x1 x2 x5 x9 1) 3 0 5 r q _ _ _ rfl rfl (Nat.zero_add _) rfl _ (U3 5 _ 0 r q))
  · exact (congrArg₂ (· * ·) (Eq.refl _) (ldM harg33 xs3 1 0 0 _ 0 r q)).trans (tap_at hx (PJ x1 x2 x5 x9 1) 2 0 6 r q _ _ _ rfl rfl (Nat.zero_add _) rfl _ (U3 6 _ 0 r q))
  · exact (congrArg₂ (· * ·) (Eq.refl _) (ldM harg33 xs3 0 0 0 _ 0 r q)).trans (tap_at hx (PJ x1 x2 x5 x9 1) 1 0 7 r q _ _ _ rfl rfl (Nat.zero_add _) rfl _ (U3 7 _ 0 r q))

theorem V3_1 {doc : Fin 1024 → BitVec 32} (hx : MaskC doc xs3) (z : Fin 1) (r : Fin 256) (q : Fin 128) :
    (mixRun.sl.v1565 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x12 1) (B1 x15 1) (PJ x1 x2 x5 x9 1) (Mix.row 1 r) q := by
  unfold mixRun.sl.v1565 mixRun.sl.HS1_24
  simp (disch := decide) only [↓ View.readCov_skip, ↓ View.readCov_cons_toLoadRect]
  simp only [mixRun.sl.r_28, mixRun.sl.r_29]
  pointwise [k0_pay69, k0_pay70, k0_pay71]
  simp only [mixRun.sl.v646, mixRun.sl.v655, mixRun.sl.v637, mixRun.sl.v627, U3, ldM, ldW, ldB]
  refine conv_at (ldB harg17 x15 0 128 _ 0 q) (ldW harg14 x12 0 128 _ 0 q) (ldW harg14 x12 1 128 _ 0 q) (ldW harg14 x12 2 128 _ 0 q) (ldW harg14 x12 3 128 _ 0 q)
    ?_ ?_ ?_ (p0_at (PJ x1 x2 x5 x9 1) 1 264 r q rfl _ (U3 264 _ 0 r q))
  · exact (congrArg₂ (· * ·) (Eq.refl _) (ldM harg33 xs3 2 256 0 _ 0 r q)).trans (tap_at hx (PJ x1 x2 x5 x9 1) 3 1 261 r q _ _ _ rfl rfl (Nat.zero_add _) rfl _ (U3 261 _ 0 r q))
  · exact (congrArg₂ (· * ·) (Eq.refl _) (ldM harg33 xs3 1 256 0 _ 0 r q)).trans (tap_at hx (PJ x1 x2 x5 x9 1) 2 1 262 r q _ _ _ rfl rfl (Nat.zero_add _) rfl _ (U3 262 _ 0 r q))
  · exact (congrArg₂ (· * ·) (Eq.refl _) (ldM harg33 xs3 0 256 0 _ 0 r q)).trans (tap_at hx (PJ x1 x2 x5 x9 1) 1 1 263 r q _ _ _ rfl rfl (Nat.zero_add _) rfl _ (U3 263 _ 0 r q))

theorem V3_2 {doc : Fin 1024 → BitVec 32} (hx : MaskC doc xs3) (z : Fin 1) (r : Fin 256) (q : Fin 128) :
    (mixRun.sl.v1664 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x12 1) (B1 x15 1) (PJ x1 x2 x5 x9 1) (Mix.row 2 r) q := by
  unfold mixRun.sl.v1664 mixRun.sl.HS1_24
  simp (disch := decide) only [↓ View.readCov_skip, ↓ View.readCov_cons_toLoadRect]
  simp only [mixRun.sl.r_30, mixRun.sl.r_31, mixRun.sl.r_32]
  pointwise [k0_pay72, k0_pay73, k0_pay74]
  simp only [mixRun.sl.v678, mixRun.sl.v687, mixRun.sl.v696, mixRun.sl.v668, U3, ldM, ldW, ldB]
  refine conv_at (ldB harg17 x15 0 128 _ 0 q) (ldW harg14 x12 0 128 _ 0 q) (ldW harg14 x12 1 128 _ 0 q) (ldW harg14 x12 2 128 _ 0 q) (ldW harg14 x12 3 128 _ 0 q)
    ?_ ?_ ?_ (p0_at (PJ x1 x2 x5 x9 1) 2 520 r q rfl _ (U3 520 _ 0 r q))
  · exact (congrArg₂ (· * ·) (Eq.refl _) (ldM harg33 xs3 2 512 0 _ 0 r q)).trans (tap_at hx (PJ x1 x2 x5 x9 1) 3 2 517 r q _ _ _ rfl rfl (Nat.zero_add _) rfl _ (U3 517 _ 0 r q))
  · exact (congrArg₂ (· * ·) (Eq.refl _) (ldM harg33 xs3 1 512 0 _ 0 r q)).trans (tap_at hx (PJ x1 x2 x5 x9 1) 2 2 518 r q _ _ _ rfl rfl (Nat.zero_add _) rfl _ (U3 518 _ 0 r q))
  · exact (congrArg₂ (· * ·) (Eq.refl _) (ldM harg33 xs3 0 512 0 _ 0 r q)).trans (tap_at hx (PJ x1 x2 x5 x9 1) 1 2 519 r q _ _ _ rfl rfl (Nat.zero_add _) rfl _ (U3 519 _ 0 r q))

theorem V3_3 {doc : Fin 1024 → BitVec 32} (hx : MaskC doc xs3) (z : Fin 1) (r : Fin 256) (q : Fin 128) :
    (mixRun.sl.v1763 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x12 1) (B1 x15 1) (PJ x1 x2 x5 x9 1) (Mix.row 3 r) q := by
  unfold mixRun.sl.v1763 mixRun.sl.HS1_24
  simp (disch := decide) only [↓ View.readCov_skip, ↓ View.readCov_cons_toLoadRect]
  simp only [mixRun.sl.r_33, mixRun.sl.r_34]
  pointwise [k0_pay75, k0_pay76, k0_pay77]
  simp only [mixRun.sl.v737, mixRun.sl.v709, mixRun.sl.v719, mixRun.sl.v728, U3, ldM, ldW, ldB]
  refine conv_at (ldB harg17 x15 0 128 _ 0 q) (ldW harg14 x12 0 128 _ 0 q) (ldW harg14 x12 1 128 _ 0 q) (ldW harg14 x12 2 128 _ 0 q) (ldW harg14 x12 3 128 _ 0 q)
    ?_ ?_ ?_ (p0_at (PJ x1 x2 x5 x9 1) 3 776 r q rfl _ (U3 776 _ 0 r q))
  · exact (congrArg₂ (· * ·) (Eq.refl _) (ldM harg33 xs3 2 768 0 _ 0 r q)).trans (tap_at hx (PJ x1 x2 x5 x9 1) 3 3 773 r q _ _ _ rfl rfl (Nat.zero_add _) rfl _ (U3 773 _ 0 r q))
  · exact (congrArg₂ (· * ·) (Eq.refl _) (ldM harg33 xs3 1 768 0 _ 0 r q)).trans (tap_at hx (PJ x1 x2 x5 x9 1) 2 3 774 r q _ _ _ rfl rfl (Nat.zero_add _) rfl _ (U3 774 _ 0 r q))
  · exact (congrArg₂ (· * ·) (Eq.refl _) (ldM harg33 xs3 0 768 0 _ 0 r q)).trans (tap_at hx (PJ x1 x2 x5 x9 1) 1 3 775 r q _ _ _ rfl rfl (Nat.zero_add _) rfl _ (U3 775 _ 0 r q))

theorem V4_0 {doc : Fin 1024 → BitVec 32} (hx : MaskC doc xs3) (z : Fin 1) (r : Fin 256) (q : Fin 128) :
    (mixRun.sl.v1084 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x13 0) (B1 x16 0) (PJ x1 x2 x6 x10 0) (Mix.row 0 r) q := by
  unfold mixRun.sl.v1084 mixRun.sl.HS1_24
  simp (disch := decide) only [↓ View.readCov_skip, ↓ View.readCov_cons_toLoadRect]
  simp only [mixRun.sl.r_35, mixRun.sl.r_36]
  pointwise [k0_pay78, k0_pay79, k0_pay80]
  simp only [mixRun.sl.v778, mixRun.sl.v769, mixRun.sl.v750, mixRun.sl.v760, U4, ldM, ldW, ldB]
  refine conv_at (ldB harg18 x16 0 0 _ 0 q) (ldW harg15 x13 0 0 _ 0 q) (ldW harg15 x13 1 0 _ 0 q) (ldW harg15 x13 2 0 _ 0 q) (ldW harg15 x13 3 0 _ 0 q)
    ?_ ?_ ?_ (p0_at (PJ x1 x2 x6 x10 0) 0 8 r q rfl _ (U4 8 _ 0 r q))
  · exact (congrArg₂ (· * ·) (Eq.refl _) (ldM harg33 xs3 2 0 0 _ 0 r q)).trans (tap_at hx (PJ x1 x2 x6 x10 0) 3 0 5 r q _ _ _ rfl rfl (Nat.zero_add _) rfl _ (U4 5 _ 0 r q))
  · exact (congrArg₂ (· * ·) (Eq.refl _) (ldM harg33 xs3 1 0 0 _ 0 r q)).trans (tap_at hx (PJ x1 x2 x6 x10 0) 2 0 6 r q _ _ _ rfl rfl (Nat.zero_add _) rfl _ (U4 6 _ 0 r q))
  · exact (congrArg₂ (· * ·) (Eq.refl _) (ldM harg33 xs3 0 0 0 _ 0 r q)).trans (tap_at hx (PJ x1 x2 x6 x10 0) 1 0 7 r q _ _ _ rfl rfl (Nat.zero_add _) rfl _ (U4 7 _ 0 r q))

theorem V4_1 {doc : Fin 1024 → BitVec 32} (hx : MaskC doc xs3) (z : Fin 1) (r : Fin 256) (q : Fin 128) :
    (mixRun.sl.v1183 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x13 0) (B1 x16 0) (PJ x1 x2 x6 x10 0) (Mix.row 1 r) q := by
  unfold mixRun.sl.v1183 mixRun.sl.HS1_24
  simp (disch := decide) only [↓ View.readCov_skip, ↓ View.readCov_cons_toLoadRect]
  simp only [mixRun.sl.r_37, mixRun.sl.r_38]
  pointwise [k0_pay81, k0_pay82, k0_pay83]
  simp only [mixRun.sl.v810, mixRun.sl.v819, mixRun.sl.v801, mixRun.sl.v791, U4, ldM, ldW, ldB]
  refine conv_at (ldB harg18 x16 0 0 _ 0 q) (ldW harg15 x13 0 0 _ 0 q) (ldW harg15 x13 1 0 _ 0 q) (ldW harg15 x13 2 0 _ 0 q) (ldW harg15 x13 3 0 _ 0 q)
    ?_ ?_ ?_ (p0_at (PJ x1 x2 x6 x10 0) 1 264 r q rfl _ (U4 264 _ 0 r q))
  · exact (congrArg₂ (· * ·) (Eq.refl _) (ldM harg33 xs3 2 256 0 _ 0 r q)).trans (tap_at hx (PJ x1 x2 x6 x10 0) 3 1 261 r q _ _ _ rfl rfl (Nat.zero_add _) rfl _ (U4 261 _ 0 r q))
  · exact (congrArg₂ (· * ·) (Eq.refl _) (ldM harg33 xs3 1 256 0 _ 0 r q)).trans (tap_at hx (PJ x1 x2 x6 x10 0) 2 1 262 r q _ _ _ rfl rfl (Nat.zero_add _) rfl _ (U4 262 _ 0 r q))
  · exact (congrArg₂ (· * ·) (Eq.refl _) (ldM harg33 xs3 0 256 0 _ 0 r q)).trans (tap_at hx (PJ x1 x2 x6 x10 0) 1 1 263 r q _ _ _ rfl rfl (Nat.zero_add _) rfl _ (U4 263 _ 0 r q))

theorem V4_2 {doc : Fin 1024 → BitVec 32} (hx : MaskC doc xs3) (z : Fin 1) (r : Fin 256) (q : Fin 128) :
    (mixRun.sl.v1282 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x13 0) (B1 x16 0) (PJ x1 x2 x6 x10 0) (Mix.row 2 r) q := by
  unfold mixRun.sl.v1282 mixRun.sl.HS1_24
  simp (disch := decide) only [↓ View.readCov_skip, ↓ View.readCov_cons_toLoadRect]
  simp only [mixRun.sl.r_42, mixRun.sl.r_39, mixRun.sl.r_40, mixRun.sl.r_41]
  pointwise [k0_pay84, k0_pay85, k0_pay86, k0_pay87, k0_pay88]
  simp only [mixRun.sl.v842, mixRun.sl.v851, mixRun.sl.v860, mixRun.sl.v832, U4, ldM, ldW, ldB]
  refine conv_at (ldB harg18 x16 0 0 _ 0 q) (ldW harg15 x13 0 0 _ 0 q) (ldW harg15 x13 1 0 _ 0 q) (ldW harg15 x13 2 0 _ 0 q) (ldW harg15 x13 3 0 _ 0 q)
    ?_ ?_ ?_ (p0_at (PJ x1 x2 x6 x10 0) 2 520 r q rfl _ (U4 520 _ 0 r q))
  · exact (congrArg₂ (· * ·) (Eq.refl _) (ldM harg33 xs3 2 512 0 _ 0 r q)).trans (tap_at hx (PJ x1 x2 x6 x10 0) 3 2 517 r q _ _ _ rfl rfl (Nat.zero_add _) rfl _ (U4 517 _ 0 r q))
  · exact (congrArg₂ (· * ·) (Eq.refl _) (ldM harg33 xs3 1 512 0 _ 0 r q)).trans (tap_at hx (PJ x1 x2 x6 x10 0) 2 2 518 r q _ _ _ rfl rfl (Nat.zero_add _) rfl _ (U4 518 _ 0 r q))
  · exact (congrArg₂ (· * ·) (Eq.refl _) (ldM harg33 xs3 0 512 0 _ 0 r q)).trans (tap_at hx (PJ x1 x2 x6 x10 0) 1 2 519 r q _ _ _ rfl rfl (Nat.zero_add _) rfl _ (U4 519 _ 0 r q))

theorem V4_3 {doc : Fin 1024 → BitVec 32} (hx : MaskC doc xs3) (z : Fin 1) (r : Fin 256) (q : Fin 128) :
    (mixRun.sl.v1381 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x13 0) (B1 x16 0) (PJ x1 x2 x6 x10 0) (Mix.row 3 r) q := by
  unfold mixRun.sl.v1381 mixRun.sl.HS1_24
  simp (disch := decide) only [↓ View.readCov_skip, ↓ View.readCov_cons_toLoadRect]
  simp only [mixRun.sl.r_43]
  pointwise [k0_pay89, k0_pay90]
  simp only [mixRun.sl.v901, mixRun.sl.v873, mixRun.sl.v883, mixRun.sl.v892, U4, ldM, ldW, ldB]
  refine conv_at (ldB harg18 x16 0 0 _ 0 q) (ldW harg15 x13 0 0 _ 0 q) (ldW harg15 x13 1 0 _ 0 q) (ldW harg15 x13 2 0 _ 0 q) (ldW harg15 x13 3 0 _ 0 q)
    ?_ ?_ ?_ (p0_at (PJ x1 x2 x6 x10 0) 3 776 r q rfl _ (U4 776 _ 0 r q))
  · exact (congrArg₂ (· * ·) (Eq.refl _) (ldM harg33 xs3 2 768 0 _ 0 r q)).trans (tap_at hx (PJ x1 x2 x6 x10 0) 3 3 773 r q _ _ _ rfl rfl (Nat.zero_add _) rfl _ (U4 773 _ 0 r q))
  · exact (congrArg₂ (· * ·) (Eq.refl _) (ldM harg33 xs3 1 768 0 _ 0 r q)).trans (tap_at hx (PJ x1 x2 x6 x10 0) 2 3 774 r q _ _ _ rfl rfl (Nat.zero_add _) rfl _ (U4 774 _ 0 r q))
  · exact (congrArg₂ (· * ·) (Eq.refl _) (ldM harg33 xs3 0 768 0 _ 0 r q)).trans (tap_at hx (PJ x1 x2 x6 x10 0) 1 3 775 r q _ _ _ rfl rfl (Nat.zero_add _) rfl _ (U4 775 _ 0 r q))

theorem V5_0 {doc : Fin 1024 → BitVec 32} (hx : MaskC doc xs3) (z : Fin 1) (r : Fin 256) (q : Fin 128) :
    (mixRun.sl.v1468 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x13 1) (B1 x16 1) (PJ x1 x2 x6 x10 1) (Mix.row 0 r) q := by
  unfold mixRun.sl.v1468 mixRun.sl.HS1_24
  simp (disch := decide) only [↓ View.readCov_skip, ↓ View.readCov_cons_toLoadRect]
  simp only [mixRun.sl.r_44]
  pointwise [k0_pay91, k0_pay92]
  simp only [mixRun.sl.v933, mixRun.sl.v942, mixRun.sl.v914, mixRun.sl.v924, U5, ldM, ldW, ldB]
  refine conv_at (ldB harg18 x16 0 128 _ 0 q) (ldW harg15 x13 0 128 _ 0 q) (ldW harg15 x13 1 128 _ 0 q) (ldW harg15 x13 2 128 _ 0 q) (ldW harg15 x13 3 128 _ 0 q)
    ?_ ?_ ?_ (p0_at (PJ x1 x2 x6 x10 1) 0 8 r q rfl _ (U5 8 _ 0 r q))
  · exact (congrArg₂ (· * ·) (Eq.refl _) (ldM harg33 xs3 2 0 0 _ 0 r q)).trans (tap_at hx (PJ x1 x2 x6 x10 1) 3 0 5 r q _ _ _ rfl rfl (Nat.zero_add _) rfl _ (U5 5 _ 0 r q))
  · exact (congrArg₂ (· * ·) (Eq.refl _) (ldM harg33 xs3 1 0 0 _ 0 r q)).trans (tap_at hx (PJ x1 x2 x6 x10 1) 2 0 6 r q _ _ _ rfl rfl (Nat.zero_add _) rfl _ (U5 6 _ 0 r q))
  · exact (congrArg₂ (· * ·) (Eq.refl _) (ldM harg33 xs3 0 0 0 _ 0 r q)).trans (tap_at hx (PJ x1 x2 x6 x10 1) 1 0 7 r q _ _ _ rfl rfl (Nat.zero_add _) rfl _ (U5 7 _ 0 r q))

theorem V5_1 {doc : Fin 1024 → BitVec 32} (hx : MaskC doc xs3) (z : Fin 1) (r : Fin 256) (q : Fin 128) :
    (mixRun.sl.v1567 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x13 1) (B1 x16 1) (PJ x1 x2 x6 x10 1) (Mix.row 1 r) q := by
  unfold mixRun.sl.v1567 mixRun.sl.HS1_24
  simp (disch := decide) only [↓ View.readCov_skip, ↓ View.readCov_cons_toLoadRect]
  simp only [mixRun.sl.r_45]
  pointwise [k0_pay93, k0_pay94]
  simp only [mixRun.sl.v965, mixRun.sl.v974, mixRun.sl.v983, mixRun.sl.v955, U5, ldM, ldW, ldB]
  refine conv_at (ldB harg18 x16 0 128 _ 0 q) (ldW harg15 x13 0 128 _ 0 q) (ldW harg15 x13 1 128 _ 0 q) (ldW harg15 x13 2 128 _ 0 q) (ldW harg15 x13 3 128 _ 0 q)
    ?_ ?_ ?_ (p0_at (PJ x1 x2 x6 x10 1) 1 264 r q rfl _ (U5 264 _ 0 r q))
  · exact (congrArg₂ (· * ·) (Eq.refl _) (ldM harg33 xs3 2 256 0 _ 0 r q)).trans (tap_at hx (PJ x1 x2 x6 x10 1) 3 1 261 r q _ _ _ rfl rfl (Nat.zero_add _) rfl _ (U5 261 _ 0 r q))
  · exact (congrArg₂ (· * ·) (Eq.refl _) (ldM harg33 xs3 1 256 0 _ 0 r q)).trans (tap_at hx (PJ x1 x2 x6 x10 1) 2 1 262 r q _ _ _ rfl rfl (Nat.zero_add _) rfl _ (U5 262 _ 0 r q))
  · exact (congrArg₂ (· * ·) (Eq.refl _) (ldM harg33 xs3 0 256 0 _ 0 r q)).trans (tap_at hx (PJ x1 x2 x6 x10 1) 1 1 263 r q _ _ _ rfl rfl (Nat.zero_add _) rfl _ (U5 263 _ 0 r q))

theorem V5_2 {doc : Fin 1024 → BitVec 32} (hx : MaskC doc xs3) (z : Fin 1) (r : Fin 256) (q : Fin 128) :
    (mixRun.sl.v1666 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x13 1) (B1 x16 1) (PJ x1 x2 x6 x10 1) (Mix.row 2 r) q := by
  unfold mixRun.sl.v1666 mixRun.sl.HS1_24
  simp (disch := decide) only [↓ View.readCov_skip, ↓ View.readCov_cons_toLoadRect]
  simp only [mixRun.sl.r_48, mixRun.sl.r_46, mixRun.sl.r_47]
  pointwise [k0_pay95, k0_pay96, k0_pay97, k0_pay98]
  simp only [mixRun.sl.v1006, mixRun.sl.v1015, mixRun.sl.v1024, mixRun.sl.v996, U5, ldM, ldW, ldB]
  refine conv_at (ldB harg18 x16 0 128 _ 0 q) (ldW harg15 x13 0 128 _ 0 q) (ldW harg15 x13 1 128 _ 0 q) (ldW harg15 x13 2 128 _ 0 q) (ldW harg15 x13 3 128 _ 0 q)
    ?_ ?_ ?_ (p0_at (PJ x1 x2 x6 x10 1) 2 520 r q rfl _ (U5 520 _ 0 r q))
  · exact (congrArg₂ (· * ·) (Eq.refl _) (ldM harg33 xs3 2 512 0 _ 0 r q)).trans (tap_at hx (PJ x1 x2 x6 x10 1) 3 2 517 r q _ _ _ rfl rfl (Nat.zero_add _) rfl _ (U5 517 _ 0 r q))
  · exact (congrArg₂ (· * ·) (Eq.refl _) (ldM harg33 xs3 1 512 0 _ 0 r q)).trans (tap_at hx (PJ x1 x2 x6 x10 1) 2 2 518 r q _ _ _ rfl rfl (Nat.zero_add _) rfl _ (U5 518 _ 0 r q))
  · exact (congrArg₂ (· * ·) (Eq.refl _) (ldM harg33 xs3 0 512 0 _ 0 r q)).trans (tap_at hx (PJ x1 x2 x6 x10 1) 1 2 519 r q _ _ _ rfl rfl (Nat.zero_add _) rfl _ (U5 519 _ 0 r q))

theorem V5_3 {doc : Fin 1024 → BitVec 32} (hx : MaskC doc xs3) (z : Fin 1) (r : Fin 256) (q : Fin 128) :
    (mixRun.sl.v1765 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg30 arg31 arg33 harg33 x1 x2 x4 x5 x6 x8 x9 x10 x11 x12 x13 x14 x15 x16 xs3) (ix3 z r q)
      = Mix.conv doc (W4 x13 1) (B1 x16 1) (PJ x1 x2 x6 x10 1) (Mix.row 3 r) q := by
  unfold mixRun.sl.v1765 mixRun.sl.HS1_24
  simp (disch := decide) only [↓ View.readCov_skip, ↓ View.readCov_cons_toLoadRect]
  simp only [mixRun.sl.r_49, mixRun.sl.r_50, mixRun.sl.r_51]
  pointwise [k0_pay100, k0_pay101, k0_pay102, k0_pay99]
  simp only [mixRun.sl.v1065, mixRun.sl.v1056, mixRun.sl.v1037, mixRun.sl.v1047, U5, ldM, ldW, ldB]
  refine conv_at (ldB harg18 x16 0 128 _ 0 q) (ldW harg15 x13 0 128 _ 0 q) (ldW harg15 x13 1 128 _ 0 q) (ldW harg15 x13 2 128 _ 0 q) (ldW harg15 x13 3 128 _ 0 q)
    ?_ ?_ ?_ (p0_at (PJ x1 x2 x6 x10 1) 3 776 r q rfl _ (U5 776 _ 0 r q))
  · exact (congrArg₂ (· * ·) (Eq.refl _) (ldM harg33 xs3 2 768 0 _ 0 r q)).trans (tap_at hx (PJ x1 x2 x6 x10 1) 3 3 773 r q _ _ _ rfl rfl (Nat.zero_add _) rfl _ (U5 773 _ 0 r q))
  · exact (congrArg₂ (· * ·) (Eq.refl _) (ldM harg33 xs3 1 768 0 _ 0 r q)).trans (tap_at hx (PJ x1 x2 x6 x10 1) 2 3 774 r q _ _ _ rfl rfl (Nat.zero_add _) rfl _ (U5 774 _ 0 r q))
  · exact (congrArg₂ (· * ·) (Eq.refl _) (ldM harg33 xs3 0 768 0 _ 0 r q)).trans (tap_at hx (PJ x1 x2 x6 x10 1) 1 3 775 r q _ _ _ rfl rfl (Nat.zero_add _) rfl _ (U5 775 _ 0 r q))

end Cert.MixerIdeal.Gen
-- ==== Proof.MixVal3.lean ====
/- The gate read back, the state after each chunk, and the words each chunk is computed from. -/
module

public import proofs.«01_k».proof.Proof.MixVal2
public import proofs.«01_k».proof.Proof.MixVal0

@[expose] public section

set_option maxRecDepth 16384

noncomputable section

namespace Cert.MixerIdeal.Gen

open Idealize.ShloMosaic Idealize.ShloMosaic.TcCoe Idealize.ShloMosaic.Tactic
open Idealize.ShloMosaic.Rounds
open scoped BigOperators

open Cert.Mix (row)

/-- The scan's value without the skip. -/
def ys (L : Mix.Loc) (k : Fin 4) (r : Fin 256) (p : Fin 128) : EReal :=
  (∑ s : Fin 256, (∑ n : Fin 128, L.C (row k r) n * L.B (row k s) n) * L.dec k r s * (L.X (row k s) p * L.dt (row k s)))
    + (∑ n : Fin 128, L.C (row k r) n * L.st k.val n p) * L.fp (row k r)

theorem sum_halves (f : Fin 256 → EReal) :
    ∑ s : Fin 256, f s = ∑ x : Fin 128, f ⟨x.val, by omega⟩ + ∑ x : Fin 128, f ⟨128 + x.val, by omega⟩ :=
  (Fin.sum_univ_add (M := EReal) (a := 128) (b := 128) f)

theorem st_at (L : Mix.Loc) (k : Fin 4) (n p : Fin 128) {a b : EReal} {bb xx dd : Fin 256 → EReal} (ha : a = L.st k.val n p) (hb : b = L.cd k p)
    (hB : ∀ l, bb l = L.B (row k l) n) (hX : ∀ l, xx l = L.X (row k l) p) (hD : ∀ l, dd l = L.dw (row k l)) :
    a * b + ∑ l : Fin 256, bb l * (xx l * dd l) = L.st (k.val + 1) n p := by
  have ek : Fin.ofNat 4 k.val = k := Fin.ext (Nat.mod_eq_of_lt k.isLt)
  rw [Mix.Loc.st, ek, ha, hb]
  refine congrArg₂ (· + ·) rfl (Finset.sum_congr rfl fun l _ => ?_)
  rw [hB, hX, hD]

theorem dec_at (L : Mix.Loc) (k : Fin 4) (r s : Fin 256) {a b m : EReal} (ha : a = L.ac (row k r)) (hb : b = L.ar (row k s))
    (hm : m = if L.doc (row k r) = L.doc (row k s) ∧ s ≤ r then 0 else ⊥) : Ideal.exp (a - b + m) = L.dec k r s := by
  unfold Mix.Loc.dec
  rw [ha, hb, hm]
  split_ifs
  · rw [add_zero]
  · rw [EReal.add_bot]

theorem ys_at (L : Mix.Loc) (k : Fin 4) (r : Fin 256) (p : Fin 128) {cc ss : Fin 128 → EReal} {b1 b2 : Fin 128 → Fin 128 → EReal}
    {e1 e2 x1 x2 d1 d2 : Fin 128 → EReal} {f : EReal} (hC : ∀ n, cc n = L.C (row k r) n)
    (hB1 : ∀ s n, b1 s n = L.B (row k ⟨s.val, by omega⟩) n) (he1 : ∀ s, e1 s = L.dec k r ⟨s.val, by omega⟩)
    (hX1 : ∀ s, x1 s = L.X (row k ⟨s.val, by omega⟩) p) (hD1 : ∀ s, d1 s = L.dt (row k ⟨s.val, by omega⟩))
    (hB2 : ∀ s n, b2 s n = L.B (row k ⟨128 + s.val, by omega⟩) n) (he2 : ∀ s, e2 s = L.dec k r ⟨128 + s.val, by omega⟩)
    (hX2 : ∀ s, x2 s = L.X (row k ⟨128 + s.val, by omega⟩) p) (hD2 : ∀ s, d2 s = L.dt (row k ⟨128 + s.val, by omega⟩))
    (hS : ∀ n, ss n = L.st k.val n p) (hf : f = L.fp (row k r)) :
    (∑ s : Fin 128, (∑ n : Fin 128, cc n * b1 s n) * e1 s * (x1 s * d1 s)) + (∑ s : Fin 128, (∑ n : Fin 128, cc n * b2 s n) * e2 s * (x2 s * d2 s))
      + (∑ n : Fin 128, cc n * ss n) * f = ys L k r p := by
  unfold ys
  rw [sum_halves, hf]
  refine congrArg₂ (· + ·) (congrArg₂ (· + ·) (Finset.sum_congr rfl fun s _ => ?_) (Finset.sum_congr rfl fun s _ => ?_))
    (congrArg (· * _) (Finset.sum_congr rfl fun n _ => ?_))
  · rw [he1, hX1, hD1]
    exact congrArg (fun u => u * _ * _) (Finset.sum_congr rfl fun n _ => by rw [hC, hB1])
  · rw [he2, hX2, hD2]
    exact congrArg (fun u => u * _ * _) (Finset.sum_congr rfl fun n _ => by rw [hC, hB2])
  · rw [hC, hS]

theorem g_at (L : Mix.Loc) (k : Fin 4) (r : Fin 256) (p : Fin 128) {u d x z : EReal} (hu : u = ys L k r p) (hd : d = L.dk)
    (hx : x = L.X (row k r) p) (hz : z = L.pz (row k r) p) : (u + d * x) * (z * Ideal.logistic z) = L.g k r p := by
  subst hu hd hx hz; rfl

theorem G_at (L : Mix.Loc) (k : Fin 4) (r : Fin 256) (p : Fin 128) {gp : EReal} {g : Fin 128 → EReal} {w : EReal} (hp : gp = L.g k r p) (hg : ∀ q, g q = L.g k r q) (hw : w = L.gw p) :
    gp * Ideal.rsqrt (Ideal.div (∑ q : Fin 128, g q * g q) (Ideal.ofBits .f32 0x43000000#32) + Ideal.ofBits .f32 0x3727C5AC#32) * w = L.G k r p := by
  obtain rfl : g = fun q => L.g k r q := funext hg
  subst hw hp; rfl

/-- What the sum mask holds: zero where the column's row is at or above this one and in the same document. -/
def MaskN (doc : Fin 1024 → BitVec 32) (x : Vec Ideal S4x256x256 .f32) : Prop :=
  ∀ (k : Fin 4) (r s : Fin 256), x (ix3 k r s) = if doc (row k r) = doc (row k s) ∧ s ≤ r then 0 else ⊥

theorem coord1_lt (i : grid0.Coords) : (i 1).val < 32 := (i 1).isLt

/-- The column of the row tables that head `hd` of the pair reads. -/
def col (i : grid0.Coords) (hd : Fin 2) : Fin 128 := ⟨2 * (i 1).val + hd.val, by have := coord1_lt i; omega⟩

theorem gcol (i : grid0.Coords) (hd : Fin 2) : (Scalar.select (IntOp.cmpi CmpIPredicate.slt (Scalar.addi (Scalar.muli (BitVec.ofNat 32 (i 1).val) 2#32) (BitVec.ofNat 32 hd.val)) 0#32)
    (IntOp.addi (Scalar.addi (Scalar.muli (BitVec.ofNat 32 (i 1).val) 2#32) (BitVec.ofNat 32 hd.val)) 128#32)
    (Scalar.addi (Scalar.muli (BitVec.ofNat 32 (i 1).val) 2#32) (BitVec.ofNat 32 hd.val))).toNat % 128 = (col i hd).val := by
  have h : ∀ (k : Fin 32) (hd : Fin 2), (Scalar.select (IntOp.cmpi CmpIPredicate.slt (Scalar.addi (Scalar.muli (BitVec.ofNat 32 k.val) 2#32) (BitVec.ofNat 32 hd.val)) 0#32)
    (IntOp.addi (Scalar.addi (Scalar.muli (BitVec.ofNat 32 k.val) 2#32) (BitVec.ofNat 32 hd.val)) 128#32)
    (Scalar.addi (Scalar.muli (BitVec.ofNat 32 k.val) 2#32) (BitVec.ofNat 32 hd.val))).toNat % 128 = 2 * k.val + hd.val := by decide +kernel
  exact h ⟨(i 1).val, coord1_lt i⟩ hd

theorem tb_at {arg : Memref sig .tc .vmem S1024x128 .f32} (h : arg.IsWhole) (x : Vec Ideal S1024x128 .f32) (i : grid0.Coords) (hd : Fin 2) (k : Fin 4) (o : ℕ) (ho : o = k.val * 256) (inb)
    (r : Fin 256) (j : Fin 128) (hj : j.val = (col i hd).val) :
    View.readAt (Elt Ideal) arg.view (Rect.unit (s := S1024x128) ![o, 0] ![256, 128] inb).toLoadRect (h.unread x) (ix2 r j) = x (ix2 (row k r) (col i hd)) := by
  subst ho
  have e : j = col i hd := Fin.ext hj
  subst e
  refine (ld2 h x (k.val * 256) 0 inb r (col i hd) (inb 0) (inb 1)).trans (congrArg x (congrArg (ix2 _) (Fin.ext ?_)))
  exact Nat.zero_add _

theorem ar_at {arg : Memref sig .tc .vmem S1x2x1024 .f32} (h : arg.IsWhole) (x : Vec Ideal S1x2x1024 .f32) (hd : Fin 2) (k : Fin 4) (a o : ℕ) (ha : a = hd.val) (ho : o = k.val * 256) (inb)
    (s : Fin 256) :
    View.readAt (Elt Ideal) arg.view (Rect.unit (s := S1x2x1024) ![0, a, o] ![1, 1, 256] inb).toLoadRect (h.unread x) (ix3 (0 : Fin 1) (0 : Fin 1) s) = x (ix3 (0 : Fin 1) hd (row k s)) := by
  subst ha ho
  exact ld3 h x 0 hd.val (k.val * 256) inb (0 : Fin 1) (0 : Fin 1) s (inb 0) (inb 1) (inb 2)

theorem cd_at {arg : Memref sig .tc .vmem S1x2x512 .f32} (h : arg.IsWhole) (x : Vec Ideal S1x2x512 .f32) (hd : Fin 2) (k : Fin 4) (a o : ℕ) (ha : a = hd.val) (ho : o = k.val * 128) (inb)
    (q : Fin 128) :
    View.readAt (Elt Ideal) arg.view (Rect.unit (s := S1x2x512) ![0, a, o] ![1, 1, 128] inb).toLoadRect (h.unread x) (ix3 (0 : Fin 1) (0 : Fin 1) q)
      = x (ix3 (0 : Fin 1) hd (⟨k.val * 128 + q.val, by omega⟩ : Fin 512)) := by
  subst ha ho
  exact ld3 h x 0 hd.val (k.val * 128) inb (0 : Fin 1) (0 : Fin 1) q (inb 0) (inb 1) (inb 2)

theorem nm_at {arg : Memref sig .tc .vmem S4x256x256 .f32} (h : arg.IsWhole) (x : Vec Ideal S4x256x256 .f32) {doc : Fin 1024 → BitVec 32} (hx : MaskN doc x) (k : Fin 4) (a : ℕ) (ha : a = k.val) (inb)
    (r s : Fin 256) :
    View.readAt (Elt Ideal) arg.view (Rect.unit (s := S4x256x256) ![a, 0, 0] ![1, 256, 256] inb).toLoadRect (h.unread x) (ix3 (0 : Fin 1) r s)
      = if doc (row k r) = doc (row k s) ∧ s ≤ r then 0 else ⊥ := by
  subst ha
  refine (ld3 h x k.val 0 0 inb (0 : Fin 1) r s (inb 0) (inb 1) (inb 2)).trans (Eq.trans (congrArg x ?_) (hx k r s))
  exact (ix3_inj _ _ _ _ _ _).2 ⟨rfl, Fin.ext (Nat.zero_add _), Fin.ext (Nat.zero_add _)⟩

theorem gw_at {arg : Memref sig .tc .vmem S1x256 .bf16} (h : arg.IsWhole) (x : Vec Ideal S1x256 .bf16) (hd : Fin 2) (o : ℕ) (ho : o = 128 * hd.val) (inb) (q : Fin 128) :
    View.readAt (Elt Ideal) arg.view (Rect.unit (s := S1x256) ![0, o] ![1, 128] inb).toLoadRect (h.unread x) (ix2 (0 : Fin 1) q)
      = x (ix2 (0 : Fin 1) (⟨128 * hd.val + q.val, by omega⟩ : Fin 256)) := by
  subst ho
  exact ldB h x 0 (128 * hd.val) inb (0 : Fin 1) q

theorem sk_at {arg : Memref sig .tc .smem S64 .f32} (h : arg.IsWhole) (x : Vec Ideal S64 .f32) (i : grid0.Coords) (hd : Fin 2) (inb) (hn) :
    View.readAt (Elt Ideal) arg.view (Rect.unit (s := S64) (k0_off1 i (BitVec.ofNat 32 hd.val)) ![1] inb).toLoadRect (h.unread x) (Shape.Idx.first hn)
      = x (ix1 (⟨2 * (i 1).val + hd.val, by have := coord1_lt i; omega⟩ : Fin 64)) := by
  rw [h.readAt_unread]
  refine congrArg x (funext fun y => Fin.ext ?_)
  refine (Rect.idx_unit_val _ _ inb _ y).trans ?_
  refine (congrArg (· + _) (congrFun (k0_off1_eq i hd) y)).trans ?_
  fin_cases y
  rfl

/-- What head `hd` of the pair at a grid point is computed from, read off the point's blocks. -/
def KL (i : grid0.Coords) (hd : Fin 2) (doc : Fin 1024 → BitVec 32) (x0 : Vec Ideal S64 .f32) (x1 : Vec Ideal S1024x7168 .fp8e4m3) (x2 : Vec Ideal S1024x1 .f32)
    (x3 x4 x5 x6 : Vec Ideal S256x7168 .fp8e4m3) (x7 x8 x9 x10 : Vec Ideal S1x256 .f32) (x11 x12 x13 : Vec Ideal S4x256 .f32) (x14 x15 x16 : Vec Ideal S1x256 .f32)
    (x17 x18 x19 x20 : Vec Ideal S1024x128 .f32) (x21 : Vec Ideal S1x2x1024 .f32) (x22 : Vec Ideal S1x2x512 .f32) (x25 : Vec Ideal S1x256 .bf16) : Mix.Loc where
  pz := PJ x1 x2 x3 x7 hd
  px := PJ x1 x2 x4 x8 hd
  pb := PJ x1 x2 x5 x9 hd
  pc := PJ x1 x2 x6 x10 hd
  wx := W4 x11 hd
  wb := W4 x12 hd
  wc := W4 x13 hd
  bx := B1 x14 hd
  bb := B1 x15 hd
  bc := B1 x16 hd
  ac t := x17 (ix2 t (col i hd))
  dt t := x18 (ix2 t (col i hd))
  dw t := x19 (ix2 t (col i hd))
  fp t := x20 (ix2 t (col i hd))
  ar t := x21 (ix3 (0 : Fin 1) hd t)
  cd k q := x22 (ix3 (0 : Fin 1) hd (⟨k.val * 128 + q.val, by omega⟩ : Fin 512))
  dk := x0 (ix1 (⟨2 * (i 1).val + hd.val, by have := coord1_lt i; omega⟩ : Fin 64))
  gw q := x25 (ix2 (0 : Fin 1) (⟨128 * hd.val + q.val, by omega⟩ : Fin 256))
  doc := doc

theorem pay11_at (v3 : Vec Ideal S1024x7168 .fp8e4m3) (v4 : Vec Ideal S1024x1 .f32) (w : Vec Ideal S256x7168 .fp8e4m3) (s : Vec Ideal S1x256 .f32) (t : Fin 1024) (q : Fin 256) :
    k0_pay11 v3 v4 w s (ix2 t q) = k0_pay12 v3 v4 w s (ix2 t q) := by
  pointwise [k0_pay11, k0_pay12]

theorem zread {arg : Memref sig .tc .vmem S1024x256 .f32} (k : Fin 4) (hd : Fin 2) (a b : ℕ) (ha : a = k.val * 256) (hb : b = 128 * hd.val) (i1) (i2) (P : FVec Ideal S1024x256 .f32) (r : Fin 256) (q : Fin 128) :
    arg.view.readCov (Val := Elt Ideal) [⟨Rect.unit (s := S1024x256) ![0, 0] S1024x256.size i1, P⟩] (Rect.unit (s := S1024x256) ![a, b] S256x128.size i2).toLoadRect (ix2 r q)
      = P (ix2 (Mix.row k r) (⟨128 * hd.val + q.val, by omega⟩ : Fin 256)) := by
  have e0 : ∀ y : Fin S1024x256.rank, (![0, 0] : Fin 2 → ℕ) y = 0 := fun y => by fin_cases y <;> rfl
  have h := congrFun (View.readCov_fill (Val := Elt Ideal) (e := .f32) arg.view i1 P [] (Rect.unit (s := S1024x256) ![a, b] S256x128.size i2) e0) (ix2 r q)
  refine h.trans ?_
  have h2 : (Rect.unit (s := S1024x256) ![a, b] S256x128.size i2).idx (ix2 r q) = (ix2 (Mix.row k r) (⟨128 * hd.val + q.val, by omega⟩ : Fin 256)) := by
    refine funext fun y => Fin.ext ?_
    refine (Rect.idx_unit_val _ _ i2 (ix2 r q) y).trans ?_
    subst ha hb
    fin_cases y <;> rfl
  exact congrArg P h2

variable {c : Dev nD} {i : grid0.Coords} {arg2 : Memref sig .tc .smem S64 .f32} {harg2 : arg2.IsWhole} {arg3 : Memref sig .tc .vmem S1024x7168 .fp8e4m3} {harg3 : arg3.IsWhole} {arg4 : Memref sig .tc .vmem S1024x1 .f32} {harg4 : arg4.IsWhole} {arg5 : Memref sig .tc .vmem S256x7168 .fp8e4m3} {harg5 : arg5.IsWhole} {arg6 : Memref sig .tc .vmem S256x7168 .fp8e4m3} {harg6 : arg6.IsWhole} {arg7 : Memref sig .tc .vmem S256x7168 .fp8e4m3} {harg7 : arg7.IsWhole} {arg8 : Memref sig .tc .vmem S256x7168 .fp8e4m3} {harg8 : arg8.IsWhole} {arg9 : Memref sig .tc .vmem S1x256 .f32} {harg9 : arg9.IsWhole} {arg10 : Memref sig .tc .vmem S1x256 .f32} {harg10 : arg10.IsWhole} {arg11 : Memref sig .tc .vmem S1x256 .f32} {harg11 : arg11.IsWhole} {arg12 : Memref sig .tc .vmem S1x256 .f32} {harg12 : arg12.IsWhole} {arg13 : Memref sig .tc .vmem S4x256 .f32} {harg13 : arg13.IsWhole} {arg14 : Memref sig .tc .vmem S4x256 .f32} {harg14 : arg14.IsWhole} {arg15 : Memref sig .tc .vmem S4x256 .f32} {harg15 : arg15.IsWhole} {arg16 : Memref sig .tc .vmem S1x256 .f32} {harg16 : arg16.IsWhole} {arg17 : Memref sig .tc .vmem S1x256 .f32} {harg17 : arg17.IsWhole} {arg18 : Memref sig .tc .vmem S1x256 .f32} {harg18 : arg18.IsWhole} {arg19 : Memref sig .tc .vmem S1024x128 .f32} {harg19 : arg19.IsWhole} {arg20 : Memref sig .tc .vmem S1024x128 .f32} {harg20 : arg20.IsWhole} {arg21 : Memref sig .tc .vmem S1024x128 .f32} {harg21 : arg21.IsWhole} {arg22 : Memref sig .tc .vmem S1024x128 .f32} {harg22 : arg22.IsWhole} {arg23 : Memref sig .tc .vmem S1x2x1024 .f32} {harg23 : arg23.IsWhole} {arg24 : Memref sig .tc .vmem S1x2x512 .f32} {harg24 : arg24.IsWhole} {arg25 : Memref sig .tc .vmem S1024x1 .i32} {harg25 : arg25.IsWhole} {arg26 : Memref sig .tc .vmem S1x1x1024 .i32} {harg26 : arg26.IsWhole} {arg27 : Memref sig .tc .vmem S1x256 .bf16} {harg27 : arg27.IsWhole} {arg28 : Memref sig .tc .vmem S1024x256 .f32} {harg28 : arg28.IsWhole} {arg29 : Memref sig .tc .vmem S1024x128 .f32} {harg29 : arg29.IsWhole} {arg30 : Memref sig .tc .vmem S6x1032x128 .f32} {harg30 : arg30.IsWhole} {arg31 : Memref sig .tc .vmem S6x1024x128 .f32} {harg31 : arg31.IsWhole} {arg32 : Memref sig .tc .vmem S1024x256 .f32} {harg32 : arg32.IsWhole} {arg33 : Memref sig .tc .vmem S3x1024x128 .f32} {harg33 : arg33.IsWhole} {arg34 : Memref sig .tc .vmem S4x256x256 .f32} {harg34 : arg34.IsWhole} {x0 : Vec Ideal S64 .f32} {x1 : Vec Ideal S1024x7168 .fp8e4m3} {x2 : Vec Ideal S1024x1 .f32} {x3 : Vec Ideal S256x7168 .fp8e4m3} {x4 : Vec Ideal S256x7168 .fp8e4m3} {x5 : Vec Ideal S256x7168 .fp8e4m3} {x6 : Vec Ideal S256x7168 .fp8e4m3} {x7 : Vec Ideal S1x256 .f32} {x8 : Vec Ideal S1x256 .f32} {x9 : Vec Ideal S1x256 .f32} {x10 : Vec Ideal S1x256 .f32} {x11 : Vec Ideal S4x256 .f32} {x12 : Vec Ideal S4x256 .f32} {x13 : Vec Ideal S4x256 .f32} {x14 : Vec Ideal S1x256 .f32} {x15 : Vec Ideal S1x256 .f32} {x16 : Vec Ideal S1x256 .f32} {x17 : Vec Ideal S1024x128 .f32} {x18 : Vec Ideal S1024x128 .f32} {x19 : Vec Ideal S1024x128 .f32} {x20 : Vec Ideal S1024x128 .f32} {x21 : Vec Ideal S1x2x1024 .f32} {x22 : Vec Ideal S1x2x512 .f32} {x23 : Vec Ideal S1024x1 .i32} {x24 : Vec Ideal S1x1x1024 .i32} {x25 : Vec Ideal S1x256 .bf16} {xo27 : Vec Ideal S1024x128 .f32} {xs3 : Vec Ideal S3x1024x128 .f32} {xs4 : Vec Ideal S4x256x256 .f32}

theorem Z0_0 (r : Fin 256) (q : Fin 128) : (mixRun.sl.v1150 (F := Ideal) c arg3 harg3 arg4 harg4 arg5 harg5 arg9 harg9 arg32 x1 x2 x3 x7) (ix2 r q) = PJ x1 x2 x3 x7 0 (row 0 r) q := by
  unfold mixRun.sl.v1150 mixRun.sl.HS2_1
  rw [zread 0 0 0 0 rfl rfl _ _ _ r q, pay11_at]
  exact pj_at harg3 harg4 harg5 harg9 x1 x2 x3 x7 _ _ _ _ 0 (row 0 r) q

theorem Z0_1 (r : Fin 256) (q : Fin 128) : (mixRun.sl.v1249 (F := Ideal) c arg3 harg3 arg4 harg4 arg5 harg5 arg9 harg9 arg32 x1 x2 x3 x7) (ix2 r q) = PJ x1 x2 x3 x7 0 (row 1 r) q := by
  unfold mixRun.sl.v1249 mixRun.sl.HS2_1
  rw [zread 1 0 256 0 rfl rfl _ _ _ r q, pay11_at]
  exact pj_at harg3 harg4 harg5 harg9 x1 x2 x3 x7 _ _ _ _ 0 (row 1 r) q

theorem Z0_2 (r : Fin 256) (q : Fin 128) : (mixRun.sl.v1348 (F := Ideal) c arg3 harg3 arg4 harg4 arg5 harg5 arg9 harg9 arg32 x1 x2 x3 x7) (ix2 r q) = PJ x1 x2 x3 x7 0 (row 2 r) q := by
  unfold mixRun.sl.v1348 mixRun.sl.HS2_1
  rw [zread 2 0 512 0 rfl rfl _ _ _ r q, pay11_at]
  exact pj_at harg3 harg4 harg5 harg9 x1 x2 x3 x7 _ _ _ _ 0 (row 2 r) q

theorem Z0_3 (r : Fin 256) (q : Fin 128) : (mixRun.sl.v1431 (F := Ideal) c arg3 harg3 arg4 harg4 arg5 harg5 arg9 harg9 arg32 x1 x2 x3 x7) (ix2 r q) = PJ x1 x2 x3 x7 0 (row 3 r) q := by
  unfold mixRun.sl.v1431 mixRun.sl.HS2_1
  rw [zread 3 0 768 0 rfl rfl _ _ _ r q, pay11_at]
  exact pj_at harg3 harg4 harg5 harg9 x1 x2 x3 x7 _ _ _ _ 0 (row 3 r) q

theorem Z1_0 (r : Fin 256) (q : Fin 128) : (mixRun.sl.v1534 (F := Ideal) c arg3 harg3 arg4 harg4 arg5 harg5 arg9 harg9 arg32 x1 x2 x3 x7) (ix2 r q) = PJ x1 x2 x3 x7 1 (row 0 r) q := by
  unfold mixRun.sl.v1534 mixRun.sl.HS2_1
  rw [zread 0 1 0 128 rfl rfl _ _ _ r q, pay11_at]
  exact pj_at harg3 harg4 harg5 harg9 x1 x2 x3 x7 _ _ _ _ 1 (row 0 r) q

theorem Z1_1 (r : Fin 256) (q : Fin 128) : (mixRun.sl.v1633 (F := Ideal) c arg3 harg3 arg4 harg4 arg5 harg5 arg9 harg9 arg32 x1 x2 x3 x7) (ix2 r q) = PJ x1 x2 x3 x7 1 (row 1 r) q := by
  unfold mixRun.sl.v1633 mixRun.sl.HS2_1
  rw [zread 1 1 256 128 rfl rfl _ _ _ r q, pay11_at]
  exact pj_at harg3 harg4 harg5 harg9 x1 x2 x3 x7 _ _ _ _ 1 (row 1 r) q

theorem Z1_2 (r : Fin 256) (q : Fin 128) : (mixRun.sl.v1732 (F := Ideal) c arg3 harg3 arg4 harg4 arg5 harg5 arg9 harg9 arg32 x1 x2 x3 x7) (ix2 r q) = PJ x1 x2 x3 x7 1 (row 2 r) q := by
  unfold mixRun.sl.v1732 mixRun.sl.HS2_1
  rw [zread 2 1 512 128 rfl rfl _ _ _ r q, pay11_at]
  exact pj_at harg3 harg4 harg5 harg9 x1 x2 x3 x7 _ _ _ _ 1 (row 2 r) q

theorem Z1_3 (r : Fin 256) (q : Fin 128) : (mixRun.sl.v1815 (F := Ideal) c arg3 harg3 arg4 harg4 arg5 harg5 arg9 harg9 arg32 x1 x2 x3 x7) (ix2 r q) = PJ x1 x2 x3 x7 1 (row 3 r) q := by
  unfold mixRun.sl.v1815 mixRun.sl.HS2_1
  rw [zread 3 1 768 128 rfl rfl _ _ _ r q, pay11_at]
  exact pj_at harg3 harg4 harg5 harg9 x1 x2 x3 x7 _ _ _ _ 1 (row 3 r) q

theorem S0_0 {doc : Fin 1024 → BitVec 32} (hx3 : MaskC doc xs3) (n p : Fin 128) :
    (mixRun.sl.r_61 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg21 harg21 arg24 harg24 arg30 arg31 arg33 harg33 x1 x2 x4 x5 x6 x8 x9 x10 x11 x12 x13 x14 x15 x16 x19 x22 xs3) (ix2 n p) = (KL i 0 doc x0 x1 x2 x3 x4 x5 x6 x7 x8 x9 x10 x11 x12 x13 x14 x15 x16 x17 x18 x19 x20 x21 x22 x25).st 1 n p := by
  unfold mixRun.sl.r_61
  simp only [mixRun.sl.r_53, mixRun.sl.r_54, mixRun.sl.r_58, mixRun.sl.r_59, mixRun.sl.r_52]
  pointwise [k0_pay103, k0_pay104, k0_pay105, k0_pay106, k0_pay110, k0_pay111]
  exact st_at (KL i 0 doc x0 x1 x2 x3 x4 x5 x6 x7 x8 x9 x10 x11 x12 x13 x14 x15 x16 x17 x18 x19 x20 x21 x22 x25) 0 n p (rfl) (cd_at harg24 x22 0 0 0 0 rfl rfl _ p)
    (fun l => V2_0 hx3 0 l n) (fun l => V0_0 hx3 0 l p) (fun l => tb_at harg21 x19 i 0 0 0 rfl _ l _ (gcol i 0))

theorem S0_1 {doc : Fin 1024 → BitVec 32} (hx3 : MaskC doc xs3) (n p : Fin 128) :
    (mixRun.sl.r_69 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg21 harg21 arg24 harg24 arg30 arg31 arg33 harg33 x1 x2 x4 x5 x6 x8 x9 x10 x11 x12 x13 x14 x15 x16 x19 x22 xs3) (ix2 n p) = (KL i 0 doc x0 x1 x2 x3 x4 x5 x6 x7 x8 x9 x10 x11 x12 x13 x14 x15 x16 x17 x18 x19 x20 x21 x22 x25).st 2 n p := by
  unfold mixRun.sl.r_69
  simp only [mixRun.sl.r_52, mixRun.sl.r_63, mixRun.sl.r_64]
  pointwise [k0_pay103, k0_pay114, k0_pay115, k0_pay119]
  exact st_at (KL i 0 doc x0 x1 x2 x3 x4 x5 x6 x7 x8 x9 x10 x11 x12 x13 x14 x15 x16 x17 x18 x19 x20 x21 x22 x25) 1 n p (S0_0 hx3 n p) (cd_at harg24 x22 0 1 0 128 rfl rfl _ p)
    (fun l => V2_1 hx3 0 l n) (fun l => V0_1 hx3 0 l p) (fun l => tb_at harg21 x19 i 0 1 256 rfl _ l _ (gcol i 0))

theorem S0_2 {doc : Fin 1024 → BitVec 32} (hx3 : MaskC doc xs3) (n p : Fin 128) :
    (mixRun.sl.r_79 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg21 harg21 arg24 harg24 arg30 arg31 arg33 harg33 x1 x2 x4 x5 x6 x8 x9 x10 x11 x12 x13 x14 x15 x16 x19 x22 xs3) (ix2 n p) = (KL i 0 doc x0 x1 x2 x3 x4 x5 x6 x7 x8 x9 x10 x11 x12 x13 x14 x15 x16 x17 x18 x19 x20 x21 x22 x25).st 3 n p := by
  unfold mixRun.sl.r_79
  simp only [mixRun.sl.r_52, mixRun.sl.r_72, mixRun.sl.r_73, mixRun.sl.r_78]
  pointwise [k0_pay103, k0_pay124, k0_pay125, k0_pay130]
  exact st_at (KL i 0 doc x0 x1 x2 x3 x4 x5 x6 x7 x8 x9 x10 x11 x12 x13 x14 x15 x16 x17 x18 x19 x20 x21 x22 x25) 2 n p (S0_1 hx3 n p) (cd_at harg24 x22 0 2 0 256 rfl rfl _ p)
    (fun l => V2_2 hx3 0 l n) (fun l => V0_2 hx3 0 l p) (fun l => tb_at harg21 x19 i 0 2 512 rfl _ l _ (gcol i 0))

theorem S1_0 {doc : Fin 1024 → BitVec 32} (hx3 : MaskC doc xs3) (n p : Fin 128) :
    (mixRun.sl.r_97 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg21 harg21 arg24 harg24 arg30 arg31 arg33 harg33 x1 x2 x4 x5 x6 x8 x9 x10 x11 x12 x13 x14 x15 x16 x19 x22 xs3) (ix2 n p) = (KL i 1 doc x0 x1 x2 x3 x4 x5 x6 x7 x8 x9 x10 x11 x12 x13 x14 x15 x16 x17 x18 x19 x20 x21 x22 x25).st 1 n p := by
  unfold mixRun.sl.r_97
  simp only [mixRun.sl.r_89, mixRun.sl.r_90, mixRun.sl.r_95, mixRun.sl.r_88]
  pointwise [k0_pay141, k0_pay142, k0_pay143, k0_pay144, k0_pay148, k0_pay149]
  exact st_at (KL i 1 doc x0 x1 x2 x3 x4 x5 x6 x7 x8 x9 x10 x11 x12 x13 x14 x15 x16 x17 x18 x19 x20 x21 x22 x25) 0 n p (rfl) (cd_at harg24 x22 1 0 1 0 rfl rfl _ p)
    (fun l => V3_0 hx3 0 l n) (fun l => V1_0 hx3 0 l p) (fun l => tb_at harg21 x19 i 1 0 0 rfl _ l _ (gcol i 1))

theorem S1_1 {doc : Fin 1024 → BitVec 32} (hx3 : MaskC doc xs3) (n p : Fin 128) :
    (mixRun.sl.r_104 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg21 harg21 arg24 harg24 arg30 arg31 arg33 harg33 x1 x2 x4 x5 x6 x8 x9 x10 x11 x12 x13 x14 x15 x16 x19 x22 xs3) (ix2 n p) = (KL i 1 doc x0 x1 x2 x3 x4 x5 x6 x7 x8 x9 x10 x11 x12 x13 x14 x15 x16 x17 x18 x19 x20 x21 x22 x25).st 2 n p := by
  unfold mixRun.sl.r_104
  simp only [mixRun.sl.r_88, mixRun.sl.r_99, mixRun.sl.r_100]
  pointwise [k0_pay141, k0_pay152, k0_pay153, k0_pay157]
  exact st_at (KL i 1 doc x0 x1 x2 x3 x4 x5 x6 x7 x8 x9 x10 x11 x12 x13 x14 x15 x16 x17 x18 x19 x20 x21 x22 x25) 1 n p (S1_0 hx3 n p) (cd_at harg24 x22 1 1 1 128 rfl rfl _ p)
    (fun l => V3_1 hx3 0 l n) (fun l => V1_1 hx3 0 l p) (fun l => tb_at harg21 x19 i 1 1 256 rfl _ l _ (gcol i 1))

theorem S1_2 {doc : Fin 1024 → BitVec 32} (hx3 : MaskC doc xs3) (n p : Fin 128) :
    (mixRun.sl.r_113 (F := Ideal) c i arg3 harg3 arg4 harg4 arg6 harg6 arg7 harg7 arg8 harg8 arg10 harg10 arg11 harg11 arg12 harg12 arg13 harg13 arg14 harg14 arg15 harg15 arg16 harg16 arg17 harg17 arg18 harg18 arg21 harg21 arg24 harg24 arg30 arg31 arg33 harg33 x1 x2 x4 x5 x6 x8 x9 x10 x11 x12 x13 x14 x15 x16 x19 x22 xs3) (ix2 n p) = (KL i 1 doc x0 x1 x2 x3 x4 x5 x6 x7 x8 x9 x10 x11 x12 x13 x14 x15 x16 x17 x18 x19 x20 x21 x22 x25).st 3 n p := by
  unfold mixRun.sl.r_113
  simp only [mixRun.sl.r_88, mixRun.sl.r_107, mixRun.sl.r_108, mixRun.sl.r_78]
  pointwise [k0_pay141, k0_pay162, k0_pay163, k0_pay168, k0_pay169]
  exact st_at (KL i 1 doc x0 x1 x2 x3 x4 x5 x6 x7 x8 x9 x10 x11 x12 x13 x14 x15 x16 x17 x18 x19 x20 x21 x22 x25) 2 n p (S1_1 hx3 n p) (cd_at harg24 x22 1 2 1 256 rfl rfl _ p)
    (fun l => V3_2 hx3 0 l n) (fun l => V1_2 hx3 0 l p) (fun l => tb_at harg21 x19 i 1 2 512 rfl _ l _ (gcol i 1))

end Cert.MixerIdeal.Gen
-- ==== Proof.MixVal4.lean ====
/- The gated, normalised value of each head and chunk is the plain one. -/
module

public import proofs.«01_k».proof.Proof.MixVal3

@[expose] public section

set_option maxRecDepth 16384

noncomputable section

namespace Cert.MixerIdeal.Gen

open Idealize.ShloMosaic Idealize.ShloMosaic.TcCoe Idealize.ShloMosaic.Tactic
open Idealize.ShloMosaic.Rounds
open scoped BigOperators

open Cert.Mix (row)

variable {c : Dev nD} {i : grid0.Coords} {arg2 : Memref sig .tc .smem S64 .f32} {harg2 : arg2.IsWhole} {arg3 : Memref sig .tc .vmem S1024x7168 .fp8e4m3} {harg3 : arg3.IsWhole} {arg4 : Memref sig .tc .vmem S1024x1 .f32} {harg4 : arg4.IsWhole} {arg5 : Memref sig .tc .vmem S256x7168 .fp8e4m3} {harg5 : arg5.IsWhole} {arg6 : Memref sig .tc .vmem S256x7168 .fp8e4m3} {harg6 : arg6.IsWhole} {arg7 : Memref sig .tc .vmem S256x7168 .fp8e4m3} {harg7 : arg7.IsWhole} {arg8 : Memref sig .tc .vmem S256x7168 .fp8e4m3} {harg8 : arg8.IsWhole} {arg9 : Memref sig .tc .vmem S1x256 .f32} {harg9 : arg9.IsWhole} {arg10 : Memref sig .tc .vmem S1x256 .f32} {harg10 : arg10.IsWhole} {arg11 : Memref sig .tc .vmem S1x256 .f32} {harg11 : arg11.IsWhole} {arg12 : Memref sig .tc .vmem S1x256 .f32} {harg12 : arg12.IsWhole} {arg13 : Memref sig .tc .vmem S4x256 .f32} {harg13 : arg13.IsWhole} {arg14 : Memref sig .tc .vmem S4x256 .f32} {harg14 : arg14.IsWhole} {arg15 : Memref sig .tc .vmem S4x256 .f32} {harg15 : arg15.IsWhole} {arg16 : Memref sig .tc .vmem S1x256 .f32} {harg16 : arg16.IsWhole} {arg17 : Memref sig .tc .vmem S1x256 .f32} {harg17 : arg17.IsWhole} {arg18 : Memref sig .tc .vmem S1x256 .f32} {harg18 : arg18.IsWhole} {arg19 : Memref sig .tc .vmem S1024x128 .f32} {harg19 : arg19.IsWhole} {arg20 : Memref sig .tc .vmem S1024x128 .f32} {harg20 : arg20.IsWhole} {arg21 : Memref sig .tc .vmem S1024x128 .f32} {harg21 : arg21.IsWhole} {arg22 : Memref sig .tc .vmem S1024x128 .f32} {harg22 : arg22.IsWhole} {arg23 : Memref sig .tc .vmem S1x2x1024 .f32} {harg23 : arg23.IsWhole} {arg24 : Memref sig .tc .vmem S1x2x512 .f32} {harg24 : arg24.IsWhole} {arg25 : Memref sig .tc .vmem S1024x1 .i32} {harg25 : arg25.IsWhole} {arg26 : Memref sig .tc .vmem S1x1x1024 .i32} {harg26 : arg26.IsWhole} {arg27 : Memref sig .tc .vmem S1x256 .bf16} {harg27 : arg27.IsWhole} {arg28 : Memref sig .tc .vmem S1024x256 .f32} {harg28 : arg28.IsWhole} {arg29 : Memref sig .tc .vmem S1024x128 .f32} {harg29 : arg29.IsWhole} {arg30 : Memref sig .tc .vmem S6x1032x128 .f32} {harg30 : arg30.IsWhole} {arg31 : Memref sig .tc .vmem S6x1024x128 .f32} {harg31 : arg31.IsWhole} {arg32 : Memref sig .tc .vmem S1024x256 .f32} {harg32 : arg32.IsWhole} {arg33 : Memref sig .tc .vmem S3x1024x128 .f32} {harg33 : arg33.IsWhole} {arg34 : Memref sig .tc .vmem S4x256x256 .f32} {harg34 : arg34.IsWhole} {x0 : Vec Ideal S64 .f32} {x1 : Vec Ideal S1024x7168 .fp8e4m3} {x2 : Vec Ideal S1024x1 .f32} {x3 : Vec Ideal S256x7168 .fp8e4m3} {x4 : Vec Ideal S256x7168 .fp8e4m3} {x5 : Vec Ideal S256x7168 .fp8e4m3} {x6 : Vec Ideal S256x7168 .fp8e4m3} {x7 : Vec Ideal S1x256 .f32} {x8 : Vec Ideal S1x256 .f32} {x9 : Vec Ideal S1x256 .f32} {x10 : Vec Ideal S1x256 .f32} {x11 : Vec Ideal S4x256 .f32} {x12 : Vec Ideal S4x256 .f32} {x13 : Vec Ideal S4x256 .f32} {x14 : Vec Ideal S1x256 .f32} {x15 : Vec Ideal S1x256 .f32} {x16 : Vec Ideal S1x256 .f32} {x17 : Vec Ideal S1024x128 .f32} {x18 : Vec Ideal S1024x128 .f32} {x19 : Vec Ideal S1024x128 .f32} {x20 : Vec Ideal S1024x128 .f32} {x21 : Vec Ideal S1x2x1024 .f32} {x22 : Vec Ideal S1x2x512 .f32} {x23 : Vec Ideal S1024x1 .i32} {x24 : Vec Ideal S1x1x1024 .i32} {x25 : Vec Ideal S1x256 .bf16} {xo27 : Vec Ideal S1024x128 .f32} {xs3 : Vec Ideal S3x1024x128 .f32} {xs4 : Vec Ideal S4x256x256 .f32}

theorem G0_0 {doc : Fin 1024 → BitVec 32} (hx3 : MaskC doc xs3) (hx4 : MaskN doc xs4) (r : Fin 256) (p : Fin 128) :
    gw0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r p) = (KL i 0 doc x0 x1 x2 x3 x4 x5 x6 x7 x8 x9 x10 x11 x12 x13 x14 x15 x16 x17 x18 x19 x20 x21 x22 x25).G 0 r p := by
  unfold gw0
  simp only [mixRun.sl.r_53, mixRun.sl.r_57, mixRun.sl.r_60, mixRun.sl.r_52, mixRun.sl.r_54, mixRun.sl.r_55, mixRun.sl.r_56]
  pointwise [k0_pay103, k0_pay104, k0_pay105, k0_pay106, k0_pay107, k0_pay108, k0_pay109, k0_pay112]
  refine G_at (KL i 0 doc x0 x1 x2 x3 x4 x5 x6 x7 x8 x9 x10 x11 x12 x13 x14 x15 x16 x17 x18 x19 x20 x21 x22 x25) 0 r p ?_ (fun q => ?_) (gw_at harg27 x25 0 0 rfl _ p)
  · refine g_at (KL i 0 doc x0 x1 x2 x3 x4 x5 x6 x7 x8 x9 x10 x11 x12 x13 x14 x15 x16 x17 x18 x19 x20 x21 x22 x25) 0 r p ?_ (sk_at harg2 x0 i 0 _ _) (V0_0 hx3 0 r p) (Z0_0 r p)
    refine ys_at (KL i 0 doc x0 x1 x2 x3 x4 x5 x6 x7 x8 x9 x10 x11 x12 x13 x14 x15 x16 x17 x18 x19 x20 x21 x22 x25) 0 r p (fun n => V4_0 hx3 0 r n)
        (fun s n => V2_0 hx3 0 ⟨s.val, _⟩ n) (fun s => dec_at _ 0 r ⟨s.val, _⟩ (tb_at harg19 x17 i 0 0 0 rfl _ r _ (gcol i 0)) (ar_at harg23 x21 0 0 0 0 rfl rfl _ ⟨s.val, _⟩) (nm_at harg34 xs4 hx4 0 0 rfl _ r ⟨s.val, _⟩))
      (fun s => V0_0 hx3 0 ⟨s.val, _⟩ p) (fun s => tb_at harg20 x18 i 0 0 0 rfl _ ⟨s.val, _⟩ _ (gcol i 0))
        (fun s n => V2_0 hx3 0 ⟨128 + s.val, _⟩ n) (fun s => dec_at _ 0 r ⟨128 + s.val, _⟩ (tb_at harg19 x17 i 0 0 0 rfl _ r _ (gcol i 0)) (ar_at harg23 x21 0 0 0 0 rfl rfl _ ⟨128 + s.val, _⟩) (nm_at harg34 xs4 hx4 0 0 rfl _ r ⟨128 + s.val, _⟩))
      (fun s => V0_0 hx3 0 ⟨128 + s.val, _⟩ p) (fun s => tb_at harg20 x18 i 0 0 0 rfl _ ⟨128 + s.val, _⟩ _ (gcol i 0))
        (fun n => rfl) (tb_at harg22 x20 i 0 0 0 rfl _ r _ (gcol i 0))
  · refine g_at (KL i 0 doc x0 x1 x2 x3 x4 x5 x6 x7 x8 x9 x10 x11 x12 x13 x14 x15 x16 x17 x18 x19 x20 x21 x22 x25) 0 r q ?_ (sk_at harg2 x0 i 0 _ _) (V0_0 hx3 0 r q) (Z0_0 r q)
    refine ys_at (KL i 0 doc x0 x1 x2 x3 x4 x5 x6 x7 x8 x9 x10 x11 x12 x13 x14 x15 x16 x17 x18 x19 x20 x21 x22 x25) 0 r q (fun n => V4_0 hx3 0 r n)
        (fun s n => V2_0 hx3 0 ⟨s.val, _⟩ n) (fun s => dec_at _ 0 r ⟨s.val, _⟩ (tb_at harg19 x17 i 0 0 0 rfl _ r _ (gcol i 0)) (ar_at harg23 x21 0 0 0 0 rfl rfl _ ⟨s.val, _⟩) (nm_at harg34 xs4 hx4 0 0 rfl _ r ⟨s.val, _⟩))
      (fun s => V0_0 hx3 0 ⟨s.val, _⟩ q) (fun s => tb_at harg20 x18 i 0 0 0 rfl _ ⟨s.val, _⟩ _ (gcol i 0))
        (fun s n => V2_0 hx3 0 ⟨128 + s.val, _⟩ n) (fun s => dec_at _ 0 r ⟨128 + s.val, _⟩ (tb_at harg19 x17 i 0 0 0 rfl _ r _ (gcol i 0)) (ar_at harg23 x21 0 0 0 0 rfl rfl _ ⟨128 + s.val, _⟩) (nm_at harg34 xs4 hx4 0 0 rfl _ r ⟨128 + s.val, _⟩))
      (fun s => V0_0 hx3 0 ⟨128 + s.val, _⟩ q) (fun s => tb_at harg20 x18 i 0 0 0 rfl _ ⟨128 + s.val, _⟩ _ (gcol i 0))
        (fun n => rfl) (tb_at harg22 x20 i 0 0 0 rfl _ r _ (gcol i 0))

theorem G0_1 {doc : Fin 1024 → BitVec 32} (hx3 : MaskC doc xs3) (hx4 : MaskN doc xs4) (r : Fin 256) (p : Fin 128) :
    gw1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r p) = (KL i 0 doc x0 x1 x2 x3 x4 x5 x6 x7 x8 x9 x10 x11 x12 x13 x14 x15 x16 x17 x18 x19 x20 x21 x22 x25).G 1 r p := by
  unfold gw1
  simp only [mixRun.sl.r_70, mixRun.sl.r_71, mixRun.sl.r_52, mixRun.sl.r_63, mixRun.sl.r_65, mixRun.sl.r_66, mixRun.sl.r_67, mixRun.sl.r_68, mixRun.sl.r_60]
  pointwise [k0_pay103, k0_pay114, k0_pay115, k0_pay116, k0_pay117, k0_pay118, k0_pay120, k0_pay121, k0_pay122]
  refine G_at (KL i 0 doc x0 x1 x2 x3 x4 x5 x6 x7 x8 x9 x10 x11 x12 x13 x14 x15 x16 x17 x18 x19 x20 x21 x22 x25) 1 r p ?_ (fun q => ?_) (gw_at harg27 x25 0 0 rfl _ p)
  · refine g_at (KL i 0 doc x0 x1 x2 x3 x4 x5 x6 x7 x8 x9 x10 x11 x12 x13 x14 x15 x16 x17 x18 x19 x20 x21 x22 x25) 1 r p ?_ (sk_at harg2 x0 i 0 _ _) (V0_1 hx3 0 r p) (Z0_1 r p)
    refine ys_at (KL i 0 doc x0 x1 x2 x3 x4 x5 x6 x7 x8 x9 x10 x11 x12 x13 x14 x15 x16 x17 x18 x19 x20 x21 x22 x25) 1 r p (fun n => V4_1 hx3 0 r n)
        (fun s n => V2_1 hx3 0 ⟨s.val, _⟩ n) (fun s => dec_at _ 1 r ⟨s.val, _⟩ (tb_at harg19 x17 i 0 1 256 rfl _ r _ (gcol i 0)) (ar_at harg23 x21 0 1 0 256 rfl rfl _ ⟨s.val, _⟩) (nm_at harg34 xs4 hx4 1 1 rfl _ r ⟨s.val, _⟩))
      (fun s => V0_1 hx3 0 ⟨s.val, _⟩ p) (fun s => tb_at harg20 x18 i 0 1 256 rfl _ ⟨s.val, _⟩ _ (gcol i 0))
        (fun s n => V2_1 hx3 0 ⟨128 + s.val, _⟩ n) (fun s => dec_at _ 1 r ⟨128 + s.val, _⟩ (tb_at harg19 x17 i 0 1 256 rfl _ r _ (gcol i 0)) (ar_at harg23 x21 0 1 0 256 rfl rfl _ ⟨128 + s.val, _⟩) (nm_at harg34 xs4 hx4 1 1 rfl _ r ⟨128 + s.val, _⟩))
      (fun s => V0_1 hx3 0 ⟨128 + s.val, _⟩ p) (fun s => tb_at harg20 x18 i 0 1 256 rfl _ ⟨128 + s.val, _⟩ _ (gcol i 0))
        (fun n => S0_0 hx3 n p) (tb_at harg22 x20 i 0 1 256 rfl _ r _ (gcol i 0))
  · refine g_at (KL i 0 doc x0 x1 x2 x3 x4 x5 x6 x7 x8 x9 x10 x11 x12 x13 x14 x15 x16 x17 x18 x19 x20 x21 x22 x25) 1 r q ?_ (sk_at harg2 x0 i 0 _ _) (V0_1 hx3 0 r q) (Z0_1 r q)
    refine ys_at (KL i 0 doc x0 x1 x2 x3 x4 x5 x6 x7 x8 x9 x10 x11 x12 x13 x14 x15 x16 x17 x18 x19 x20 x21 x22 x25) 1 r q (fun n => V4_1 hx3 0 r n)
        (fun s n => V2_1 hx3 0 ⟨s.val, _⟩ n) (fun s => dec_at _ 1 r ⟨s.val, _⟩ (tb_at harg19 x17 i 0 1 256 rfl _ r _ (gcol i 0)) (ar_at harg23 x21 0 1 0 256 rfl rfl _ ⟨s.val, _⟩) (nm_at harg34 xs4 hx4 1 1 rfl _ r ⟨s.val, _⟩))
      (fun s => V0_1 hx3 0 ⟨s.val, _⟩ q) (fun s => tb_at harg20 x18 i 0 1 256 rfl _ ⟨s.val, _⟩ _ (gcol i 0))
        (fun s n => V2_1 hx3 0 ⟨128 + s.val, _⟩ n) (fun s => dec_at _ 1 r ⟨128 + s.val, _⟩ (tb_at harg19 x17 i 0 1 256 rfl _ r _ (gcol i 0)) (ar_at harg23 x21 0 1 0 256 rfl rfl _ ⟨128 + s.val, _⟩) (nm_at harg34 xs4 hx4 1 1 rfl _ r ⟨128 + s.val, _⟩))
      (fun s => V0_1 hx3 0 ⟨128 + s.val, _⟩ q) (fun s => tb_at harg20 x18 i 0 1 256 rfl _ ⟨128 + s.val, _⟩ _ (gcol i 0))
        (fun n => S0_0 hx3 n q) (tb_at harg22 x20 i 0 1 256 rfl _ r _ (gcol i 0))

theorem G0_2 {doc : Fin 1024 → BitVec 32} (hx3 : MaskC doc xs3) (hx4 : MaskN doc xs4) (r : Fin 256) (p : Fin 128) :
    gw2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r p) = (KL i 0 doc x0 x1 x2 x3 x4 x5 x6 x7 x8 x9 x10 x11 x12 x13 x14 x15 x16 x17 x18 x19 x20 x21 x22 x25).G 2 r p := by
  unfold gw2
  simp only [mixRun.sl.r_80, mixRun.sl.r_72, mixRun.sl.r_77, mixRun.sl.r_60, mixRun.sl.r_52, mixRun.sl.r_73, mixRun.sl.r_74, mixRun.sl.r_75, mixRun.sl.r_76]
  pointwise [k0_pay103, k0_pay124, k0_pay125, k0_pay126, k0_pay127, k0_pay128, k0_pay129, k0_pay131]
  refine G_at (KL i 0 doc x0 x1 x2 x3 x4 x5 x6 x7 x8 x9 x10 x11 x12 x13 x14 x15 x16 x17 x18 x19 x20 x21 x22 x25) 2 r p ?_ (fun q => ?_) (gw_at harg27 x25 0 0 rfl _ p)
  · refine g_at (KL i 0 doc x0 x1 x2 x3 x4 x5 x6 x7 x8 x9 x10 x11 x12 x13 x14 x15 x16 x17 x18 x19 x20 x21 x22 x25) 2 r p ?_ (sk_at harg2 x0 i 0 _ _) (V0_2 hx3 0 r p) (Z0_2 r p)
    refine ys_at (KL i 0 doc x0 x1 x2 x3 x4 x5 x6 x7 x8 x9 x10 x11 x12 x13 x14 x15 x16 x17 x18 x19 x20 x21 x22 x25) 2 r p (fun n => V4_2 hx3 0 r n)
        (fun s n => V2_2 hx3 0 ⟨s.val, _⟩ n) (fun s => dec_at _ 2 r ⟨s.val, _⟩ (tb_at harg19 x17 i 0 2 512 rfl _ r _ (gcol i 0)) (ar_at harg23 x21 0 2 0 512 rfl rfl _ ⟨s.val, _⟩) (nm_at harg34 xs4 hx4 2 2 rfl _ r ⟨s.val, _⟩))
      (fun s => V0_2 hx3 0 ⟨s.val, _⟩ p) (fun s => tb_at harg20 x18 i 0 2 512 rfl _ ⟨s.val, _⟩ _ (gcol i 0))
        (fun s n => V2_2 hx3 0 ⟨128 + s.val, _⟩ n) (fun s => dec_at _ 2 r ⟨128 + s.val, _⟩ (tb_at harg19 x17 i 0 2 512 rfl _ r _ (gcol i 0)) (ar_at harg23 x21 0 2 0 512 rfl rfl _ ⟨128 + s.val, _⟩) (nm_at harg34 xs4 hx4 2 2 rfl _ r ⟨128 + s.val, _⟩))
      (fun s => V0_2 hx3 0 ⟨128 + s.val, _⟩ p) (fun s => tb_at harg20 x18 i 0 2 512 rfl _ ⟨128 + s.val, _⟩ _ (gcol i 0))
        (fun n => S0_1 hx3 n p) (tb_at harg22 x20 i 0 2 512 rfl _ r _ (gcol i 0))
  · refine g_at (KL i 0 doc x0 x1 x2 x3 x4 x5 x6 x7 x8 x9 x10 x11 x12 x13 x14 x15 x16 x17 x18 x19 x20 x21 x22 x25) 2 r q ?_ (sk_at harg2 x0 i 0 _ _) (V0_2 hx3 0 r q) (Z0_2 r q)
    refine ys_at (KL i 0 doc x0 x1 x2 x3 x4 x5 x6 x7 x8 x9 x10 x11 x12 x13 x14 x15 x16 x17 x18 x19 x20 x21 x22 x25) 2 r q (fun n => V4_2 hx3 0 r n)
        (fun s n => V2_2 hx3 0 ⟨s.val, _⟩ n) (fun s => dec_at _ 2 r ⟨s.val, _⟩ (tb_at harg19 x17 i 0 2 512 rfl _ r _ (gcol i 0)) (ar_at harg23 x21 0 2 0 512 rfl rfl _ ⟨s.val, _⟩) (nm_at harg34 xs4 hx4 2 2 rfl _ r ⟨s.val, _⟩))
      (fun s => V0_2 hx3 0 ⟨s.val, _⟩ q) (fun s => tb_at harg20 x18 i 0 2 512 rfl _ ⟨s.val, _⟩ _ (gcol i 0))
        (fun s n => V2_2 hx3 0 ⟨128 + s.val, _⟩ n) (fun s => dec_at _ 2 r ⟨128 + s.val, _⟩ (tb_at harg19 x17 i 0 2 512 rfl _ r _ (gcol i 0)) (ar_at harg23 x21 0 2 0 512 rfl rfl _ ⟨128 + s.val, _⟩) (nm_at harg34 xs4 hx4 2 2 rfl _ r ⟨128 + s.val, _⟩))
      (fun s => V0_2 hx3 0 ⟨128 + s.val, _⟩ q) (fun s => tb_at harg20 x18 i 0 2 512 rfl _ ⟨128 + s.val, _⟩ _ (gcol i 0))
        (fun n => S0_1 hx3 n q) (tb_at harg22 x20 i 0 2 512 rfl _ r _ (gcol i 0))

theorem G0_3 {doc : Fin 1024 → BitVec 32} (hx3 : MaskC doc xs3) (hx4 : MaskN doc xs4) (r : Fin 256) (p : Fin 128) :
    gw3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r p) = (KL i 0 doc x0 x1 x2 x3 x4 x5 x6 x7 x8 x9 x10 x11 x12 x13 x14 x15 x16 x17 x18 x19 x20 x21 x22 x25).G 3 r p := by
  unfold gw3
  simp only [mixRun.sl.r_86, mixRun.sl.r_87, mixRun.sl.r_52, mixRun.sl.r_82, mixRun.sl.r_83, mixRun.sl.r_84, mixRun.sl.r_85, mixRun.sl.r_60]
  pointwise [k0_pay103, k0_pay134, k0_pay135, k0_pay136, k0_pay137, k0_pay138, k0_pay139]
  refine G_at (KL i 0 doc x0 x1 x2 x3 x4 x5 x6 x7 x8 x9 x10 x11 x12 x13 x14 x15 x16 x17 x18 x19 x20 x21 x22 x25) 3 r p ?_ (fun q => ?_) (gw_at harg27 x25 0 0 rfl _ p)
  · refine g_at (KL i 0 doc x0 x1 x2 x3 x4 x5 x6 x7 x8 x9 x10 x11 x12 x13 x14 x15 x16 x17 x18 x19 x20 x21 x22 x25) 3 r p ?_ (sk_at harg2 x0 i 0 _ _) (V0_3 hx3 0 r p) (Z0_3 r p)
    refine ys_at (KL i 0 doc x0 x1 x2 x3 x4 x5 x6 x7 x8 x9 x10 x11 x12 x13 x14 x15 x16 x17 x18 x19 x20 x21 x22 x25) 3 r p (fun n => V4_3 hx3 0 r n)
        (fun s n => V2_3 hx3 0 ⟨s.val, _⟩ n) (fun s => dec_at _ 3 r ⟨s.val, _⟩ (tb_at harg19 x17 i 0 3 768 rfl _ r _ (gcol i 0)) (ar_at harg23 x21 0 3 0 768 rfl rfl _ ⟨s.val, _⟩) (nm_at harg34 xs4 hx4 3 3 rfl _ r ⟨s.val, _⟩))
      (fun s => V0_3 hx3 0 ⟨s.val, _⟩ p) (fun s => tb_at harg20 x18 i 0 3 768 rfl _ ⟨s.val, _⟩ _ (gcol i 0))
        (fun s n => V2_3 hx3 0 ⟨128 + s.val, _⟩ n) (fun s => dec_at _ 3 r ⟨128 + s.val, _⟩ (tb_at harg19 x17 i 0 3 768 rfl _ r _ (gcol i 0)) (ar_at harg23 x21 0 3 0 768 rfl rfl _ ⟨128 + s.val, _⟩) (nm_at harg34 xs4 hx4 3 3 rfl _ r ⟨128 + s.val, _⟩))
      (fun s => V0_3 hx3 0 ⟨128 + s.val, _⟩ p) (fun s => tb_at harg20 x18 i 0 3 768 rfl _ ⟨128 + s.val, _⟩ _ (gcol i 0))
        (fun n => S0_2 hx3 n p) (tb_at harg22 x20 i 0 3 768 rfl _ r _ (gcol i 0))
  · refine g_at (KL i 0 doc x0 x1 x2 x3 x4 x5 x6 x7 x8 x9 x10 x11 x12 x13 x14 x15 x16 x17 x18 x19 x20 x21 x22 x25) 3 r q ?_ (sk_at harg2 x0 i 0 _ _) (V0_3 hx3 0 r q) (Z0_3 r q)
    refine ys_at (KL i 0 doc x0 x1 x2 x3 x4 x5 x6 x7 x8 x9 x10 x11 x12 x13 x14 x15 x16 x17 x18 x19 x20 x21 x22 x25) 3 r q (fun n => V4_3 hx3 0 r n)
        (fun s n => V2_3 hx3 0 ⟨s.val, _⟩ n) (fun s => dec_at _ 3 r ⟨s.val, _⟩ (tb_at harg19 x17 i 0 3 768 rfl _ r _ (gcol i 0)) (ar_at harg23 x21 0 3 0 768 rfl rfl _ ⟨s.val, _⟩) (nm_at harg34 xs4 hx4 3 3 rfl _ r ⟨s.val, _⟩))
      (fun s => V0_3 hx3 0 ⟨s.val, _⟩ q) (fun s => tb_at harg20 x18 i 0 3 768 rfl _ ⟨s.val, _⟩ _ (gcol i 0))
        (fun s n => V2_3 hx3 0 ⟨128 + s.val, _⟩ n) (fun s => dec_at _ 3 r ⟨128 + s.val, _⟩ (tb_at harg19 x17 i 0 3 768 rfl _ r _ (gcol i 0)) (ar_at harg23 x21 0 3 0 768 rfl rfl _ ⟨128 + s.val, _⟩) (nm_at harg34 xs4 hx4 3 3 rfl _ r ⟨128 + s.val, _⟩))
      (fun s => V0_3 hx3 0 ⟨128 + s.val, _⟩ q) (fun s => tb_at harg20 x18 i 0 3 768 rfl _ ⟨128 + s.val, _⟩ _ (gcol i 0))
        (fun n => S0_2 hx3 n q) (tb_at harg22 x20 i 0 3 768 rfl _ r _ (gcol i 0))

theorem G1_0 {doc : Fin 1024 → BitVec 32} (hx3 : MaskC doc xs3) (hx4 : MaskN doc xs4) (r : Fin 256) (p : Fin 128) :
    gw4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r p) = (KL i 1 doc x0 x1 x2 x3 x4 x5 x6 x7 x8 x9 x10 x11 x12 x13 x14 x15 x16 x17 x18 x19 x20 x21 x22 x25).G 0 r p := by
  unfold gw4
  simp only [mixRun.sl.r_89, mixRun.sl.r_94, mixRun.sl.r_96, mixRun.sl.r_88, mixRun.sl.r_90, mixRun.sl.r_91, mixRun.sl.r_92, mixRun.sl.r_93]
  pointwise [k0_pay141, k0_pay142, k0_pay143, k0_pay144, k0_pay145, k0_pay146, k0_pay147, k0_pay150]
  refine G_at (KL i 1 doc x0 x1 x2 x3 x4 x5 x6 x7 x8 x9 x10 x11 x12 x13 x14 x15 x16 x17 x18 x19 x20 x21 x22 x25) 0 r p ?_ (fun q => ?_) (gw_at harg27 x25 1 128 rfl _ p)
  · refine g_at (KL i 1 doc x0 x1 x2 x3 x4 x5 x6 x7 x8 x9 x10 x11 x12 x13 x14 x15 x16 x17 x18 x19 x20 x21 x22 x25) 0 r p ?_ (sk_at harg2 x0 i 1 _ _) (V1_0 hx3 0 r p) (Z1_0 r p)
    refine ys_at (KL i 1 doc x0 x1 x2 x3 x4 x5 x6 x7 x8 x9 x10 x11 x12 x13 x14 x15 x16 x17 x18 x19 x20 x21 x22 x25) 0 r p (fun n => V5_0 hx3 0 r n)
        (fun s n => V3_0 hx3 0 ⟨s.val, _⟩ n) (fun s => dec_at _ 0 r ⟨s.val, _⟩ (tb_at harg19 x17 i 1 0 0 rfl _ r _ (gcol i 1)) (ar_at harg23 x21 1 0 1 0 rfl rfl _ ⟨s.val, _⟩) (nm_at harg34 xs4 hx4 0 0 rfl _ r ⟨s.val, _⟩))
      (fun s => V1_0 hx3 0 ⟨s.val, _⟩ p) (fun s => tb_at harg20 x18 i 1 0 0 rfl _ ⟨s.val, _⟩ _ (gcol i 1))
        (fun s n => V3_0 hx3 0 ⟨128 + s.val, _⟩ n) (fun s => dec_at _ 0 r ⟨128 + s.val, _⟩ (tb_at harg19 x17 i 1 0 0 rfl _ r _ (gcol i 1)) (ar_at harg23 x21 1 0 1 0 rfl rfl _ ⟨128 + s.val, _⟩) (nm_at harg34 xs4 hx4 0 0 rfl _ r ⟨128 + s.val, _⟩))
      (fun s => V1_0 hx3 0 ⟨128 + s.val, _⟩ p) (fun s => tb_at harg20 x18 i 1 0 0 rfl _ ⟨128 + s.val, _⟩ _ (gcol i 1))
        (fun n => rfl) (tb_at harg22 x20 i 1 0 0 rfl _ r _ (gcol i 1))
  · refine g_at (KL i 1 doc x0 x1 x2 x3 x4 x5 x6 x7 x8 x9 x10 x11 x12 x13 x14 x15 x16 x17 x18 x19 x20 x21 x22 x25) 0 r q ?_ (sk_at harg2 x0 i 1 _ _) (V1_0 hx3 0 r q) (Z1_0 r q)
    refine ys_at (KL i 1 doc x0 x1 x2 x3 x4 x5 x6 x7 x8 x9 x10 x11 x12 x13 x14 x15 x16 x17 x18 x19 x20 x21 x22 x25) 0 r q (fun n => V5_0 hx3 0 r n)
        (fun s n => V3_0 hx3 0 ⟨s.val, _⟩ n) (fun s => dec_at _ 0 r ⟨s.val, _⟩ (tb_at harg19 x17 i 1 0 0 rfl _ r _ (gcol i 1)) (ar_at harg23 x21 1 0 1 0 rfl rfl _ ⟨s.val, _⟩) (nm_at harg34 xs4 hx4 0 0 rfl _ r ⟨s.val, _⟩))
      (fun s => V1_0 hx3 0 ⟨s.val, _⟩ q) (fun s => tb_at harg20 x18 i 1 0 0 rfl _ ⟨s.val, _⟩ _ (gcol i 1))
        (fun s n => V3_0 hx3 0 ⟨128 + s.val, _⟩ n) (fun s => dec_at _ 0 r ⟨128 + s.val, _⟩ (tb_at harg19 x17 i 1 0 0 rfl _ r _ (gcol i 1)) (ar_at harg23 x21 1 0 1 0 rfl rfl _ ⟨128 + s.val, _⟩) (nm_at harg34 xs4 hx4 0 0 rfl _ r ⟨128 + s.val, _⟩))
      (fun s => V1_0 hx3 0 ⟨128 + s.val, _⟩ q) (fun s => tb_at harg20 x18 i 1 0 0 rfl _ ⟨128 + s.val, _⟩ _ (gcol i 1))
        (fun n => rfl) (tb_at harg22 x20 i 1 0 0 rfl _ r _ (gcol i 1))

theorem G1_1 {doc : Fin 1024 → BitVec 32} (hx3 : MaskC doc xs3) (hx4 : MaskN doc xs4) (r : Fin 256) (p : Fin 128) :
    gw5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r p) = (KL i 1 doc x0 x1 x2 x3 x4 x5 x6 x7 x8 x9 x10 x11 x12 x13 x14 x15 x16 x17 x18 x19 x20 x21 x22 x25).G 1 r p := by
  unfold gw5
  simp only [mixRun.sl.r_105, mixRun.sl.r_106, mixRun.sl.r_88, mixRun.sl.r_99, mixRun.sl.r_101, mixRun.sl.r_102, mixRun.sl.r_67, mixRun.sl.r_103, mixRun.sl.r_96]
  pointwise [k0_pay141, k0_pay152, k0_pay153, k0_pay154, k0_pay155, k0_pay156, k0_pay158, k0_pay159, k0_pay160]
  refine G_at (KL i 1 doc x0 x1 x2 x3 x4 x5 x6 x7 x8 x9 x10 x11 x12 x13 x14 x15 x16 x17 x18 x19 x20 x21 x22 x25) 1 r p ?_ (fun q => ?_) (gw_at harg27 x25 1 128 rfl _ p)
  · refine g_at (KL i 1 doc x0 x1 x2 x3 x4 x5 x6 x7 x8 x9 x10 x11 x12 x13 x14 x15 x16 x17 x18 x19 x20 x21 x22 x25) 1 r p ?_ (sk_at harg2 x0 i 1 _ _) (V1_1 hx3 0 r p) (Z1_1 r p)
    refine ys_at (KL i 1 doc x0 x1 x2 x3 x4 x5 x6 x7 x8 x9 x10 x11 x12 x13 x14 x15 x16 x17 x18 x19 x20 x21 x22 x25) 1 r p (fun n => V5_1 hx3 0 r n)
        (fun s n => V3_1 hx3 0 ⟨s.val, _⟩ n) (fun s => dec_at _ 1 r ⟨s.val, _⟩ (tb_at harg19 x17 i 1 1 256 rfl _ r _ (gcol i 1)) (ar_at harg23 x21 1 1 1 256 rfl rfl _ ⟨s.val, _⟩) (nm_at harg34 xs4 hx4 1 1 rfl _ r ⟨s.val, _⟩))
      (fun s => V1_1 hx3 0 ⟨s.val, _⟩ p) (fun s => tb_at harg20 x18 i 1 1 256 rfl _ ⟨s.val, _⟩ _ (gcol i 1))
        (fun s n => V3_1 hx3 0 ⟨128 + s.val, _⟩ n) (fun s => dec_at _ 1 r ⟨128 + s.val, _⟩ (tb_at harg19 x17 i 1 1 256 rfl _ r _ (gcol i 1)) (ar_at harg23 x21 1 1 1 256 rfl rfl _ ⟨128 + s.val, _⟩) (nm_at harg34 xs4 hx4 1 1 rfl _ r ⟨128 + s.val, _⟩))
      (fun s => V1_1 hx3 0 ⟨128 + s.val, _⟩ p) (fun s => tb_at harg20 x18 i 1 1 256 rfl _ ⟨128 + s.val, _⟩ _ (gcol i 1))
        (fun n => S1_0 hx3 n p) (tb_at harg22 x20 i 1 1 256 rfl _ r _ (gcol i 1))
  · refine g_at (KL i 1 doc x0 x1 x2 x3 x4 x5 x6 x7 x8 x9 x10 x11 x12 x13 x14 x15 x16 x17 x18 x19 x20 x21 x22 x25) 1 r q ?_ (sk_at harg2 x0 i 1 _ _) (V1_1 hx3 0 r q) (Z1_1 r q)
    refine ys_at (KL i 1 doc x0 x1 x2 x3 x4 x5 x6 x7 x8 x9 x10 x11 x12 x13 x14 x15 x16 x17 x18 x19 x20 x21 x22 x25) 1 r q (fun n => V5_1 hx3 0 r n)
        (fun s n => V3_1 hx3 0 ⟨s.val, _⟩ n) (fun s => dec_at _ 1 r ⟨s.val, _⟩ (tb_at harg19 x17 i 1 1 256 rfl _ r _ (gcol i 1)) (ar_at harg23 x21 1 1 1 256 rfl rfl _ ⟨s.val, _⟩) (nm_at harg34 xs4 hx4 1 1 rfl _ r ⟨s.val, _⟩))
      (fun s => V1_1 hx3 0 ⟨s.val, _⟩ q) (fun s => tb_at harg20 x18 i 1 1 256 rfl _ ⟨s.val, _⟩ _ (gcol i 1))
        (fun s n => V3_1 hx3 0 ⟨128 + s.val, _⟩ n) (fun s => dec_at _ 1 r ⟨128 + s.val, _⟩ (tb_at harg19 x17 i 1 1 256 rfl _ r _ (gcol i 1)) (ar_at harg23 x21 1 1 1 256 rfl rfl _ ⟨128 + s.val, _⟩) (nm_at harg34 xs4 hx4 1 1 rfl _ r ⟨128 + s.val, _⟩))
      (fun s => V1_1 hx3 0 ⟨128 + s.val, _⟩ q) (fun s => tb_at harg20 x18 i 1 1 256 rfl _ ⟨128 + s.val, _⟩ _ (gcol i 1))
        (fun n => S1_0 hx3 n q) (tb_at harg22 x20 i 1 1 256 rfl _ r _ (gcol i 1))

theorem G1_2 {doc : Fin 1024 → BitVec 32} (hx3 : MaskC doc xs3) (hx4 : MaskN doc xs4) (r : Fin 256) (p : Fin 128) :
    gw6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r p) = (KL i 1 doc x0 x1 x2 x3 x4 x5 x6 x7 x8 x9 x10 x11 x12 x13 x14 x15 x16 x17 x18 x19 x20 x21 x22 x25).G 2 r p := by
  unfold gw6
  simp only [mixRun.sl.r_114, mixRun.sl.r_107, mixRun.sl.r_112, mixRun.sl.r_96, mixRun.sl.r_88, mixRun.sl.r_108, mixRun.sl.r_109, mixRun.sl.r_75, mixRun.sl.r_110, mixRun.sl.r_111]
  pointwise [k0_pay141, k0_pay162, k0_pay163, k0_pay164, k0_pay165, k0_pay166, k0_pay167, k0_pay170]
  refine G_at (KL i 1 doc x0 x1 x2 x3 x4 x5 x6 x7 x8 x9 x10 x11 x12 x13 x14 x15 x16 x17 x18 x19 x20 x21 x22 x25) 2 r p ?_ (fun q => ?_) (gw_at harg27 x25 1 128 rfl _ p)
  · refine g_at (KL i 1 doc x0 x1 x2 x3 x4 x5 x6 x7 x8 x9 x10 x11 x12 x13 x14 x15 x16 x17 x18 x19 x20 x21 x22 x25) 2 r p ?_ (sk_at harg2 x0 i 1 _ _) (V1_2 hx3 0 r p) (Z1_2 r p)
    refine ys_at (KL i 1 doc x0 x1 x2 x3 x4 x5 x6 x7 x8 x9 x10 x11 x12 x13 x14 x15 x16 x17 x18 x19 x20 x21 x22 x25) 2 r p (fun n => V5_2 hx3 0 r n)
        (fun s n => V3_2 hx3 0 ⟨s.val, _⟩ n) (fun s => dec_at _ 2 r ⟨s.val, _⟩ (tb_at harg19 x17 i 1 2 512 rfl _ r _ (gcol i 1)) (ar_at harg23 x21 1 2 1 512 rfl rfl _ ⟨s.val, _⟩) (nm_at harg34 xs4 hx4 2 2 rfl _ r ⟨s.val, _⟩))
      (fun s => V1_2 hx3 0 ⟨s.val, _⟩ p) (fun s => tb_at harg20 x18 i 1 2 512 rfl _ ⟨s.val, _⟩ _ (gcol i 1))
        (fun s n => V3_2 hx3 0 ⟨128 + s.val, _⟩ n) (fun s => dec_at _ 2 r ⟨128 + s.val, _⟩ (tb_at harg19 x17 i 1 2 512 rfl _ r _ (gcol i 1)) (ar_at harg23 x21 1 2 1 512 rfl rfl _ ⟨128 + s.val, _⟩) (nm_at harg34 xs4 hx4 2 2 rfl _ r ⟨128 + s.val, _⟩))
      (fun s => V1_2 hx3 0 ⟨128 + s.val, _⟩ p) (fun s => tb_at harg20 x18 i 1 2 512 rfl _ ⟨128 + s.val, _⟩ _ (gcol i 1))
        (fun n => S1_1 hx3 n p) (tb_at harg22 x20 i 1 2 512 rfl _ r _ (gcol i 1))
  · refine g_at (KL i 1 doc x0 x1 x2 x3 x4 x5 x6 x7 x8 x9 x10 x11 x12 x13 x14 x15 x16 x17 x18 x19 x20 x21 x22 x25) 2 r q ?_ (sk_at harg2 x0 i 1 _ _) (V1_2 hx3 0 r q) (Z1_2 r q)
    refine ys_at (KL i 1 doc x0 x1 x2 x3 x4 x5 x6 x7 x8 x9 x10 x11 x12 x13 x14 x15 x16 x17 x18 x19 x20 x21 x22 x25) 2 r q (fun n => V5_2 hx3 0 r n)
        (fun s n => V3_2 hx3 0 ⟨s.val, _⟩ n) (fun s => dec_at _ 2 r ⟨s.val, _⟩ (tb_at harg19 x17 i 1 2 512 rfl _ r _ (gcol i 1)) (ar_at harg23 x21 1 2 1 512 rfl rfl _ ⟨s.val, _⟩) (nm_at harg34 xs4 hx4 2 2 rfl _ r ⟨s.val, _⟩))
      (fun s => V1_2 hx3 0 ⟨s.val, _⟩ q) (fun s => tb_at harg20 x18 i 1 2 512 rfl _ ⟨s.val, _⟩ _ (gcol i 1))
        (fun s n => V3_2 hx3 0 ⟨128 + s.val, _⟩ n) (fun s => dec_at _ 2 r ⟨128 + s.val, _⟩ (tb_at harg19 x17 i 1 2 512 rfl _ r _ (gcol i 1)) (ar_at harg23 x21 1 2 1 512 rfl rfl _ ⟨128 + s.val, _⟩) (nm_at harg34 xs4 hx4 2 2 rfl _ r ⟨128 + s.val, _⟩))
      (fun s => V1_2 hx3 0 ⟨128 + s.val, _⟩ q) (fun s => tb_at harg20 x18 i 1 2 512 rfl _ ⟨128 + s.val, _⟩ _ (gcol i 1))
        (fun n => S1_1 hx3 n q) (tb_at harg22 x20 i 1 2 512 rfl _ r _ (gcol i 1))

theorem G1_3 {doc : Fin 1024 → BitVec 32} (hx3 : MaskC doc xs3) (hx4 : MaskN doc xs4) (r : Fin 256) (p : Fin 128) :
    gw7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r p) = (KL i 1 doc x0 x1 x2 x3 x4 x5 x6 x7 x8 x9 x10 x11 x12 x13 x14 x15 x16 x17 x18 x19 x20 x21 x22 x25).G 3 r p := by
  unfold gw7
  simp only [mixRun.sl.r_119, mixRun.sl.r_88, mixRun.sl.r_116, mixRun.sl.r_117, mixRun.sl.r_118, mixRun.sl.r_85, mixRun.sl.r_96]
  pointwise [k0_pay141, k0_pay173, k0_pay174, k0_pay175, k0_pay176]
  refine G_at (KL i 1 doc x0 x1 x2 x3 x4 x5 x6 x7 x8 x9 x10 x11 x12 x13 x14 x15 x16 x17 x18 x19 x20 x21 x22 x25) 3 r p ?_ (fun q => ?_) (gw_at harg27 x25 1 128 rfl _ p)
  · refine g_at (KL i 1 doc x0 x1 x2 x3 x4 x5 x6 x7 x8 x9 x10 x11 x12 x13 x14 x15 x16 x17 x18 x19 x20 x21 x22 x25) 3 r p ?_ (sk_at harg2 x0 i 1 _ _) (V1_3 hx3 0 r p) (Z1_3 r p)
    refine ys_at (KL i 1 doc x0 x1 x2 x3 x4 x5 x6 x7 x8 x9 x10 x11 x12 x13 x14 x15 x16 x17 x18 x19 x20 x21 x22 x25) 3 r p (fun n => V5_3 hx3 0 r n)
        (fun s n => V3_3 hx3 0 ⟨s.val, _⟩ n) (fun s => dec_at _ 3 r ⟨s.val, _⟩ (tb_at harg19 x17 i 1 3 768 rfl _ r _ (gcol i 1)) (ar_at harg23 x21 1 3 1 768 rfl rfl _ ⟨s.val, _⟩) (nm_at harg34 xs4 hx4 3 3 rfl _ r ⟨s.val, _⟩))
      (fun s => V1_3 hx3 0 ⟨s.val, _⟩ p) (fun s => tb_at harg20 x18 i 1 3 768 rfl _ ⟨s.val, _⟩ _ (gcol i 1))
        (fun s n => V3_3 hx3 0 ⟨128 + s.val, _⟩ n) (fun s => dec_at _ 3 r ⟨128 + s.val, _⟩ (tb_at harg19 x17 i 1 3 768 rfl _ r _ (gcol i 1)) (ar_at harg23 x21 1 3 1 768 rfl rfl _ ⟨128 + s.val, _⟩) (nm_at harg34 xs4 hx4 3 3 rfl _ r ⟨128 + s.val, _⟩))
      (fun s => V1_3 hx3 0 ⟨128 + s.val, _⟩ p) (fun s => tb_at harg20 x18 i 1 3 768 rfl _ ⟨128 + s.val, _⟩ _ (gcol i 1))
        (fun n => S1_2 hx3 n p) (tb_at harg22 x20 i 1 3 768 rfl _ r _ (gcol i 1))
  · refine g_at (KL i 1 doc x0 x1 x2 x3 x4 x5 x6 x7 x8 x9 x10 x11 x12 x13 x14 x15 x16 x17 x18 x19 x20 x21 x22 x25) 3 r q ?_ (sk_at harg2 x0 i 1 _ _) (V1_3 hx3 0 r q) (Z1_3 r q)
    refine ys_at (KL i 1 doc x0 x1 x2 x3 x4 x5 x6 x7 x8 x9 x10 x11 x12 x13 x14 x15 x16 x17 x18 x19 x20 x21 x22 x25) 3 r q (fun n => V5_3 hx3 0 r n)
        (fun s n => V3_3 hx3 0 ⟨s.val, _⟩ n) (fun s => dec_at _ 3 r ⟨s.val, _⟩ (tb_at harg19 x17 i 1 3 768 rfl _ r _ (gcol i 1)) (ar_at harg23 x21 1 3 1 768 rfl rfl _ ⟨s.val, _⟩) (nm_at harg34 xs4 hx4 3 3 rfl _ r ⟨s.val, _⟩))
      (fun s => V1_3 hx3 0 ⟨s.val, _⟩ q) (fun s => tb_at harg20 x18 i 1 3 768 rfl _ ⟨s.val, _⟩ _ (gcol i 1))
        (fun s n => V3_3 hx3 0 ⟨128 + s.val, _⟩ n) (fun s => dec_at _ 3 r ⟨128 + s.val, _⟩ (tb_at harg19 x17 i 1 3 768 rfl _ r _ (gcol i 1)) (ar_at harg23 x21 1 3 1 768 rfl rfl _ ⟨128 + s.val, _⟩) (nm_at harg34 xs4 hx4 3 3 rfl _ r ⟨128 + s.val, _⟩))
      (fun s => V1_3 hx3 0 ⟨128 + s.val, _⟩ q) (fun s => tb_at harg20 x18 i 1 3 768 rfl _ ⟨128 + s.val, _⟩ _ (gcol i 1))
        (fun n => S1_2 hx3 n q) (tb_at harg22 x20 i 1 3 768 rfl _ r _ (gcol i 1))

end Cert.MixerIdeal.Gen
-- ==== Proof.MixVal6.lean ====
/- What the body's stores of the gated values and of the running maxima hold, element by element. -/
module

public import proofs.«01_k».proof.Proof.MixVal0
public import proofs.«01_k».proof.Proof.MixVal4

@[expose] public section

set_option maxRecDepth 16384

noncomputable section

namespace Cert.MixerIdeal.Gen

open Idealize.ShloMosaic Idealize.ShloMosaic.TcCoe Idealize.ShloMosaic.Tactic
open Idealize.ShloMosaic.Rounds
open Cert Cert.Mix
open scoped BigOperators

/-- Reading under the last store of a chunk of rows. -/
theorem canon_hit (o : ℕ) (inb) (w : S256x128.Idx → Elt Ideal .f32) (L : List (View.Piece (Elt Ideal) S1024x128 .f32)) (R : Fin 1024) (r : Fin 256) (q : Fin 128) (hR : R.val = o + r.val) :
    View.canon (⟨Rect.unit (s := S1024x128) ![o, 0] S256x128.size inb, w⟩ :: L) (ix2 R q) = w (ix2 r q) := by
  have e : (Rect.unit (s := S1024x128) ![o, 0] S256x128.size inb).emb (ix2 r q) = ix2 R q := by
    refine funext fun a => Fin.ext ?_
    rw [Rect.emb_apply]
    fin_cases a
    · show o + 1 * r.val = R.val; omega
    · show 0 + 1 * q.val = q.val; omega
  rw [← e]
  exact View.canon_cons_emb (Rect.unit (s := S1024x128) ![o, 0] S256x128.size inb) w L (ix2 r q)

/-- Reading past a store of another chunk of rows. -/
theorem canon_miss (o : ℕ) (inb) (w : S256x128.Idx → Elt Ideal .f32) (L : List (View.Piece (Elt Ideal) S1024x128 .f32)) (R : Fin 1024) (q : Fin 128) (hR : R.val < o ∨ o + 256 ≤ R.val) :
    View.canon (⟨Rect.unit (s := S1024x128) ![o, 0] S256x128.size inb, w⟩ :: L) (ix2 R q) = View.canon L (ix2 R q) := by
  refine View.canon_cons_of_not_mem _ _ fun h => ?_
  obtain ⟨x, hx⟩ := (Rect.unit (s := S1024x128) ![o, 0] S256x128.size inb).exists_idx_of_mem h
  have h0 : o + 1 * (x 0).val = R.val := congrArg Fin.val (congrFun hx 0)
  have h1 : (x 0).val < 256 := (x 0).isLt
  omega

theorem readCov_at (v : View sig .tc .vmem S1024x128 .f32) (L : List (View.Piece (Elt Ideal) S1024x128 .f32)) (o : ℕ) (inb) (R : Fin 1024) (r : Fin 256) (q : Fin 128) (hR : R.val = o + r.val) :
    v.readCov L (Rect.unit (s := S1024x128) ![o, 0] S256x128.size inb).toLoadRect (ix2 r q) = View.canon L (ix2 R q) := by
  rw [View.readCov_eq_canon']
  refine congrArg (View.canon L) ?_
  refine funext fun a => Fin.ext ?_
  refine (Rect.idx_unit_val _ _ inb (ix2 r q) a).trans ?_
  fin_cases a
  · show o + r.val = R.val; omega
  · show 0 + q.val = q.val; omega

/-- The absolute value over the extended reals. -/
theorem mxs_at0 (g prev : Vec Ideal S256x128 .f32) (r : Fin 256) (q : Fin 128) : mxs 0#1 g prev (ix2 r q) = max (prev (ix2 r q)) (max (g (ix2 r q)) (-g (ix2 r q))) := by
  have h : mxs 0#1 g prev = (maximumf (F := Ideal) (φ := .f32) (shapeCast S256x128 prev shapeCasts_S256x128_S256x128) (absf g) : FVec Ideal S256x128 .f32) := by
    unfold mxs; rfl
  rw [h]
  pointwise
  rfl

theorem mxs_at1 (g prev : Vec Ideal S256x128 .f32) (r : Fin 256) (q : Fin 128) : mxs 1#1 g prev (ix2 r q) = max (g (ix2 r q)) (-g (ix2 r q)) := by
  rw [mxs_one]; rfl

theorem mx8_at (arg29 : Memref sig .tc .vmem S1024x128 .f32) (g4 g5 g6 g7 : Vec Ideal S256x128 .f32) (L : List (View.Piece (Elt Ideal) S1024x128 .f32)) (k : Fin 4) (r : Fin 256) (q : Fin 128) :
    View.canon (mx8 0#1 arg29 g4 g5 g6 g7 L) (ix2 (row k r) q) = max (View.canon L (ix2 (row k r) q)) (max (![g4, g5, g6, g7] k (ix2 r q)) (-![g4, g5, g6, g7] k (ix2 r q))) := by
  unfold mx8
  fin_cases k
  · have hR : (row 0 r).val = 0 + r.val := rfl
    show View.canon _ (ix2 (row 0 r) q) = max (View.canon L (ix2 (row 0 r) q)) (max (g4 (ix2 r q)) (-g4 (ix2 r q)))
    refine (canon_miss 768 _ _ _ _ _ (by omega)).trans ?_
    refine (canon_miss 512 _ _ _ _ _ (by omega)).trans ?_
    refine (canon_miss 256 _ _ _ _ _ (by omega)).trans ?_
    refine (canon_hit 0 _ _ _ _ r _ hR).trans ?_
    refine (mxs_at0 _ _ _ _).trans (congrArg (max · _) ?_)
    refine (readCov_at _ _ 0 _ (row 0 r) r q hR).trans ?_
    rfl
  · have hR : (row 1 r).val = 256 + r.val := rfl
    show View.canon _ (ix2 (row 1 r) q) = max (View.canon L (ix2 (row 1 r) q)) (max (g5 (ix2 r q)) (-g5 (ix2 r q)))
    refine (canon_miss 768 _ _ _ _ _ (by omega)).trans ?_
    refine (canon_miss 512 _ _ _ _ _ (by omega)).trans ?_
    refine (canon_hit 256 _ _ _ _ r _ hR).trans ?_
    refine (mxs_at0 _ _ _ _).trans (congrArg (max · _) ?_)
    refine (readCov_at _ _ 256 _ (row 1 r) r q hR).trans ?_
    refine (canon_miss 0 _ _ _ _ _ (by omega)).trans ?_
    rfl
  · have hR : (row 2 r).val = 512 + r.val := rfl
    show View.canon _ (ix2 (row 2 r) q) = max (View.canon L (ix2 (row 2 r) q)) (max (g6 (ix2 r q)) (-g6 (ix2 r q)))
    refine (canon_miss 768 _ _ _ _ _ (by omega)).trans ?_
    refine (canon_hit 512 _ _ _ _ r _ hR).trans ?_
    refine (mxs_at0 _ _ _ _).trans (congrArg (max · _) ?_)
    refine (readCov_at _ _ 512 _ (row 2 r) r q hR).trans ?_
    refine (canon_miss 256 _ _ _ _ _ (by omega)).trans ?_
    refine (canon_miss 0 _ _ _ _ _ (by omega)).trans ?_
    rfl
  · have hR : (row 3 r).val = 768 + r.val := rfl
    show View.canon _ (ix2 (row 3 r) q) = max (View.canon L (ix2 (row 3 r) q)) (max (g7 (ix2 r q)) (-g7 (ix2 r q)))
    refine (canon_hit 768 _ _ _ _ r _ hR).trans ?_
    refine (mxs_at0 _ _ _ _).trans (congrArg (max · _) ?_)
    refine (readCov_at _ _ 768 _ (row 3 r) r q hR).trans ?_
    refine (canon_miss 512 _ _ _ _ _ (by omega)).trans ?_
    refine (canon_miss 256 _ _ _ _ _ (by omega)).trans ?_
    refine (canon_miss 0 _ _ _ _ _ (by omega)).trans ?_
    rfl

theorem mx4_at0 (arg29 : Memref sig .tc .vmem S1024x128 .f32) (harg29 : arg29.IsWhole) (xo : Vec Ideal S1024x128 .f32) (g0 g1 g2 g3 : Vec Ideal S256x128 .f32) (k : Fin 4) (r : Fin 256) (q : Fin 128) :
    View.canon (mx4 0#1 arg29 harg29 xo g0 g1 g2 g3) (ix2 (row k r) q) = max (xo (ix2 (row k r) q)) (max (![g0, g1, g2, g3] k (ix2 r q)) (-![g0, g1, g2, g3] k (ix2 r q))) := by
  unfold mx4
  fin_cases k
  · have hR : (row 0 r).val = 0 + r.val := rfl
    show View.canon _ (ix2 (row 0 r) q) = max (xo (ix2 (row 0 r) q)) (max (g0 (ix2 r q)) (-g0 (ix2 r q)))
    refine (canon_miss 768 _ _ _ _ _ (by omega)).trans ?_
    refine (canon_miss 512 _ _ _ _ _ (by omega)).trans ?_
    refine (canon_miss 256 _ _ _ _ _ (by omega)).trans ?_
    refine (canon_hit 0 _ _ _ _ r _ hR).trans ?_
    refine (mxs_at0 _ _ _ _).trans (congrArg (max · _) ?_)
    refine (ld2 harg29 xo 0 0 _ r q (by omega) (by omega)).trans (congrArg xo ((ix2_inj _ _ _ _).2 ⟨Fin.ext hR.symm, Fin.ext (Nat.zero_add _)⟩))
  · have hR : (row 1 r).val = 256 + r.val := rfl
    show View.canon _ (ix2 (row 1 r) q) = max (xo (ix2 (row 1 r) q)) (max (g1 (ix2 r q)) (-g1 (ix2 r q)))
    refine (canon_miss 768 _ _ _ _ _ (by omega)).trans ?_
    refine (canon_miss 512 _ _ _ _ _ (by omega)).trans ?_
    refine (canon_hit 256 _ _ _ _ r _ hR).trans ?_
    refine (mxs_at0 _ _ _ _).trans (congrArg (max · _) ?_)
    refine (ld2 harg29 xo 256 0 _ r q (by omega) (by omega)).trans (congrArg xo ((ix2_inj _ _ _ _).2 ⟨Fin.ext hR.symm, Fin.ext (Nat.zero_add _)⟩))
  · have hR : (row 2 r).val = 512 + r.val := rfl
    show View.canon _ (ix2 (row 2 r) q) = max (xo (ix2 (row 2 r) q)) (max (g2 (ix2 r q)) (-g2 (ix2 r q)))
    refine (canon_miss 768 _ _ _ _ _ (by omega)).trans ?_
    refine (canon_hit 512 _ _ _ _ r _ hR).trans ?_
    refine (mxs_at0 _ _ _ _).trans (congrArg (max · _) ?_)
    refine (ld2 harg29 xo 512 0 _ r q (by omega) (by omega)).trans (congrArg xo ((ix2_inj _ _ _ _).2 ⟨Fin.ext hR.symm, Fin.ext (Nat.zero_add _)⟩))
  · have hR : (row 3 r).val = 768 + r.val := rfl
    show View.canon _ (ix2 (row 3 r) q) = max (xo (ix2 (row 3 r) q)) (max (g3 (ix2 r q)) (-g3 (ix2 r q)))
    refine (canon_hit 768 _ _ _ _ r _ hR).trans ?_
    refine (mxs_at0 _ _ _ _).trans (congrArg (max · _) ?_)
    refine (ld2 harg29 xo 768 0 _ r q (by omega) (by omega)).trans (congrArg xo ((ix2_inj _ _ _ _).2 ⟨Fin.ext hR.symm, Fin.ext (Nat.zero_add _)⟩))

theorem mx4_at1 (arg29 : Memref sig .tc .vmem S1024x128 .f32) (harg29 : arg29.IsWhole) (xo : Vec Ideal S1024x128 .f32) (g0 g1 g2 g3 : Vec Ideal S256x128 .f32) (k : Fin 4) (r : Fin 256) (q : Fin 128) :
    View.canon (mx4 1#1 arg29 harg29 xo g0 g1 g2 g3) (ix2 (row k r) q) = max (![g0, g1, g2, g3] k (ix2 r q)) (-![g0, g1, g2, g3] k (ix2 r q)) := by
  unfold mx4
  fin_cases k
  · have hR : (row 0 r).val = 0 + r.val := rfl
    show View.canon _ (ix2 (row 0 r) q) = max (g0 (ix2 r q)) (-g0 (ix2 r q))
    refine (canon_miss 768 _ _ _ _ _ (by omega)).trans ?_
    refine (canon_miss 512 _ _ _ _ _ (by omega)).trans ?_
    refine (canon_miss 256 _ _ _ _ _ (by omega)).trans ?_
    refine (canon_hit 0 _ _ _ _ r _ hR).trans ?_
    exact mxs_at1 _ _ _ _
  · have hR : (row 1 r).val = 256 + r.val := rfl
    show View.canon _ (ix2 (row 1 r) q) = max (g1 (ix2 r q)) (-g1 (ix2 r q))
    refine (canon_miss 768 _ _ _ _ _ (by omega)).trans ?_
    refine (canon_miss 512 _ _ _ _ _ (by omega)).trans ?_
    refine (canon_hit 256 _ _ _ _ r _ hR).trans ?_
    exact mxs_at1 _ _ _ _
  · have hR : (row 2 r).val = 512 + r.val := rfl
    show View.canon _ (ix2 (row 2 r) q) = max (g2 (ix2 r q)) (-g2 (ix2 r q))
    refine (canon_miss 768 _ _ _ _ _ (by omega)).trans ?_
    refine (canon_hit 512 _ _ _ _ r _ hR).trans ?_
    exact mxs_at1 _ _ _ _
  · have hR : (row 3 r).val = 768 + r.val := rfl
    show View.canon _ (ix2 (row 3 r) q) = max (g3 (ix2 r q)) (-g3 (ix2 r q))
    refine (canon_hit 768 _ _ _ _ r _ hR).trans ?_
    exact mxs_at1 _ _ _ _

variable {c : Dev nD} {i : grid0.Coords} {arg2 : Memref sig .tc .smem S64 .f32} {harg2 : arg2.IsWhole} {arg3 : Memref sig .tc .vmem S1024x7168 .fp8e4m3} {harg3 : arg3.IsWhole} {arg4 : Memref sig .tc .vmem S1024x1 .f32} {harg4 : arg4.IsWhole} {arg5 : Memref sig .tc .vmem S256x7168 .fp8e4m3} {harg5 : arg5.IsWhole} {arg6 : Memref sig .tc .vmem S256x7168 .fp8e4m3} {harg6 : arg6.IsWhole} {arg7 : Memref sig .tc .vmem S256x7168 .fp8e4m3} {harg7 : arg7.IsWhole} {arg8 : Memref sig .tc .vmem S256x7168 .fp8e4m3} {harg8 : arg8.IsWhole} {arg9 : Memref sig .tc .vmem S1x256 .f32} {harg9 : arg9.IsWhole} {arg10 : Memref sig .tc .vmem S1x256 .f32} {harg10 : arg10.IsWhole} {arg11 : Memref sig .tc .vmem S1x256 .f32} {harg11 : arg11.IsWhole} {arg12 : Memref sig .tc .vmem S1x256 .f32} {harg12 : arg12.IsWhole} {arg13 : Memref sig .tc .vmem S4x256 .f32} {harg13 : arg13.IsWhole} {arg14 : Memref sig .tc .vmem S4x256 .f32} {harg14 : arg14.IsWhole} {arg15 : Memref sig .tc .vmem S4x256 .f32} {harg15 : arg15.IsWhole} {arg16 : Memref sig .tc .vmem S1x256 .f32} {harg16 : arg16.IsWhole} {arg17 : Memref sig .tc .vmem S1x256 .f32} {harg17 : arg17.IsWhole} {arg18 : Memref sig .tc .vmem S1x256 .f32} {harg18 : arg18.IsWhole} {arg19 : Memref sig .tc .vmem S1024x128 .f32} {harg19 : arg19.IsWhole} {arg20 : Memref sig .tc .vmem S1024x128 .f32} {harg20 : arg20.IsWhole} {arg21 : Memref sig .tc .vmem S1024x128 .f32} {harg21 : arg21.IsWhole} {arg22 : Memref sig .tc .vmem S1024x128 .f32} {harg22 : arg22.IsWhole} {arg23 : Memref sig .tc .vmem S1x2x1024 .f32} {harg23 : arg23.IsWhole} {arg24 : Memref sig .tc .vmem S1x2x512 .f32} {harg24 : arg24.IsWhole} {arg25 : Memref sig .tc .vmem S1024x1 .i32} {harg25 : arg25.IsWhole} {arg26 : Memref sig .tc .vmem S1x1x1024 .i32} {harg26 : arg26.IsWhole} {arg27 : Memref sig .tc .vmem S1x256 .bf16} {harg27 : arg27.IsWhole} {arg28 : Memref sig .tc .vmem S1024x256 .f32} {harg28 : arg28.IsWhole} {arg29 : Memref sig .tc .vmem S1024x128 .f32} {harg29 : arg29.IsWhole} {arg30 : Memref sig .tc .vmem S6x1032x128 .f32} {harg30 : arg30.IsWhole} {arg31 : Memref sig .tc .vmem S6x1024x128 .f32} {harg31 : arg31.IsWhole} {arg32 : Memref sig .tc .vmem S1024x256 .f32} {harg32 : arg32.IsWhole} {arg33 : Memref sig .tc .vmem S3x1024x128 .f32} {harg33 : arg33.IsWhole} {arg34 : Memref sig .tc .vmem S4x256x256 .f32} {harg34 : arg34.IsWhole}
    {x0 : Vec Ideal S64 .f32} {x1 : Vec Ideal S1024x7168 .fp8e4m3} {x2 : Vec Ideal S1024x1 .f32} {x3 : Vec Ideal S256x7168 .fp8e4m3} {x4 : Vec Ideal S256x7168 .fp8e4m3} {x5 : Vec Ideal S256x7168 .fp8e4m3} {x6 : Vec Ideal S256x7168 .fp8e4m3} {x7 : Vec Ideal S1x256 .f32} {x8 : Vec Ideal S1x256 .f32} {x9 : Vec Ideal S1x256 .f32} {x10 : Vec Ideal S1x256 .f32} {x11 : Vec Ideal S4x256 .f32} {x12 : Vec Ideal S4x256 .f32} {x13 : Vec Ideal S4x256 .f32} {x14 : Vec Ideal S1x256 .f32} {x15 : Vec Ideal S1x256 .f32} {x16 : Vec Ideal S1x256 .f32} {x17 : Vec Ideal S1024x128 .f32} {x18 : Vec Ideal S1024x128 .f32} {x19 : Vec Ideal S1024x128 .f32} {x20 : Vec Ideal S1024x128 .f32} {x21 : Vec Ideal S1x2x1024 .f32} {x22 : Vec Ideal S1x2x512 .f32} {x23 : Vec Ideal S1024x1 .i32} {x24 : Vec Ideal S1x1x1024 .i32} {x25 : Vec Ideal S1x256 .bf16} {xo27 : Vec Ideal S1024x128 .f32} {xs3 : Vec Ideal S3x1024x128 .f32} {xs4 : Vec Ideal S4x256x256 .f32}

theorem o26_of {doc : Fin 1024 → BitVec 32} (v : View sig .tc .vmem S1024x256 .f32) (hx3 : MaskC doc xs3) (hx4 : MaskN doc xs4) (hd : Fin 2) (k : Fin 4) (r : Fin 256) (p : Fin 128) :
    v.read (Elt Ideal) (v.writes (Elt Ideal) v.junk (mixRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xo27 xs3 xs4).1) (ix2 (row k r) (⟨128 * hd.val + p.val, by omega⟩ : Fin 256)) = (KL i hd doc x0 x1 x2 x3 x4 x5 x6 x7 x8 x9 x10 x11 x12 x13 x14 x15 x16 x17 x18 x19 x20 x21 x22 x25).G k r p := by
  rw [View.read_writes_junk_eq_canon]
  have hcov := View.cover_of_tiledL (mixRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xo27 xs3 xs4).1 S256x128.size (by sl_kernel_rfl) (ix2 (row k r) (⟨128 * hd.val + p.val, by omega⟩ : Fin 256))
  refine View.canon_eq_of_allAt _ _ _ hcov ?_
  rw [L26_eq]
  repeat' (first | exact View.allAt_nil _ _ | refine View.allAt_cons_unit _ _ _ _ _ ?_ ?_)
  all_goals
    intro x h
    obtain ⟨x0', x1', rfl⟩ : ∃ (x0' : Fin 256) (x1' : Fin 128), x = ix2 x0' x1' := ⟨x 0, x 1, eq_ix2 (n0 := 256) (n1 := 128) x⟩
  · have h0 : k.val * 256 + r.val = 768 + x0'.val := h 0
    have h1 : 128 * hd.val + p.val = 128 + x1'.val := h 1
    obtain rfl : k = 3 := Fin.ext (by show k.val = 3; omega)
    obtain rfl : hd = 1 := Fin.ext (by show hd.val = 1; omega)
    obtain rfl : r = x0' := Fin.ext (by change 3 * 256 + r.val = _ at h0; omega)
    obtain rfl : p = x1' := Fin.ext (by change 128 * 1 + p.val = _ at h1; omega)
    exact G1_3 hx3 hx4 r p
  · have h0 : k.val * 256 + r.val = 512 + x0'.val := h 0
    have h1 : 128 * hd.val + p.val = 128 + x1'.val := h 1
    obtain rfl : k = 2 := Fin.ext (by show k.val = 2; omega)
    obtain rfl : hd = 1 := Fin.ext (by show hd.val = 1; omega)
    obtain rfl : r = x0' := Fin.ext (by change 2 * 256 + r.val = _ at h0; omega)
    obtain rfl : p = x1' := Fin.ext (by change 128 * 1 + p.val = _ at h1; omega)
    exact G1_2 hx3 hx4 r p
  · have h0 : k.val * 256 + r.val = 256 + x0'.val := h 0
    have h1 : 128 * hd.val + p.val = 128 + x1'.val := h 1
    obtain rfl : k = 1 := Fin.ext (by show k.val = 1; omega)
    obtain rfl : hd = 1 := Fin.ext (by show hd.val = 1; omega)
    obtain rfl : r = x0' := Fin.ext (by change 1 * 256 + r.val = _ at h0; omega)
    obtain rfl : p = x1' := Fin.ext (by change 128 * 1 + p.val = _ at h1; omega)
    exact G1_1 hx3 hx4 r p
  · have h0 : k.val * 256 + r.val = 0 + x0'.val := h 0
    have h1 : 128 * hd.val + p.val = 128 + x1'.val := h 1
    obtain rfl : k = 0 := Fin.ext (by show k.val = 0; omega)
    obtain rfl : hd = 1 := Fin.ext (by show hd.val = 1; omega)
    obtain rfl : r = x0' := Fin.ext (by change 0 * 256 + r.val = _ at h0; omega)
    obtain rfl : p = x1' := Fin.ext (by change 128 * 1 + p.val = _ at h1; omega)
    exact G1_0 hx3 hx4 r p
  · have h0 : k.val * 256 + r.val = 768 + x0'.val := h 0
    have h1 : 128 * hd.val + p.val = 0 + x1'.val := h 1
    obtain rfl : k = 3 := Fin.ext (by show k.val = 3; omega)
    obtain rfl : hd = 0 := Fin.ext (by show hd.val = 0; omega)
    obtain rfl : r = x0' := Fin.ext (by change 3 * 256 + r.val = _ at h0; omega)
    obtain rfl : p = x1' := Fin.ext (by change 128 * 0 + p.val = _ at h1; omega)
    exact G0_3 hx3 hx4 r p
  · have h0 : k.val * 256 + r.val = 512 + x0'.val := h 0
    have h1 : 128 * hd.val + p.val = 0 + x1'.val := h 1
    obtain rfl : k = 2 := Fin.ext (by show k.val = 2; omega)
    obtain rfl : hd = 0 := Fin.ext (by show hd.val = 0; omega)
    obtain rfl : r = x0' := Fin.ext (by change 2 * 256 + r.val = _ at h0; omega)
    obtain rfl : p = x1' := Fin.ext (by change 128 * 0 + p.val = _ at h1; omega)
    exact G0_2 hx3 hx4 r p
  · have h0 : k.val * 256 + r.val = 256 + x0'.val := h 0
    have h1 : 128 * hd.val + p.val = 0 + x1'.val := h 1
    obtain rfl : k = 1 := Fin.ext (by show k.val = 1; omega)
    obtain rfl : hd = 0 := Fin.ext (by show hd.val = 0; omega)
    obtain rfl : r = x0' := Fin.ext (by change 1 * 256 + r.val = _ at h0; omega)
    obtain rfl : p = x1' := Fin.ext (by change 128 * 0 + p.val = _ at h1; omega)
    exact G0_1 hx3 hx4 r p
  · have h0 : k.val * 256 + r.val = 0 + x0'.val := h 0
    have h1 : 128 * hd.val + p.val = 0 + x1'.val := h 1
    obtain rfl : k = 0 := Fin.ext (by show k.val = 0; omega)
    obtain rfl : hd = 0 := Fin.ext (by show hd.val = 0; omega)
    obtain rfl : r = x0' := Fin.ext (by change 0 * 256 + r.val = _ at h0; omega)
    obtain rfl : p = x1' := Fin.ext (by change 128 * 0 + p.val = _ at h1; omega)
    exact G0_0 hx3 hx4 r p

theorem o27_of0 {doc : Fin 1024 → BitVec 32} (v : View sig .tc .vmem S1024x128 .f32) (hi : (i 1).val ≠ 0) (hx3 : MaskC doc xs3) (hx4 : MaskN doc xs4) (k : Fin 4) (r : Fin 256) (q : Fin 128) :
    v.read (Elt Ideal) (v.writes (Elt Ideal) v.junk (mixRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xo27 xs3 xs4).2.1) (ix2 (row k r) q) = max (max (xo27 (ix2 (row k r) q)) (max ((KL i 0 doc x0 x1 x2 x3 x4 x5 x6 x7 x8 x9 x10 x11 x12 x13 x14 x15 x16 x17 x18 x19 x20 x21 x22 x25).G k r q) (-(KL i 0 doc x0 x1 x2 x3 x4 x5 x6 x7 x8 x9 x10 x11 x12 x13 x14 x15 x16 x17 x18 x19 x20 x21 x22 x25).G k r q))) (max ((KL i 1 doc x0 x1 x2 x3 x4 x5 x6 x7 x8 x9 x10 x11 x12 x13 x14 x15 x16 x17 x18 x19 x20 x21 x22 x25).G k r q) (-(KL i 1 doc x0 x1 x2 x3 x4 x5 x6 x7 x8 x9 x10 x11 x12 x13 x14 x15 x16 x17 x18 x19 x20 x21 x22 x25).G k r q)) := by
  have hb : Scalar.andi (Scalar.cmpi .eq (BitVec.ofNat 32 (i 1).val) 0#32) 1#1 = 0#1 := by
    have h : ∀ k : Fin 32, k.val ≠ 0 → Scalar.andi (Scalar.cmpi .eq (BitVec.ofNat 32 k.val) 0#32) 1#1 = 0#1 := by decide +kernel
    exact h ⟨(i 1).val, coord1_lt i⟩ hi
  have hb' : Scalar.andi (Scalar.cmpi .eq (BitVec.ofNat 32 (i 1).val) 0#32) 0#1 = 0#1 := BitVec.and_zero
  rw [View.read_writes_junk_eq_canon, L27_eq, hb, hb', mx8_at, mx4_at0]
  fin_cases k
  · have e0 : gw0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 0 doc x0 x1 x2 x3 x4 x5 x6 x7 x8 x9 x10 x11 x12 x13 x14 x15 x16 x17 x18 x19 x20 x21 x22 x25).G 0 r q := G0_0 hx3 hx4 r q
    have e1 : gw4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 1 doc x0 x1 x2 x3 x4 x5 x6 x7 x8 x9 x10 x11 x12 x13 x14 x15 x16 x17 x18 x19 x20 x21 x22 x25).G 0 r q := G1_0 hx3 hx4 r q
    exact congrArg₂ max (congrArg (max _) (congrArg₂ max e0 (congrArg Neg.neg e0))) (congrArg₂ max e1 (congrArg Neg.neg e1))
  · have e0 : gw1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 0 doc x0 x1 x2 x3 x4 x5 x6 x7 x8 x9 x10 x11 x12 x13 x14 x15 x16 x17 x18 x19 x20 x21 x22 x25).G 1 r q := G0_1 hx3 hx4 r q
    have e1 : gw5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 1 doc x0 x1 x2 x3 x4 x5 x6 x7 x8 x9 x10 x11 x12 x13 x14 x15 x16 x17 x18 x19 x20 x21 x22 x25).G 1 r q := G1_1 hx3 hx4 r q
    exact congrArg₂ max (congrArg (max _) (congrArg₂ max e0 (congrArg Neg.neg e0))) (congrArg₂ max e1 (congrArg Neg.neg e1))
  · have e0 : gw2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 0 doc x0 x1 x2 x3 x4 x5 x6 x7 x8 x9 x10 x11 x12 x13 x14 x15 x16 x17 x18 x19 x20 x21 x22 x25).G 2 r q := G0_2 hx3 hx4 r q
    have e1 : gw6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 1 doc x0 x1 x2 x3 x4 x5 x6 x7 x8 x9 x10 x11 x12 x13 x14 x15 x16 x17 x18 x19 x20 x21 x22 x25).G 2 r q := G1_2 hx3 hx4 r q
    exact congrArg₂ max (congrArg (max _) (congrArg₂ max e0 (congrArg Neg.neg e0))) (congrArg₂ max e1 (congrArg Neg.neg e1))
  · have e0 : gw3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 0 doc x0 x1 x2 x3 x4 x5 x6 x7 x8 x9 x10 x11 x12 x13 x14 x15 x16 x17 x18 x19 x20 x21 x22 x25).G 3 r q := G0_3 hx3 hx4 r q
    have e1 : gw7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 1 doc x0 x1 x2 x3 x4 x5 x6 x7 x8 x9 x10 x11 x12 x13 x14 x15 x16 x17 x18 x19 x20 x21 x22 x25).G 3 r q := G1_3 hx3 hx4 r q
    exact congrArg₂ max (congrArg (max _) (congrArg₂ max e0 (congrArg Neg.neg e0))) (congrArg₂ max e1 (congrArg Neg.neg e1))

theorem o27_of1 {doc : Fin 1024 → BitVec 32} (v : View sig .tc .vmem S1024x128 .f32) (hi : (i 1).val = 0) (hx3 : MaskC doc xs3) (hx4 : MaskN doc xs4) (k : Fin 4) (r : Fin 256) (q : Fin 128) :
    v.read (Elt Ideal) (v.writes (Elt Ideal) v.junk (mixRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xo27 xs3 xs4).2.1) (ix2 (row k r) q) = max (max ((KL i 0 doc x0 x1 x2 x3 x4 x5 x6 x7 x8 x9 x10 x11 x12 x13 x14 x15 x16 x17 x18 x19 x20 x21 x22 x25).G k r q) (-(KL i 0 doc x0 x1 x2 x3 x4 x5 x6 x7 x8 x9 x10 x11 x12 x13 x14 x15 x16 x17 x18 x19 x20 x21 x22 x25).G k r q)) (max ((KL i 1 doc x0 x1 x2 x3 x4 x5 x6 x7 x8 x9 x10 x11 x12 x13 x14 x15 x16 x17 x18 x19 x20 x21 x22 x25).G k r q) (-(KL i 1 doc x0 x1 x2 x3 x4 x5 x6 x7 x8 x9 x10 x11 x12 x13 x14 x15 x16 x17 x18 x19 x20 x21 x22 x25).G k r q)) := by
  have hb : Scalar.andi (Scalar.cmpi .eq (BitVec.ofNat 32 (i 1).val) 0#32) 1#1 = 1#1 := by
    exact first_bit i hi
  have hb' : Scalar.andi (Scalar.cmpi .eq (BitVec.ofNat 32 (i 1).val) 0#32) 0#1 = 0#1 := BitVec.and_zero
  rw [View.read_writes_junk_eq_canon, L27_eq, hb, hb', mx8_at, mx4_at1]
  fin_cases k
  · have e0 : gw0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 0 doc x0 x1 x2 x3 x4 x5 x6 x7 x8 x9 x10 x11 x12 x13 x14 x15 x16 x17 x18 x19 x20 x21 x22 x25).G 0 r q := G0_0 hx3 hx4 r q
    have e1 : gw4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 1 doc x0 x1 x2 x3 x4 x5 x6 x7 x8 x9 x10 x11 x12 x13 x14 x15 x16 x17 x18 x19 x20 x21 x22 x25).G 0 r q := G1_0 hx3 hx4 r q
    exact congrArg₂ max (congrArg₂ max e0 (congrArg Neg.neg e0)) (congrArg₂ max e1 (congrArg Neg.neg e1))
  · have e0 : gw1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 0 doc x0 x1 x2 x3 x4 x5 x6 x7 x8 x9 x10 x11 x12 x13 x14 x15 x16 x17 x18 x19 x20 x21 x22 x25).G 1 r q := G0_1 hx3 hx4 r q
    have e1 : gw5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 1 doc x0 x1 x2 x3 x4 x5 x6 x7 x8 x9 x10 x11 x12 x13 x14 x15 x16 x17 x18 x19 x20 x21 x22 x25).G 1 r q := G1_1 hx3 hx4 r q
    exact congrArg₂ max (congrArg₂ max e0 (congrArg Neg.neg e0)) (congrArg₂ max e1 (congrArg Neg.neg e1))
  · have e0 : gw2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 0 doc x0 x1 x2 x3 x4 x5 x6 x7 x8 x9 x10 x11 x12 x13 x14 x15 x16 x17 x18 x19 x20 x21 x22 x25).G 2 r q := G0_2 hx3 hx4 r q
    have e1 : gw6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 1 doc x0 x1 x2 x3 x4 x5 x6 x7 x8 x9 x10 x11 x12 x13 x14 x15 x16 x17 x18 x19 x20 x21 x22 x25).G 2 r q := G1_2 hx3 hx4 r q
    exact congrArg₂ max (congrArg₂ max e0 (congrArg Neg.neg e0)) (congrArg₂ max e1 (congrArg Neg.neg e1))
  · have e0 : gw3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 0 doc x0 x1 x2 x3 x4 x5 x6 x7 x8 x9 x10 x11 x12 x13 x14 x15 x16 x17 x18 x19 x20 x21 x22 x25).G 3 r q := G0_3 hx3 hx4 r q
    have e1 : gw7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 xs3 xs4 (ix2 r q) = (KL i 1 doc x0 x1 x2 x3 x4 x5 x6 x7 x8 x9 x10 x11 x12 x13 x14 x15 x16 x17 x18 x19 x20 x21 x22 x25).G 3 r q := G1_3 hx3 hx4 r q
    exact congrArg₂ max (congrArg₂ max e0 (congrArg Neg.neg e0)) (congrArg₂ max e1 (congrArg Neg.neg e1))

end Cert.MixerIdeal.Gen

end
-- ==== Proof.MixVal5.lean ====
/- What the first point of a batch leaves in the two carried mask buffers. -/
module

public import proofs.«01_k».proof.Proof.MixVal3

@[expose] public section

set_option maxRecDepth 16384

noncomputable section

namespace Cert.MixerIdeal.Gen

open Idealize.ShloMosaic Idealize.ShloMosaic.TcCoe Idealize.ShloMosaic.Tactic
open Idealize.ShloMosaic.Rounds
open scoped BigOperators

theorem negInf_eq : Ideal.ofBits .f32 0xFF800000#32 = ⊥ := by
  simp [Ideal.ofBits, Ideal.ieee]

theorem bit_at (a b : BitVec 32) (r s : ℕ) (hr : r < 2 ^ 31) (hs : s < 2 ^ 31) :
    IntOp.andi (IntOp.cmpi CmpIPredicate.eq a b) (IntOp.cmpi CmpIPredicate.sge (BitVec.ofNat 32 r) (BitVec.ofNat 32 s)) = if a = b ∧ s ≤ r then 1#1 else 0#1 := by
  rw [WordCmp.cmpi_eq_eq, WordCmp.cmpi_sge_ofNat hr hs]
  by_cases h1 : a = b <;> by_cases h2 : s ≤ r <;> simp [h1, h2, IntOp.andi]

theorem sel_at (P : Prop) [Decidable P] (b : BitVec 1) (hb : b = if P then 1#1 else 0#1) : Scalar.select b (0 : EReal) (Ideal.ofBits .f32 0xFF800000#32) = if P then 0 else ⊥ := by
  rw [hb, negInf_eq]
  split_ifs <;> rfl

theorem bitf (P : Prop) [Decidable P] (b : BitVec 1) (hb : b = if P then 1#1 else 0#1) : (FloatOps.sitofp (F := Ideal) .f32 (b.setWidth 32) : EReal) = if P then 1 else 0 := by
  rw [hb]
  split_ifs
  · show ((((1#1).setWidth 32).toInt : ℝ) : EReal) = 1
    have : ((1#1).setWidth 32).toInt = 1 := by decide
    rw [this]; norm_num
  · show ((((0#1).setWidth 32).toInt : ℝ) : EReal) = 0
    have : ((0#1).setWidth 32).toInt = 0 := by decide
    rw [this]; norm_num

theorem shift_at (x : Vec Ideal S1024x1 .i32) (d : ℕ) (hd : d < 1024) (t : Fin 1024) (i : Fin 1024) (hi : i.val = (t.val + 1024 - d) % 1024) :
    (FloatOps.sitofp (F := Ideal) .f32 ((IntOp.andi (IntOp.cmpi CmpIPredicate.eq (x (ix2 i (0 : Fin 1))) (x (ix2 t (0 : Fin 1))))
      (IntOp.cmpi CmpIPredicate.sge (BitVec.ofNat 32 t.val) (BitVec.ofNat 32 d))).setWidth 32) : EReal)
      = if d ≤ t.val ∧ x (ix2 (⟨t.val - d, by omega⟩ : Fin 1024) (0 : Fin 1)) = x (ix2 t (0 : Fin 1)) then 1 else 0 := by
  refine bitf _ _ ?_
  rw [bit_at _ _ _ _ (by omega) (by omega)]
  by_cases h : d ≤ t.val
  · have e : i = ⟨t.val - d, by omega⟩ := Fin.ext (by rw [hi]; show _ = t.val - d; omega)
    rw [e]
    exact if_congr and_comm rfl rfl
  · rw [if_neg (fun hc => h hc.2), if_neg (fun hc => h hc.1)]

theorem mask_at (v : Vec Ideal S1024x1 .i32) (w : Vec Ideal S1x1x256 .i32) (k : Fin 4) (r s : Fin 256) (i : Fin 1024) (hi : i.val = k.val * 256 + r.val) :
    Scalar.select (IntOp.andi (IntOp.cmpi CmpIPredicate.eq (v (ix2 i (0 : Fin 1))) (w (ix3 (0 : Fin 1) (0 : Fin 1) s))) (IntOp.cmpi CmpIPredicate.sge (BitVec.ofNat 32 r.val) (BitVec.ofNat 32 s.val)))
      (0 : EReal) (Ideal.ofBits .f32 0xFF800000#32) = if v (ix2 (Mix.row k r) (0 : Fin 1)) = w (ix3 (0 : Fin 1) (0 : Fin 1) s) ∧ s ≤ r then 0 else ⊥ := by
  obtain rfl : i = Mix.row k r := Fin.ext hi
  exact sel_at _ _ (bit_at _ _ r.val s.val (by omega) (by omega))

theorem pay3_at (x : Vec Ideal S1024x1 .i32) (z : Fin 1) (t : Fin 1024) (q : Fin 128) :
    k0_pay3 (F := Ideal) x (ix3 z t q) = if 1 ≤ t.val ∧ x (ix2 (⟨t.val - 1, by omega⟩ : Fin 1024) (0 : Fin 1)) = x (ix2 t (0 : Fin 1)) then 1 else 0 := by
  pointwise [k0_pay3, k0_pay2]
  exact shift_at x 1 (by omega) t _ rfl

theorem pay4_at (x : Vec Ideal S1024x1 .i32) (z : Fin 1) (t : Fin 1024) (q : Fin 128) :
    k0_pay4 (F := Ideal) x (ix3 z t q) = if 2 ≤ t.val ∧ x (ix2 (⟨t.val - 2, by omega⟩ : Fin 1024) (0 : Fin 1)) = x (ix2 t (0 : Fin 1)) then 1 else 0 := by
  pointwise [k0_pay4, k0_pay2]
  exact shift_at x 2 (by omega) t _ rfl

theorem pay5_at (x : Vec Ideal S1024x1 .i32) (z : Fin 1) (t : Fin 1024) (q : Fin 128) :
    k0_pay5 (F := Ideal) x (ix3 z t q) = if 3 ≤ t.val ∧ x (ix2 (⟨t.val - 3, by omega⟩ : Fin 1024) (0 : Fin 1)) = x (ix2 t (0 : Fin 1)) then 1 else 0 := by
  pointwise [k0_pay5, k0_pay2]
  exact shift_at x 3 (by omega) t _ rfl

theorem pay6_at (v : Vec Ideal S1024x1 .i32) (w : Vec Ideal S1x1x256 .i32) (z : Fin 1) (r s : Fin 256) :
    k0_pay6 (F := Ideal) (k0_pay2 (F := Ideal) v) maskRun.sl.v1883 w (ix3 z r s) = if v (ix2 (Mix.row 0 r) (0 : Fin 1)) = w (ix3 (0 : Fin 1) (0 : Fin 1) s) ∧ s ≤ r then 0 else ⊥ := by
  unfold maskRun.sl.v1883
  pointwise [k0_pay6, k0_pay2]
  exact mask_at v w 0 r s _ (Nat.zero_add _).symm

theorem pay7_at (v : Vec Ideal S1024x1 .i32) (w : Vec Ideal S1x1x256 .i32) (z : Fin 1) (r s : Fin 256) :
    k0_pay7 (F := Ideal) (k0_pay2 (F := Ideal) v) maskRun.sl.v1883 w (ix3 z r s) = if v (ix2 (Mix.row 1 r) (0 : Fin 1)) = w (ix3 (0 : Fin 1) (0 : Fin 1) s) ∧ s ≤ r then 0 else ⊥ := by
  unfold maskRun.sl.v1883
  pointwise [k0_pay7, k0_pay2]
  exact mask_at v w 1 r s _ rfl

theorem pay9_at (v : Vec Ideal S1024x1 .i32) (w : Vec Ideal S1x1x256 .i32) (z : Fin 1) (r s : Fin 256) :
    k0_pay9 (F := Ideal) (k0_pay8 (F := Ideal) (k0_pay2 (F := Ideal) v) maskRun.sl.v1883 w) maskRun.sl.cst_1303 maskRun.sl.cst_1304 (ix3 z r s) = if v (ix2 (Mix.row 2 r) (0 : Fin 1)) = w (ix3 (0 : Fin 1) (0 : Fin 1) s) ∧ s ≤ r then 0 else ⊥ := by
  unfold maskRun.sl.v1883 maskRun.sl.cst_1303 maskRun.sl.cst_1304
  pointwise [k0_pay9, k0_pay8, k0_pay2]
  exact mask_at v w 2 r s _ rfl

theorem pay10_at (v : Vec Ideal S1024x1 .i32) (w : Vec Ideal S1x1x256 .i32) (z : Fin 1) (r s : Fin 256) :
    k0_pay10 (F := Ideal) (k0_pay2 (F := Ideal) v) maskRun.sl.v1883 maskRun.sl.v1884 w (ix3 z r s) = if v (ix2 (Mix.row 3 r) (0 : Fin 1)) = w (ix3 (0 : Fin 1) (0 : Fin 1) s) ∧ s ≤ r then 0 else ⊥ := by
  unfold maskRun.sl.v1883 maskRun.sl.v1884
  pointwise [k0_pay10, k0_pay2]
  exact mask_at v w 3 r s _ rfl

variable {c : Dev nD} {i : grid0.Coords} {arg2 : Memref sig .tc .smem S64 .f32} {harg2 : arg2.IsWhole} {arg3 : Memref sig .tc .vmem S1024x7168 .fp8e4m3} {harg3 : arg3.IsWhole} {arg4 : Memref sig .tc .vmem S1024x1 .f32} {harg4 : arg4.IsWhole} {arg5 : Memref sig .tc .vmem S256x7168 .fp8e4m3} {harg5 : arg5.IsWhole} {arg6 : Memref sig .tc .vmem S256x7168 .fp8e4m3} {harg6 : arg6.IsWhole} {arg7 : Memref sig .tc .vmem S256x7168 .fp8e4m3} {harg7 : arg7.IsWhole} {arg8 : Memref sig .tc .vmem S256x7168 .fp8e4m3} {harg8 : arg8.IsWhole} {arg9 : Memref sig .tc .vmem S1x256 .f32} {harg9 : arg9.IsWhole} {arg10 : Memref sig .tc .vmem S1x256 .f32} {harg10 : arg10.IsWhole} {arg11 : Memref sig .tc .vmem S1x256 .f32} {harg11 : arg11.IsWhole} {arg12 : Memref sig .tc .vmem S1x256 .f32} {harg12 : arg12.IsWhole} {arg13 : Memref sig .tc .vmem S4x256 .f32} {harg13 : arg13.IsWhole} {arg14 : Memref sig .tc .vmem S4x256 .f32} {harg14 : arg14.IsWhole} {arg15 : Memref sig .tc .vmem S4x256 .f32} {harg15 : arg15.IsWhole} {arg16 : Memref sig .tc .vmem S1x256 .f32} {harg16 : arg16.IsWhole} {arg17 : Memref sig .tc .vmem S1x256 .f32} {harg17 : arg17.IsWhole} {arg18 : Memref sig .tc .vmem S1x256 .f32} {harg18 : arg18.IsWhole} {arg19 : Memref sig .tc .vmem S1024x128 .f32} {harg19 : arg19.IsWhole} {arg20 : Memref sig .tc .vmem S1024x128 .f32} {harg20 : arg20.IsWhole} {arg21 : Memref sig .tc .vmem S1024x128 .f32} {harg21 : arg21.IsWhole} {arg22 : Memref sig .tc .vmem S1024x128 .f32} {harg22 : arg22.IsWhole} {arg23 : Memref sig .tc .vmem S1x2x1024 .f32} {harg23 : arg23.IsWhole} {arg24 : Memref sig .tc .vmem S1x2x512 .f32} {harg24 : arg24.IsWhole} {arg25 : Memref sig .tc .vmem S1024x1 .i32} {harg25 : arg25.IsWhole} {arg26 : Memref sig .tc .vmem S1x1x1024 .i32} {harg26 : arg26.IsWhole} {arg27 : Memref sig .tc .vmem S1x256 .bf16} {harg27 : arg27.IsWhole} {arg28 : Memref sig .tc .vmem S1024x256 .f32} {harg28 : arg28.IsWhole} {arg29 : Memref sig .tc .vmem S1024x128 .f32} {harg29 : arg29.IsWhole} {arg30 : Memref sig .tc .vmem S6x1032x128 .f32} {harg30 : arg30.IsWhole} {arg31 : Memref sig .tc .vmem S6x1024x128 .f32} {harg31 : arg31.IsWhole} {arg32 : Memref sig .tc .vmem S1024x256 .f32} {harg32 : arg32.IsWhole} {arg33 : Memref sig .tc .vmem S3x1024x128 .f32} {harg33 : arg33.IsWhole} {arg34 : Memref sig .tc .vmem S4x256x256 .f32} {harg34 : arg34.IsWhole} (hc0 : cond0_0 i) {x23 : Vec Ideal S1024x1 .i32} {x24 : Vec Ideal S1x1x1024 .i32}

theorem LS3_eq : (maskRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x23 x24).1 = [⟨Rect.unit (s := S3x1024x128) ![2, 0, 0] S1x1024x128.size inb_S3x1024x128_S1x1024x128_2_0_0, k0_pay5 (F := Ideal) (View.readAt (Elt Ideal) arg25.view (Rect.unit (s := S1024x1) ![0, 0] S1024x1.size inb_S1024x1_S1024x1_0_0).toLoadRect (harg25.unread x23))⟩,
    ⟨Rect.unit (s := S3x1024x128) ![1, 0, 0] S1x1024x128.size inb_S3x1024x128_S1x1024x128_1_0_0, k0_pay4 (F := Ideal) (View.readAt (Elt Ideal) arg25.view (Rect.unit (s := S1024x1) ![0, 0] S1024x1.size inb_S1024x1_S1024x1_0_0).toLoadRect (harg25.unread x23))⟩,
    ⟨Rect.unit (s := S3x1024x128) ![0, 0, 0] S1x1024x128.size inb_S3x1024x128_S1x1024x128_0_0_0, k0_pay3 (F := Ideal) (View.readAt (Elt Ideal) arg25.view (Rect.unit (s := S1024x1) ![0, 0] S1024x1.size inb_S1024x1_S1024x1_0_0).toLoadRect (harg25.unread x23))⟩] := rfl

theorem LS4_eq : (maskRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x23 x24).2.1 = [⟨Rect.unit (s := S4x256x256) ![3, 0, 0] S1x256x256.size inb_S4x256x256_S1x256x256_3_0_0, k0_pay10 (F := Ideal) (k0_pay2 (F := Ideal) (View.readAt (Elt Ideal) arg25.view (Rect.unit (s := S1024x1) ![0, 0] S1024x1.size inb_S1024x1_S1024x1_0_0).toLoadRect (harg25.unread x23))) maskRun.sl.v1883 maskRun.sl.v1884 (View.readAt (Elt Ideal) arg26.view (Rect.unit (s := S1x1x1024) ![0, 0, 768] S1x1x256.size inb_S1x1x1024_S1x1x256_0_0_768).toLoadRect (harg26.unread x24))⟩,
    ⟨Rect.unit (s := S4x256x256) ![2, 0, 0] S1x256x256.size inb_S4x256x256_S1x256x256_2_0_0, k0_pay9 (F := Ideal) (k0_pay8 (F := Ideal) (k0_pay2 (F := Ideal) (View.readAt (Elt Ideal) arg25.view (Rect.unit (s := S1024x1) ![0, 0] S1024x1.size inb_S1024x1_S1024x1_0_0).toLoadRect (harg25.unread x23))) maskRun.sl.v1883 (View.readAt (Elt Ideal) arg26.view (Rect.unit (s := S1x1x1024) ![0, 0, 512] S1x1x256.size inb_S1x1x1024_S1x1x256_0_0_512).toLoadRect (harg26.unread x24))) maskRun.sl.cst_1303 maskRun.sl.cst_1304⟩,
    ⟨Rect.unit (s := S4x256x256) ![1, 0, 0] S1x256x256.size inb_S4x256x256_S1x256x256_1_0_0, k0_pay7 (F := Ideal) (k0_pay2 (F := Ideal) (View.readAt (Elt Ideal) arg25.view (Rect.unit (s := S1024x1) ![0, 0] S1024x1.size inb_S1024x1_S1024x1_0_0).toLoadRect (harg25.unread x23))) maskRun.sl.v1883 (View.readAt (Elt Ideal) arg26.view (Rect.unit (s := S1x1x1024) ![0, 0, 256] S1x1x256.size inb_S1x1x1024_S1x1x256_0_0_256).toLoadRect (harg26.unread x24))⟩,
    ⟨Rect.unit (s := S4x256x256) ![0, 0, 0] S1x256x256.size inb_S4x256x256_S1x256x256_0_0_0, k0_pay6 (F := Ideal) (k0_pay2 (F := Ideal) (View.readAt (Elt Ideal) arg25.view (Rect.unit (s := S1024x1) ![0, 0] S1024x1.size inb_S1024x1_S1024x1_0_0).toLoadRect (harg25.unread x23))) maskRun.sl.v1883 (View.readAt (Elt Ideal) arg26.view (Rect.unit (s := S1x1x1024) ![0, 0, 0] S1x1x256.size inb_S1x1x1024_S1x1x256_0_0_0).toLoadRect (harg26.unread x24))⟩] := rfl

theorem ld25 (r : Fin 1024) : (View.readAt (Elt Ideal) arg25.view (Rect.unit (s := S1024x1) ![0, 0] S1024x1.size inb_S1024x1_S1024x1_0_0).toLoadRect (harg25.unread x23)) (ix2 r (0 : Fin 1)) = x23 (ix2 r (0 : Fin 1)) :=
  (ld2 harg25 x23 0 0 _ r (0 : Fin 1) (by omega) (by omega)).trans (congrArg x23 ((ix2_inj _ _ _ _).2 ⟨Fin.ext (Nat.zero_add _), rfl⟩))

theorem cm_of (v : View sig .tc .vmem S3x1024x128 .f32) :
    MaskC (fun t => x23 (ix2 t (0 : Fin 1))) (v.read (Elt Ideal) (v.writes (Elt Ideal) v.junk (maskRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x23 x24).1)) := by
  intro d t q
  rw [View.read_writes_junk_eq_canon]
  have hcov := View.cover_of_tiledL (maskRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x23 x24).1 S1x1024x128.size (by sl_kernel_rfl) (ix3 d t q)
  refine View.canon_eq_of_allAt _ _ _ hcov ?_
  rw [LS3_eq]
  repeat' (first | exact View.allAt_nil _ _ | refine View.allAt_cons_unit _ _ _ _ _ ?_ ?_)
  all_goals
    intro x h
    obtain ⟨x0, x1', x2', rfl⟩ : ∃ x0 x1' x2', x = ix3 x0 x1' x2' := ⟨x 0, x 1, x 2, eq_ix3 x⟩
    have h0 := h 0; have h1 := h 1; have h2 := h 2
    simp at h0 h1 h2
    obtain rfl : t = x1' := Fin.ext h1
    obtain rfl : q = x2' := Fin.ext h2
  · obtain rfl : d = 2 := Fin.ext h0
    refine (pay5_at _ _ _ _).trans ?_
    rw [ld25, ld25]
    rfl
  · obtain rfl : d = 1 := Fin.ext h0
    refine (pay4_at _ _ _ _).trans ?_
    rw [ld25, ld25]
    rfl
  · obtain rfl : d = 0 := h0
    refine (pay3_at _ _ _ _).trans ?_
    rw [ld25, ld25]
    rfl

theorem ld26 (k : Fin 4) (o : ℕ) (ho : o = k.val * 256) (inb) (s : Fin 256) :
    View.readAt (Elt Ideal) arg26.view (Rect.unit (s := S1x1x1024) ![0, 0, o] S1x1x256.size inb).toLoadRect (harg26.unread x24) (ix3 (0 : Fin 1) (0 : Fin 1) s) = x24 (ix3 (0 : Fin 1) (0 : Fin 1) (Mix.row k s)) := by
  subst ho
  exact ld3 harg26 x24 0 0 (k.val * 256) inb (0 : Fin 1) (0 : Fin 1) s (inb 0) (inb 1) (inb 2)

theorem nm_of (v : View sig .tc .vmem S4x256x256 .f32) (hx : ∀ s : Fin 1024, x24 (ix3 (0 : Fin 1) (0 : Fin 1) s) = x23 (ix2 s (0 : Fin 1))) :
    MaskN (fun t => x23 (ix2 t (0 : Fin 1))) (v.read (Elt Ideal) (v.writes (Elt Ideal) v.junk (maskRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x23 x24).2.1)) := by
  intro k r s
  rw [View.read_writes_junk_eq_canon]
  have hcov := View.cover_of_tiledL (maskRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x23 x24).2.1 S1x256x256.size (by sl_kernel_rfl) (ix3 k r s)
  refine View.canon_eq_of_allAt _ _ _ hcov ?_
  rw [LS4_eq]
  repeat' (first | exact View.allAt_nil _ _ | refine View.allAt_cons_unit _ _ _ _ _ ?_ ?_)
  all_goals
    intro x h
    obtain ⟨x0, x1', x2', rfl⟩ : ∃ x0 x1' x2', x = ix3 x0 x1' x2' := ⟨x 0, x 1, x 2, eq_ix3 x⟩
    have h0 := h 0; have h1 := h 1; have h2 := h 2
    simp at h0 h1 h2
    obtain rfl : r = x1' := Fin.ext h1
    obtain rfl : s = x2' := Fin.ext h2
  · obtain rfl : k = 3 := Fin.ext h0
    refine (pay10_at _ _ _ _ _).trans ?_
    rw [ld25, ld26 3 768 rfl, hx]
  · obtain rfl : k = 2 := Fin.ext h0
    refine (pay9_at _ _ _ _ _).trans ?_
    rw [ld25, ld26 2 512 rfl, hx]
  · obtain rfl : k = 1 := Fin.ext h0
    refine (pay7_at _ _ _ _ _).trans ?_
    rw [ld25, ld26 1 256 rfl, hx]
  · obtain rfl : k = 0 := h0
    refine (pay6_at _ _ _ _ _).trans ?_
    rw [ld25, ld26 0 0 rfl, hx]

end Cert.MixerIdeal.Gen
-- ==== Proof.MixRef1.lean ====
/- The reference's convolution and gate read at an index. -/
module

public import proofs.«01_k».proof.Proof.Gen.MixerRefIdeal.Read
public import proofs.«01_k».proof.Proof.MixMath
public import Idealize.ShloMosaic.Lib.Pointwise

@[expose] public section

set_option maxRecDepth 16384

noncomputable section

namespace Cert.MixerRefIdeal.RefValue

open Cert.MixerRefIdeal Cert.MixerRefIdeal.Gen Cert.MixerRefIdeal.Read Idealize.ShloMosaic Idealize.ShloMosaic.TcCoe Idealize.SL.Sem
open Cert

theorem tapR (d e t : ℕ) (ht : t < 1024) (he : e - 3 = t - d) (hd : 3 ≤ e ↔ d ≤ t)
    (D : (k : ℕ) → k < 1024 → BitVec 32) (P : (k : ℕ) → k < 1024 → EReal) (z : BitVec 32) (w z2 : EReal) (hw : w = 0) (hz : z2 = 0) :
    Scalar.select (IntOp.cmpi CmpIPredicate.eq (if h : 3 ≤ e ∧ e - 3 < 1024 then D (e - 3) h.2 else z) (D t ht))
      (if h : 3 ≤ e ∧ e - 3 < 1024 then P (e - 3) h.2 else w) z2
    = if d ≤ t ∧ D (t - d) (by omega) = D t ht then P (t - d) (by omega) else 0 := by
  have hs : ∀ (a b : BitVec 32) (x y : EReal), Scalar.select (IntOp.cmpi CmpIPredicate.eq a b) x y = if a = b then x else y := by
    intro a b x y
    by_cases h : a = b
    · simp [Scalar.select, IntOp.cmpi, h]
    · have hb : (a == b) = false := by simpa using h
      simp [Scalar.select, IntOp.cmpi, h, hb]
  subst hw hz
  by_cases h : d ≤ t
  · have h3 : 3 ≤ e := hd.mpr h
    have h4 : e - 3 < 1024 := by omega
    rw [dif_pos ⟨h3, h4⟩, dif_pos ⟨h3, h4⟩, hs]
    have hD : D (e - 3) h4 = D (t - d) (by omega) := by congr 1
    have hP : P (e - 3) h4 = P (t - d) (by omega) := by congr 1
    rw [hD, hP]; simp [h]
  · have h3 : ¬3 ≤ e := fun hh => h (hd.mp hh)
    rw [dif_neg (fun hh => h3 hh.1), dif_neg (fun hh => h3 hh.1), hs, ite_self, if_neg (fun hh => h hh.1)]

theorem v52_at (x5 : S4x24576.Idx → EReal) (x6 : S24576.Idx → EReal) (x13 : S6x1024.Idx → BitVec 32) (r0 : S6144x32832.Idx → EReal)
    (b : Fin 6) (t : Fin 1024) (j : Fin 24576) :
    val_main_v52 (F := Ideal) x5 x6 x13 r0 (ix3 b t j) =
      x6 (ix1 j)
      + x5 (ix2 0 j) * (if 3 ≤ t.val ∧ x13 (ix2 b ⟨t.val - 3, by omega⟩) = x13 (ix2 b t) then r0 (ix2 ⟨b.val * 1024 + (t.val - 3), by omega⟩ ⟨8192 + j.val, by omega⟩) else 0)
      + x5 (ix2 1 j) * (if 2 ≤ t.val ∧ x13 (ix2 b ⟨t.val - 2, by omega⟩) = x13 (ix2 b t) then r0 (ix2 ⟨b.val * 1024 + (t.val - 2), by omega⟩ ⟨8192 + j.val, by omega⟩) else 0)
      + x5 (ix2 2 j) * (if 1 ≤ t.val ∧ x13 (ix2 b ⟨t.val - 1, by omega⟩) = x13 (ix2 b t) then r0 (ix2 ⟨b.val * 1024 + (t.val - 1), by omega⟩ ⟨8192 + j.val, by omega⟩) else 0)
      + x5 (ix2 3 j) * r0 (ix2 ⟨b.val * 1024 + t.val, by omega⟩ ⟨8192 + j.val, by omega⟩) := by
  pointwise [val_main_v2, val_main_v3, val_main_v4, val_main_c, val_main_call0_v0, val_main_v5, val_main_c_0, val_main_call1_v0, val_main_v6, val_main_v7, val_main_v8, val_main_v9, val_main_v10, val_main_v11, val_main_v12, val_main_cst, val_main_call2_v0, val_main_call2_v1, val_main_call2_v2, val_main_v13, val_main_v14, val_main_v15, val_main_v16, val_main_v17, val_main_v18, val_main_v19, val_main_v20, val_main_v21, val_main_v22, val_main_v23, val_main_v24, val_main_v25, val_main_cst_1, val_main_call3_v0, val_main_call3_v1, val_main_call3_v2, val_main_v26, val_main_v27, val_main_v28, val_main_v29, val_main_v30, val_main_v31, val_main_v32, val_main_v33, val_main_v34, val_main_v35, val_main_v36, val_main_cst_2, val_main_call4_v0, val_main_call4_v1, val_main_call4_v2, val_main_v37, val_main_v38, val_main_v39, val_main_v40, val_main_v41, val_main_v42, val_main_v43, val_main_v44, val_main_v45, val_main_v46, val_main_v47, val_main_cst_3, val_main_call5_v0, val_main_call5_v1, val_main_call5_v2, val_main_v48, val_main_v49, val_main_v50, val_main_v51, val_main_v52]
  have hw : (FloatOps.sitofp FTy.f32 0#32 : Ideal .f32) = (0 : EReal) := by
    show ((BitVec.toInt 0#32 : ℝ) : EReal) = 0
    simp
  have hz : (id (constant (F := Ideal) S_ FTy.f32 0#32) ix0 : EReal) = 0 := by
    show Ideal.ofBits .f32 0#32 = 0
    simp
  refine congrArg₂ (· + ·) (congrArg₂ (· + ·) (congrArg₂ (· + ·) (congrArg₂ (· + ·) rfl (congrArg (x5 (ix2 0 j) * ·) ?_)) (congrArg (x5 (ix2 1 j) * ·) ?_)) (congrArg (x5 (ix2 2 j) * ·) ?_)) rfl
  · exact tapR 3 t.val t.val t.isLt rfl Iff.rfl (fun k hk => x13 (ix2 b ⟨k, hk⟩)) (fun k hk => r0 (ix2 ⟨b.val * 1024 + k, by omega⟩ ⟨8192 + j.val, by omega⟩)) _ _ _ hw hz
  · exact tapR 2 (1 + t.val) t.val t.isLt (by omega) (by omega) (fun k hk => x13 (ix2 b ⟨k, hk⟩)) (fun k hk => r0 (ix2 ⟨b.val * 1024 + k, by omega⟩ ⟨8192 + j.val, by omega⟩)) _ _ _ hw hz
  · exact tapR 1 (2 + t.val) t.val t.isLt (by omega) (by omega) (fun k hk => x13 (ix2 b ⟨k, hk⟩)) (fun k hk => r0 (ix2 ⟨b.val * 1024 + k, by omega⟩ ⟨8192 + j.val, by omega⟩)) _ _ _ hw hz

theorem v56_at0 (x5 : S4x24576.Idx → EReal) (x6 : S24576.Idx → EReal) (x13 : S6x1024.Idx → BitVec 32) (r0 : S6144x32832.Idx → EReal)
    (b : Fin 6) (k : Fin 4) (l : Fin 256) (h : Fin 64) (p : Fin 128) :
    val_main_v56 (F := Ideal) x5 x6 x13 r0 (ix5 b k l h p) = Mix.silu (val_main_v52 (F := Ideal) x5 x6 x13 r0 (ix3 b (Mix.row k l) ⟨0 + (h.val * 128 + p.val), by omega⟩)) := by
  have e : val_main_v56 (F := Ideal) x5 x6 x13 r0 (ix5 b k l h p) = val_main_v53 (F := Ideal) x5 x6 x13 r0 (ix3 b (Mix.row k l) ⟨0 + (h.val * 128 + p.val), by omega⟩) := by
    pointwise [val_main_v56, val_main_v55, val_main_v54]
    exact congrArg (val_main_v53 (F := Ideal) x5 x6 x13 r0) ((ix3_inj ..).2 ⟨rfl, rfl, Fin.ext (by dsimp only <;> omega)⟩)
  rw [e]
  pointwise [val_main_call6_v0, val_main_call6_v1, val_main_call6_cst, val_main_call6_v2, val_main_call6_v3, val_main_call6_cst_0, val_main_call6_v4, val_main_call6_v5, val_main_v53, Mix.silu]

theorem v56_at (x5 : S4x24576.Idx → EReal) (x6 : S24576.Idx → EReal) (x13 : S6x1024.Idx → BitVec 32) (r0 : S6144x32832.Idx → EReal)
    (b : Fin 6) (k : Fin 4) (l : Fin 256) (h : Fin 64) (p : Fin 128) :
    val_main_v56 (F := Ideal) x5 x6 x13 r0 (ix5 b k l h p) =
      Mix.conv (fun t => x13 (ix2 b t)) (fun k q => x5 (ix2 k ⟨0 + (h.val * 128 + q.val), by omega⟩)) (fun q => x6 (ix1 ⟨0 + (h.val * 128 + q.val), by omega⟩))
        (fun t q => r0 (ix2 ⟨b.val * 1024 + t.val, by omega⟩ ⟨8192 + (0 + (h.val * 128 + q.val)), by omega⟩)) (Mix.row k l) p := by
  rw [v56_at0, v52_at]; rfl

theorem v58_at0 (x5 : S4x24576.Idx → EReal) (x6 : S24576.Idx → EReal) (x13 : S6x1024.Idx → BitVec 32) (r0 : S6144x32832.Idx → EReal)
    (b : Fin 6) (k : Fin 4) (l : Fin 256) (h : Fin 64) (p : Fin 128) :
    val_main_v58 (F := Ideal) x5 x6 x13 r0 (ix5 b k l h p) = Mix.silu (val_main_v52 (F := Ideal) x5 x6 x13 r0 (ix3 b (Mix.row k l) ⟨8192 + (h.val * 128 + p.val), by omega⟩)) := by
  have e : val_main_v58 (F := Ideal) x5 x6 x13 r0 (ix5 b k l h p) = val_main_v53 (F := Ideal) x5 x6 x13 r0 (ix3 b (Mix.row k l) ⟨8192 + (h.val * 128 + p.val), by omega⟩) := by
    pointwise [val_main_v58, val_main_v57, val_main_v54]
    exact congrArg (val_main_v53 (F := Ideal) x5 x6 x13 r0) ((ix3_inj ..).2 ⟨rfl, rfl, Fin.ext (by dsimp only <;> omega)⟩)
  rw [e]
  pointwise [val_main_call6_v0, val_main_call6_v1, val_main_call6_cst, val_main_call6_v2, val_main_call6_v3, val_main_call6_cst_0, val_main_call6_v4, val_main_call6_v5, val_main_v53, Mix.silu]

theorem v58_at (x5 : S4x24576.Idx → EReal) (x6 : S24576.Idx → EReal) (x13 : S6x1024.Idx → BitVec 32) (r0 : S6144x32832.Idx → EReal)
    (b : Fin 6) (k : Fin 4) (l : Fin 256) (h : Fin 64) (p : Fin 128) :
    val_main_v58 (F := Ideal) x5 x6 x13 r0 (ix5 b k l h p) =
      Mix.conv (fun t => x13 (ix2 b t)) (fun k q => x5 (ix2 k ⟨8192 + (h.val * 128 + q.val), by omega⟩)) (fun q => x6 (ix1 ⟨8192 + (h.val * 128 + q.val), by omega⟩))
        (fun t q => r0 (ix2 ⟨b.val * 1024 + t.val, by omega⟩ ⟨8192 + (8192 + (h.val * 128 + q.val)), by omega⟩)) (Mix.row k l) p := by
  rw [v58_at0, v52_at]; rfl

theorem v60_at0 (x5 : S4x24576.Idx → EReal) (x6 : S24576.Idx → EReal) (x13 : S6x1024.Idx → BitVec 32) (r0 : S6144x32832.Idx → EReal)
    (b : Fin 6) (k : Fin 4) (l : Fin 256) (h : Fin 64) (p : Fin 128) :
    val_main_v60 (F := Ideal) x5 x6 x13 r0 (ix5 b k l h p) = Mix.silu (val_main_v52 (F := Ideal) x5 x6 x13 r0 (ix3 b (Mix.row k l) ⟨16384 + (h.val * 128 + p.val), by omega⟩)) := by
  have e : val_main_v60 (F := Ideal) x5 x6 x13 r0 (ix5 b k l h p) = val_main_v53 (F := Ideal) x5 x6 x13 r0 (ix3 b (Mix.row k l) ⟨16384 + (h.val * 128 + p.val), by omega⟩) := by
    pointwise [val_main_v60, val_main_v59, val_main_v54]
    exact congrArg (val_main_v53 (F := Ideal) x5 x6 x13 r0) ((ix3_inj ..).2 ⟨rfl, rfl, Fin.ext (by dsimp only <;> omega)⟩)
  rw [e]
  pointwise [val_main_call6_v0, val_main_call6_v1, val_main_call6_cst, val_main_call6_v2, val_main_call6_v3, val_main_call6_cst_0, val_main_call6_v4, val_main_call6_v5, val_main_v53, Mix.silu]

theorem v60_at (x5 : S4x24576.Idx → EReal) (x6 : S24576.Idx → EReal) (x13 : S6x1024.Idx → BitVec 32) (r0 : S6144x32832.Idx → EReal)
    (b : Fin 6) (k : Fin 4) (l : Fin 256) (h : Fin 64) (p : Fin 128) :
    val_main_v60 (F := Ideal) x5 x6 x13 r0 (ix5 b k l h p) =
      Mix.conv (fun t => x13 (ix2 b t)) (fun k q => x5 (ix2 k ⟨16384 + (h.val * 128 + q.val), by omega⟩)) (fun q => x6 (ix1 ⟨16384 + (h.val * 128 + q.val), by omega⟩))
        (fun t q => r0 (ix2 ⟨b.val * 1024 + t.val, by omega⟩ ⟨8192 + (16384 + (h.val * 128 + q.val)), by omega⟩)) (Mix.row k l) p := by
  rw [v60_at0, v52_at]; rfl

end Cert.MixerRefIdeal.RefValue

end
-- ==== Proof.MixRef2.lean ====
/- The reference's scan, gate and normalisation read at an index. -/
module

public import proofs.«01_k».proof.Proof.MixRef1

@[expose] public section

set_option maxRecDepth 16384

noncomputable section

namespace Cert.MixerRefIdeal.RefValue

open Cert.MixerRefIdeal Cert.MixerRefIdeal.Gen Cert.MixerRefIdeal.Read Idealize.ShloMosaic Idealize.ShloMosaic.TcCoe Idealize.SL.Sem
open Cert

/-- What one head of one batch is computed from in the reference. -/
def RLoc (x0 : S64.Idx → EReal) (x5 : S4x24576.Idx → EReal) (x6 : S24576.Idx → EReal) (x7 x8 x9 x10 : S6144x128.Idx → EReal) (x11 : S32x2x6144.Idx → EReal) (x12 : S32x2x3072.Idx → EReal) (x13 : S6x1024.Idx → BitVec 32) (x14 : S8192.Idx → EReal) (r0 : S6144x32832.Idx → EReal) (b : Fin 6) (h : Fin 64) : Mix.Loc where
  pz t q := r0 (ix2 ⟨b.val * 1024 + t.val, by omega⟩ ⟨h.val * 128 + q.val, by omega⟩)
  px t q := r0 (ix2 ⟨b.val * 1024 + t.val, by omega⟩ ⟨8192 + (0 + (h.val * 128 + q.val)), by omega⟩)
  pb t q := r0 (ix2 ⟨b.val * 1024 + t.val, by omega⟩ ⟨8192 + (8192 + (h.val * 128 + q.val)), by omega⟩)
  pc t q := r0 (ix2 ⟨b.val * 1024 + t.val, by omega⟩ ⟨8192 + (16384 + (h.val * 128 + q.val)), by omega⟩)
  wx k q := x5 (ix2 k ⟨0 + (h.val * 128 + q.val), by omega⟩)
  wb k q := x5 (ix2 k ⟨8192 + (h.val * 128 + q.val), by omega⟩)
  wc k q := x5 (ix2 k ⟨16384 + (h.val * 128 + q.val), by omega⟩)
  bx q := x6 (ix1 ⟨0 + (h.val * 128 + q.val), by omega⟩)
  bb q := x6 (ix1 ⟨8192 + (h.val * 128 + q.val), by omega⟩)
  bc q := x6 (ix1 ⟨16384 + (h.val * 128 + q.val), by omega⟩)
  ac t := x7 (ix2 ⟨b.val * 1024 + t.val, by omega⟩ ⟨h.val, by omega⟩)
  dt t := x8 (ix2 ⟨b.val * 1024 + t.val, by omega⟩ ⟨h.val, by omega⟩)
  dw t := x9 (ix2 ⟨b.val * 1024 + t.val, by omega⟩ ⟨h.val, by omega⟩)
  fp t := x10 (ix2 ⟨b.val * 1024 + t.val, by omega⟩ ⟨h.val, by omega⟩)
  ar t := x11 (ix3 ⟨h.val / 2, by omega⟩ ⟨h.val % 2, by omega⟩ ⟨b.val * 1024 + t.val, by omega⟩)
  cd k q := x12 (ix3 ⟨h.val / 2, by omega⟩ ⟨h.val % 2, by omega⟩ ⟨b.val * 512 + (k.val * 128 + q.val), by omega⟩)
  dk := x0 (ix1 h)
  gw q := x14 (ix1 ⟨h.val * 128 + q.val, by omega⟩)
  doc t := x13 (ix2 b t)

theorem neg_inf : (id (constant (F := Ideal) S_ FTy.f32 4286578688#32) ix0 : EReal) = ⊥ := by
  show Ideal.ofBits .f32 4286578688#32 = ⊥
  simp [Ideal.ofBits, Ideal.ieee]

theorem selAnd (a b : BitVec 32) (l s : Fin 256) (x y : EReal) :
    Scalar.select (IntOp.andi (IntOp.cmpi CmpIPredicate.eq a b) (IntOp.cmpi CmpIPredicate.sge (BitVec.ofNat 32 l.val) (BitVec.ofNat 32 s.val))) x y
      = if a = b ∧ s ≤ l then x else y := by
  have hl : (BitVec.ofNat 32 l.val).toInt = (l.val : ℤ) := by
    rw [BitVec.toInt_eq_toNat_of_lt] <;> simp <;> omega
  have hs : (BitVec.ofNat 32 s.val).toInt = (s.val : ℤ) := by
    rw [BitVec.toInt_eq_toNat_of_lt] <;> simp <;> omega
  have h2 : (BitVec.ofNat 32 s.val).sle (BitVec.ofNat 32 l.val) = decide (s ≤ l) := by
    simp [BitVec.sle, hl, hs]
  by_cases h : a = b <;> by_cases h' : s ≤ l
  · simp [Scalar.select, IntOp.cmpi, IntOp.andi, h, h2, h']
  · simp [Scalar.select, IntOp.cmpi, IntOp.andi, h, h2, h']
  · have hb : (a == b) = false := by simpa using h
    simp [Scalar.select, IntOp.cmpi, IntOp.andi, h, h2, h', hb]
  · have hb : (a == b) = false := by simpa using h
    simp [Scalar.select, IntOp.cmpi, IntOp.andi, h, h2, h', hb]

section
variable (x0 : S64.Idx → EReal) (x5 : S4x24576.Idx → EReal) (x6 : S24576.Idx → EReal) (x7 x8 x9 x10 : S6144x128.Idx → EReal) (x11 : S32x2x6144.Idx → EReal) (x12 : S32x2x3072.Idx → EReal) (x13 : S6x1024.Idx → BitVec 32) (x14 : S8192.Idx → EReal) (r0 : S6144x32832.Idx → EReal)

theorem X_at (b : Fin 6) (k : Fin 4) (l : Fin 256) (h : Fin 64) (p : Fin 128) : val_main_v56 (F := Ideal) x5 x6 x13 r0 (ix5 b k l h p) = ((RLoc x0 x5 x6 x7 x8 x9 x10 x11 x12 x13 x14 r0) b h).X (Mix.row k l) p := v56_at ..
theorem B_at (b : Fin 6) (k : Fin 4) (l : Fin 256) (h : Fin 64) (p : Fin 128) : val_main_v58 (F := Ideal) x5 x6 x13 r0 (ix5 b k l h p) = ((RLoc x0 x5 x6 x7 x8 x9 x10 x11 x12 x13 x14 r0) b h).B (Mix.row k l) p := v58_at ..
theorem C_at (b : Fin 6) (k : Fin 4) (l : Fin 256) (h : Fin 64) (p : Fin 128) : val_main_v60 (F := Ideal) x5 x6 x13 r0 (ix5 b k l h p) = ((RLoc x0 x5 x6 x7 x8 x9 x10 x11 x12 x13 x14 r0) b h).C (Mix.row k l) p := v60_at ..

theorem dec_at (b : Fin 6) (k : Fin 4) (h : Fin 64) (l s : Fin 256) : val_main_v88 (F := Ideal) x7 x11 x13 (ix5 b k h l s) = ((RLoc x0 x5 x6 x7 x8 x9 x10 x11 x12 x13 x14 r0) b h).dec k l s := by
  pointwise [val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_cst_4, val_main_call7_v0, val_main_call7_v1, val_main_call7_v2, val_main_v87, val_main_v88, Mix.Loc.dec]
  rw [neg_inf, selAnd]
  simp only [Nat.add_assoc]
  rfl

theorem own_at (b : Fin 6) (k : Fin 4) (h : Fin 64) (p n : Fin 128) :
    val_main_v103 (F := Ideal) x5 x6 x9 x13 r0 (ix5 b k h p n) = ((RLoc x0 x5 x6 x7 x8 x9 x10 x11 x12 x13 x14 r0) b h).own k n p := by
  pointwise [val_main_v98, val_main_v99, val_main_v100, val_main_v101, val_main_v102, val_main_v103]
  simp only [X_at x0 x5 x6 x7 x8 x9 x10 x11 x12 x13 x14 r0, B_at x0 x5 x6 x7 x8 x9 x10 x11 x12 x13 x14 r0]
  simp only [Nat.add_assoc]
  exact Finset.sum_congr rfl fun x _ => mul_comm _ _

theorem st_at (b : Fin 6) (k : Fin 4) (h : Fin 64) (p n : Fin 128) :
    val_main_v146 (F := Ideal) x5 x6 x9 x12 x13 r0 (ix5 b k h p n) = ((RLoc x0 x5 x6 x7 x8 x9 x10 x11 x12 x13 x14 r0) b h).st k.val n p := by
  pointwise [val_main_v104, val_main_cst_5, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146]
  simp only [own_at x0 x5 x6 x7 x8 x9 x10 x11 x12 x13 x14 r0]
  simp only [Nat.add_assoc]
  have c0 : x12 (ix3 ⟨h.val / 2, by omega⟩ ⟨h.val % 2, by omega⟩ ⟨b.val * 512 + p.val, by omega⟩) = ((RLoc x0 x5 x6 x7 x8 x9 x10 x11 x12 x13 x14 r0) b h).cd (Fin.ofNat 4 0) p :=
    congrArg x12 ((ix3_inj ..).2 ⟨rfl, rfl, Fin.ext (by show b.val * 512 + p.val = b.val * 512 + (0 * 128 + p.val); omega)⟩)
  have E1 : 0 * x12 (ix3 ⟨h.val / 2, by omega⟩ ⟨h.val % 2, by omega⟩ ⟨b.val * 512 + p.val, by omega⟩) + ((RLoc x0 x5 x6 x7 x8 x9 x10 x11 x12 x13 x14 r0) b h).own 0 n p = ((RLoc x0 x5 x6 x7 x8 x9 x10 x11 x12 x13 x14 r0) b h).st 1 n p :=
    congrArg₂ (· + ·) (congrArg ((0 : EReal) * ·) c0) rfl
  have E2 : (0 * x12 (ix3 ⟨h.val / 2, by omega⟩ ⟨h.val % 2, by omega⟩ ⟨b.val * 512 + p.val, by omega⟩) + ((RLoc x0 x5 x6 x7 x8 x9 x10 x11 x12 x13 x14 r0) b h).own 0 n p)
      * x12 (ix3 ⟨h.val / 2, by omega⟩ ⟨h.val % 2, by omega⟩ ⟨b.val * 512 + (128 + p.val), by omega⟩) + ((RLoc x0 x5 x6 x7 x8 x9 x10 x11 x12 x13 x14 r0) b h).own 1 n p = ((RLoc x0 x5 x6 x7 x8 x9 x10 x11 x12 x13 x14 r0) b h).st 2 n p :=
    congrArg₂ (· + ·) (congrArg₂ (· * ·) E1 rfl) rfl
  have E3 : ((0 * x12 (ix3 ⟨h.val / 2, by omega⟩ ⟨h.val % 2, by omega⟩ ⟨b.val * 512 + p.val, by omega⟩) + ((RLoc x0 x5 x6 x7 x8 x9 x10 x11 x12 x13 x14 r0) b h).own 0 n p)
      * x12 (ix3 ⟨h.val / 2, by omega⟩ ⟨h.val % 2, by omega⟩ ⟨b.val * 512 + (128 + p.val), by omega⟩) + ((RLoc x0 x5 x6 x7 x8 x9 x10 x11 x12 x13 x14 r0) b h).own 1 n p)
      * x12 (ix3 ⟨h.val / 2, by omega⟩ ⟨h.val % 2, by omega⟩ ⟨b.val * 512 + (256 + p.val), by omega⟩) + ((RLoc x0 x5 x6 x7 x8 x9 x10 x11 x12 x13 x14 r0) b h).own 2 n p = ((RLoc x0 x5 x6 x7 x8 x9 x10 x11 x12 x13 x14 r0) b h).st 3 n p :=
    congrArg₂ (· + ·) (congrArg₂ (· * ·) E2 rfl) rfl
  fin_vals k with hk
  all_goals simp only [hk, Nat.reduceSub, Nat.reduceLT, ↓reduceDIte]
  · rfl
  · exact E1
  · exact E2
  · exact E3

theorem y_at (b : Fin 6) (k : Fin 4) (l : Fin 256) (h : Fin 64) (p : Fin 128) : val_main_v159 (F := Ideal) x0 x5 x6 x7 x8 x9 x10 x11 x12 x13 r0 (ix5 b k l h p) = ((RLoc x0 x5 x6 x7 x8 x9 x10 x11 x12 x13 x14 r0) b h).y k l p := by
  pointwise [val_main_v89, val_main_v90, val_main_v91, val_main_v92, val_main_v93, val_main_v94, val_main_v95, val_main_v96, val_main_v97, val_main_v147, val_main_v148, val_main_v149, val_main_v150, val_main_v151, val_main_v152, val_main_v153, val_main_v154, val_main_v155, val_main_v156, val_main_v157, val_main_v158, val_main_v159]
  simp only [X_at x0 x5 x6 x7 x8 x9 x10 x11 x12 x13 x14 r0, B_at x0 x5 x6 x7 x8 x9 x10 x11 x12 x13 x14 r0, C_at x0 x5 x6 x7 x8 x9 x10 x11 x12 x13 x14 r0, dec_at x0 x5 x6 x7 x8 x9 x10 x11 x12 x13 x14 r0, st_at x0 x5 x6 x7 x8 x9 x10 x11 x12 x13 x14 r0]
  simp only [Nat.add_assoc]
  unfold Mix.Loc.y
  refine congrArg₂ (· + ·) (congrArg₂ (· + ·) (Finset.sum_congr rfl fun x _ => mul_comm _ _) (congrArg₂ (· * ·) (Finset.sum_congr rfl fun x _ => mul_comm _ _) rfl)) rfl

theorem G_at (b : Fin 6) (k : Fin 4) (l : Fin 256) (h : Fin 64) (p : Fin 128) : val_main_v177 (F := Ideal) x0 x5 x6 x7 x8 x9 x10 x11 x12 x13 x14 r0 (ix5 b k l h p) = ((RLoc x0 x5 x6 x7 x8 x9 x10 x11 x12 x13 x14 r0) b h).G k l p := by
  pointwise [val_main_v160, val_main_call8_v0, val_main_call8_v1, val_main_call8_cst, val_main_call8_v2, val_main_call8_v3, val_main_call8_cst_0, val_main_call8_v4, val_main_call8_v5, val_main_v161, val_main_v162, val_main_v163, val_main_cst_6, val_main_v164, val_main_v165, val_main_cst_7, val_main_v166, val_main_v167, val_main_cst_8, val_main_v168, val_main_v169, val_main_v170, val_main_v171, val_main_v172, val_main_v173, val_main_v174, val_main_v175, val_main_v176, val_main_v177, val_main_v3, val_main_v2]
  simp only [y_at x0 x5 x6 x7 x8 x9 x10 x11 x12 x13 x14 r0]
  rfl

theorem amax_at (b : Fin 6) (k : Fin 4) (l : Fin 256) (p : Fin 128) : val_main_v179 (F := Ideal) x0 x5 x6 x7 x8 x9 x10 x11 x12 x13 x14 r0 (ix4 b k l p)
    = Finset.univ.fold max ⊥ fun h : Fin 64 => max (((RLoc x0 x5 x6 x7 x8 x9 x10 x11 x12 x13 x14 r0) b h).G k l p) (-(((RLoc x0 x5 x6 x7 x8 x9 x10 x11 x12 x13 x14 r0) b h).G k l p)) := by
  pointwise [val_main_v178, val_main_v179, val_main_cst_9]
  simp only [G_at x0 x5 x6 x7 x8 x9 x10 x11 x12 x13 x14 r0]
  have hb : Ideal.ofBits FTy.f32 4286578688#32 = ⊥ := neg_inf
  rw [hb]; rfl

theorem out_at (R : Fin 6144) (J : Fin 8192) : val_main_v180 (F := Ideal) x0 x5 x6 x7 x8 x9 x10 x11 x12 x13 x14 r0 (ix2 R J)
    = ((RLoc x0 x5 x6 x7 x8 x9 x10 x11 x12 x13 x14 r0) ⟨R.val / 1024, by omega⟩ ⟨J.val / 128, by omega⟩).G ⟨R.val / 256 % 4, by omega⟩ ⟨R.val % 256, by omega⟩ ⟨J.val % 128, by omega⟩ := by
  rw [val_main_v180_apply, ← G_at x0 x5 x6 x7 x8 x9 x10 x11 x12 x13 x14 r0]
  refine congrArg _ ?_
  idx_ext <;> simp <;> omega

theorem mx_at (R : Fin 6144) (p : Fin 128) : val_main_v181 (F := Ideal) x0 x5 x6 x7 x8 x9 x10 x11 x12 x13 x14 r0 (ix2 R p)
    = Finset.univ.fold max ⊥ fun h : Fin 64 => max (((RLoc x0 x5 x6 x7 x8 x9 x10 x11 x12 x13 x14 r0) ⟨R.val / 1024, by omega⟩ h).G ⟨R.val / 256 % 4, by omega⟩ ⟨R.val % 256, by omega⟩ p) (-(((RLoc x0 x5 x6 x7 x8 x9 x10 x11 x12 x13 x14 r0) ⟨R.val / 1024, by omega⟩ h).G ⟨R.val / 256 % 4, by omega⟩ ⟨R.val % 256, by omega⟩ p)) := by
  rw [val_main_v181_apply, ← amax_at x0 x5 x6 x7 x8 x9 x10 x11 x12 x13 x14 r0]
  refine congrArg _ ?_
  idx_ext <;> simp <;> omega

end

end Cert.MixerRefIdeal.RefValue

end
-- ==== Proof.MixRef3.lean ====
/- The reference's two results as functions of its arguments. -/
module

public import proofs.«01_k».proof.Proof.MixRef2
public import Idealize.ShloMosaic.Lib.Pipeline.ValueKit

@[expose] public section

set_option maxRecDepth 16384

noncomputable section

namespace Cert.MixerRefIdeal.RefValue

open Cert.MixerRefIdeal Cert.MixerRefIdeal.Gen Cert.MixerRefIdeal.Read Idealize.ShloMosaic Idealize.ShloMosaic.TcCoe Idealize.SL.Sem
open Idealize.ShloMosaic.Pipeline (Dat)
open Cert

/-- The input projection at one element: the dot product of codes, times the row's and the column's scale. -/
def proj (x1 : S6144x7168.Idx → EReal) (x2 : S6144x1.Idx → EReal) (x3 : S7168x32832.Idx → EReal) (x4 : S32832.Idx → EReal) : S6144x32832.Idx → EReal := fun i =>
  (∑ k : Fin 7168, x1 (ix2 (i 0) k) * x3 (ix2 k (i 1))) * x2 (ix2 (i 0) 0) * x4 (ix1 (i 1))

theorem proj_apply (x1 : S6144x7168.Idx → EReal) (x2 : S6144x1.Idx → EReal) (x3 : S7168x32832.Idx → EReal) (x4 : S32832.Idx → EReal) (R : Fin 6144) (J : Fin 32832) :
    proj x1 x2 x3 x4 (ix2 R J) = (∑ k : Fin 7168, x1 (ix2 R k) * x3 (ix2 k J)) * x2 (ix2 R 0) * x4 (ix1 J) := rfl

/-- The gated values as one array of the arguments. -/
def outG (x0 : S64.Idx → EReal) (x1 : S6144x7168.Idx → EReal) (x2 : S6144x1.Idx → EReal) (x3 : S7168x32832.Idx → EReal) (x4 : S32832.Idx → EReal) (x5 : S4x24576.Idx → EReal) (x6 : S24576.Idx → EReal) (x7 x8 x9 x10 : S6144x128.Idx → EReal) (x11 : S32x2x6144.Idx → EReal) (x12 : S32x2x3072.Idx → EReal) (x13 : S6x1024.Idx → BitVec 32) (x14 : S8192.Idx → EReal) : S6144x8192.Idx → EReal := fun i =>
  (RLoc x0 x5 x6 x7 x8 x9 x10 x11 x12 x13 x14 (proj x1 x2 x3 x4) ⟨(i 0).val / 1024, by have : (i 0).val < 6144 := (i 0).isLt; omega⟩ ⟨(i 1).val / 128, by have : (i 1).val < 8192 := (i 1).isLt; omega⟩).G
    ⟨(i 0).val / 256 % 4, by omega⟩ ⟨(i 0).val % 256, by omega⟩ ⟨(i 1).val % 128, by omega⟩

/-- The maxima over the heads as one array of the arguments. -/
def outM (x0 : S64.Idx → EReal) (x1 : S6144x7168.Idx → EReal) (x2 : S6144x1.Idx → EReal) (x3 : S7168x32832.Idx → EReal) (x4 : S32832.Idx → EReal) (x5 : S4x24576.Idx → EReal) (x6 : S24576.Idx → EReal) (x7 x8 x9 x10 : S6144x128.Idx → EReal) (x11 : S32x2x6144.Idx → EReal) (x12 : S32x2x3072.Idx → EReal) (x13 : S6x1024.Idx → BitVec 32) (x14 : S8192.Idx → EReal) : S6144x128.Idx → EReal := fun i =>
  Finset.univ.fold max ⊥ fun h : Fin 64 =>
    max ((RLoc x0 x5 x6 x7 x8 x9 x10 x11 x12 x13 x14 (proj x1 x2 x3 x4) ⟨(i 0).val / 1024, by have : (i 0).val < 6144 := (i 0).isLt; omega⟩ h).G ⟨(i 0).val / 256 % 4, by omega⟩ ⟨(i 0).val % 256, by omega⟩ (i 1))
      (-(RLoc x0 x5 x6 x7 x8 x9 x10 x11 x12 x13 x14 (proj x1 x2 x3 x4) ⟨(i 0).val / 1024, by have : (i 0).val < 6144 := (i 0).isLt; omega⟩ h).G ⟨(i 0).val / 256 % 4, by omega⟩ ⟨(i 0).val % 256, by omega⟩ (i 1))

variable (m : (ℓ : Loc nD τ sig) → Buf (Elt Ideal) ℓ) (ρ : Dev nD → PrngReg)

theorem pay_apply (v0 : Vec Ideal S6144x7168 .fp8e4m3) (v1 : Vec Ideal S7168x32832 .fp8e4m3) (v3 : Vec Ideal S6144x1 .f32) (v6 : Vec Ideal S1x32832 .f32) (r : Fin 6144) (q : Fin 32832) :
    k0_pay1 v0 v1 v3 v6 (ix2 r q) = (∑ k : Fin 7168, v0 (ix2 r k) * v1 (ix2 k q)) * v3 (ix2 r 0) * v6 (ix2 0 q) := by
  pointwise [k0_pay1]

theorem V3 (c : Dev nD) (z : Fin 1) (q : Fin 32832) : (V m c main_v0 : S1x32832.Idx → EReal) (ix2 z q) = m ((c : Thread nD τ).loc main_arg4) (ix1 q) := by
  have h : ∀ x : S32832.Idx → EReal, shapeCast S1x32832 x shapeCasts_S32832_S1x32832 (ix2 z q) = x (ix1 q) := by
    intro x; pointwise
  entry_read
  exact h _

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)

theorem final_r (c : Dev nD) : (dats m 0 c).arrAt 4 cfg0.N
    = proj (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4]; frame_out
  obtain ⟨r, q, rfl⟩ : ∃ (r : Fin 6144) (q : Fin 32832), y = ix2 r q := ⟨y 0, y 1, eq_ix2 (n0 := 6144) (n1 := 32832) y⟩
  rw [pay_apply]
  have h4 : (win0_4.blk t).view.emb (ix2 r q) = ix2 r q := by blk_ext [e4]
  have h0 : ∀ k : Fin 7168, (win0_0.blk t).view.emb (ix2 r k) = ix2 r k := fun k => by blk_ext [e0]
  have h1 : ∀ k : Fin 7168, (win0_1.blk t).view.emb (ix2 k q) = ix2 k q := fun k => by blk_ext [e1]
  have h2 : (win0_2.blk t).view.emb (ix2 r 0) = ix2 r 0 := by blk_ext [e2]
  have h3 : (win0_3.blk t).view.emb (ix2 0 q) = ix2 0 q := by blk_ext [e3]
  show _ = proj _ _ _ _ ((win0_4.blk t).view.emb (ix2 r q))
  rw [h4, proj_apply]
  blk_simp [iblk]
  rw [V_main_arg1, V_main_arg2, V_main_arg3]
  simp only [h0, h1, h2, h3]
  rw [V3]

open Cert.MixerRefIdeal.Value in
theorem val_out (c : Dev nD) : shapeCast _ (res_main_v177 (exitV m c)) shapeCasts_S6x4x256x64x128_S6144x8192
    = outG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (val_main_v180_eq (exitV m c)).trans ?_
  rw [exit_main_arg0, exit_main_arg5, exit_main_arg6, exit_main_arg7, exit_main_arg8, exit_main_arg9, exit_main_arg10, exit_main_arg11, exit_main_arg12, exit_main_arg13, exit_main_arg14, exit_main_v1]
  unfold reg_main_v1
  rw [final_r]
  funext i
  obtain ⟨R, J, rfl⟩ : ∃ (R : Fin 6144) (J : Fin 8192), i = ix2 R J := ⟨i 0, i 1, eq_ix2 (n0 := 6144) (n1 := 8192) i⟩
  exact out_at ..

open Cert.MixerRefIdeal.Value in
theorem val_mx (c : Dev nD) : shapeCast _ (Host.reduce FloatOps.maximumf (Host.absf (res_main_v177 (exitV m c))) (constant S_ .f32 0xFF800000#32) reducesTo_S6x4x256x64x128_S6x4x256x128_d3 h_S_) shapeCasts_S6x4x256x128_S6144x128
    = outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (val_main_v181_eq (exitV m c)).trans ?_
  rw [exit_main_arg0, exit_main_arg5, exit_main_arg6, exit_main_arg7, exit_main_arg8, exit_main_arg9, exit_main_arg10, exit_main_arg11, exit_main_arg12, exit_main_arg13, exit_main_arg14, exit_main_v1]
  unfold reg_main_v1
  rw [final_r]
  funext i
  obtain ⟨R, J, rfl⟩ : ∃ (R : Fin 6144) (J : Fin 128), i = ix2 R J := ⟨i 0, i 1, eq_ix2 (n0 := 6144) (n1 := 128) i⟩
  exact mx_at ..

end Cert.MixerRefIdeal.RefValue

end
-- ==== Proof.MixVal7.lean ====
/- The blocks the body reads at a point, element by element of the launch's arguments. -/
module

public import proofs.«01_k».proof.Proof.MixVal5
public import proofs.«01_k».proof.Proof.MixFrame
public import proofs.«01_k».proof.Proof.MixRef2
public import proofs.«01_k».proof.Proof.MixRef3
public import Idealize.ShloMosaic.Lib.Pipeline.ValueKit

@[expose] public section

set_option maxRecDepth 16384

noncomputable section

namespace Cert.MixerIdeal.Gen

open Idealize.ShloMosaic Idealize.ShloMosaic.TcCoe Idealize.SL.Sem
open Idealize.ShloMosaic.Pipeline (Dat)
open Cert
open scoped BigOperators

variable (m : (ℓ : Loc nD τ sig) → Buf (Elt Ideal) ℓ)

theorem e0 : ∀ t : Fin cfg0.N, win0_0.index t = ![0] := (by decide +kernel : ∀ t : Fin grid0.N, _)
theorem e1 : ∀ t : Fin cfg0.N, win0_1.index t = ![t.val / 32, 0] := (by decide +kernel : ∀ t : Fin grid0.N, _)
theorem e2 : ∀ t : Fin cfg0.N, win0_2.index t = ![t.val / 32, 0] := (by decide +kernel : ∀ t : Fin grid0.N, _)
theorem e3 : ∀ t : Fin cfg0.N, win0_3.index t = ![t.val % 32, 0] := (by decide +kernel : ∀ t : Fin grid0.N, _)
theorem e4 : ∀ t : Fin cfg0.N, win0_4.index t = ![32 + t.val % 32, 0] := (by decide +kernel : ∀ t : Fin grid0.N, _)
theorem e5 : ∀ t : Fin cfg0.N, win0_5.index t = ![64 + t.val % 32, 0] := (by decide +kernel : ∀ t : Fin grid0.N, _)
theorem e6 : ∀ t : Fin cfg0.N, win0_6.index t = ![96 + t.val % 32, 0] := (by decide +kernel : ∀ t : Fin grid0.N, _)
theorem e7 : ∀ t : Fin cfg0.N, win0_7.index t = ![0, t.val % 32] := (by decide +kernel : ∀ t : Fin grid0.N, _)
theorem e8 : ∀ t : Fin cfg0.N, win0_8.index t = ![0, 32 + t.val % 32] := (by decide +kernel : ∀ t : Fin grid0.N, _)
theorem e9 : ∀ t : Fin cfg0.N, win0_9.index t = ![0, 64 + t.val % 32] := (by decide +kernel : ∀ t : Fin grid0.N, _)
theorem e10 : ∀ t : Fin cfg0.N, win0_10.index t = ![0, 96 + t.val % 32] := (by decide +kernel : ∀ t : Fin grid0.N, _)
theorem e11 : ∀ t : Fin cfg0.N, win0_11.index t = ![0, t.val % 32] := (by decide +kernel : ∀ t : Fin grid0.N, _)
theorem e12 : ∀ t : Fin cfg0.N, win0_12.index t = ![0, 32 + t.val % 32] := (by decide +kernel : ∀ t : Fin grid0.N, _)
theorem e13 : ∀ t : Fin cfg0.N, win0_13.index t = ![0, 64 + t.val % 32] := (by decide +kernel : ∀ t : Fin grid0.N, _)
theorem e14 : ∀ t : Fin cfg0.N, win0_14.index t = ![0, t.val % 32] := (by decide +kernel : ∀ t : Fin grid0.N, _)
theorem e15 : ∀ t : Fin cfg0.N, win0_15.index t = ![0, 32 + t.val % 32] := (by decide +kernel : ∀ t : Fin grid0.N, _)
theorem e16 : ∀ t : Fin cfg0.N, win0_16.index t = ![0, 64 + t.val % 32] := (by decide +kernel : ∀ t : Fin grid0.N, _)
theorem e17 : ∀ t : Fin cfg0.N, win0_17.index t = ![t.val / 32, 0] := (by decide +kernel : ∀ t : Fin grid0.N, _)
theorem e18 : ∀ t : Fin cfg0.N, win0_18.index t = ![t.val / 32, 0] := (by decide +kernel : ∀ t : Fin grid0.N, _)
theorem e19 : ∀ t : Fin cfg0.N, win0_19.index t = ![t.val / 32, 0] := (by decide +kernel : ∀ t : Fin grid0.N, _)
theorem e20 : ∀ t : Fin cfg0.N, win0_20.index t = ![t.val / 32, 0] := (by decide +kernel : ∀ t : Fin grid0.N, _)
theorem e21 : ∀ t : Fin cfg0.N, win0_21.index t = ![t.val % 32, 0, t.val / 32] := (by decide +kernel : ∀ t : Fin grid0.N, _)
theorem e22 : ∀ t : Fin cfg0.N, win0_22.index t = ![t.val % 32, 0, t.val / 32] := (by decide +kernel : ∀ t : Fin grid0.N, _)
theorem e23 : ∀ t : Fin cfg0.N, win0_23.index t = ![t.val / 32, 0] := (by decide +kernel : ∀ t : Fin grid0.N, _)
theorem e24 : ∀ t : Fin cfg0.N, win0_24.index t = ![t.val / 32, 0, 0] := (by decide +kernel : ∀ t : Fin grid0.N, _)
theorem e25 : ∀ t : Fin cfg0.N, win0_25.index t = ![0, t.val % 32] := (by decide +kernel : ∀ t : Fin grid0.N, _)
theorem e26 : ∀ t : Fin cfg0.N, win0_26.index t = ![t.val / 32, t.val % 32] := (by decide +kernel : ∀ t : Fin grid0.N, _)
theorem e27 : ∀ t : Fin cfg0.N, win0_27.index t = ![t.val / 32, 0] := (by decide +kernel : ∀ t : Fin grid0.N, _)

theorem coords1 (t : Fin cfg0.N) : (grid0.coords t 1).val = t.val % 32 := by
  have e1 : (grid0.coords t 1).val = t.val / 1 % 32 := Pipeline.Grid.coords_val t 1 (by decide) rfl
  rw [e1, Nat.div_one]

theorem t_lt (t : Fin cfg0.N) : t.val < 192 := lt_of_lt_of_eq t.isLt N_0

theorem V0 (c : Dev nD) (J : Fin 32832) (k : Fin 7168) : (V m c main_v0 : S32832x7168.Idx → EReal) (ix2 J k) = m ((c : Thread nD τ).loc main_arg3) (ix2 k J) := by
  have h : ∀ x : S7168x32832.Idx → EReal, transpose S32832x7168 [1, 0] x transposes_S7168x32832_S32832x7168_1_0 (ix2 J k) = x (ix2 k J) := by
    intro x; pointwise
  entry_read
  exact h _

theorem V1 (c : Dev nD) (b : Fin 6) (r : Fin 1024) (z : Fin 1) : (V m c main_v1 : S6144x1.Idx → BitVec 32) (ix2 ⟨b.val * 1024 + r.val, by omega⟩ z) = m ((c : Thread nD τ).loc main_arg13) (ix2 b r) := by
  have h : ∀ x : S6x1024.Idx → BitVec 32, shapeCast S6144x1 x shapeCasts_S6x1024_S6144x1 (ix2 ⟨b.val * 1024 + r.val, by omega⟩ z) = x (ix2 b r) := by
    intro x; pointwise
  entry_read
  exact h _

theorem V2 (c : Dev nD) (b : Fin 6) (r : Fin 1024) (z : Fin 1) : (V m c main_v2 : S6x1x1024.Idx → BitVec 32) (ix3 b z r) = m ((c : Thread nD τ).loc main_arg13) (ix2 b r) := by
  have h : ∀ x : S6x1024.Idx → BitVec 32, shapeCast S6x1x1024 x shapeCasts_S6x1024_S6x1x1024 (ix3 b z r) = x (ix2 b r) := by
    intro x; pointwise
  entry_read
  exact h _

theorem V3 (c : Dev nD) (z : Fin 1) (q : Fin 32832) : (V m c main_v3 : S1x32832.Idx → EReal) (ix2 z q) = m ((c : Thread nD τ).loc main_arg4) (ix1 q) := by
  have h : ∀ x : S32832.Idx → EReal, shapeCast S1x32832 x shapeCasts_S32832_S1x32832 (ix2 z q) = x (ix1 q) := by
    intro x; pointwise
  entry_read
  exact h _

theorem V4 (c : Dev nD) (z : Fin 1) (q : Fin 24576) : (V m c main_v4 : S1x24576.Idx → EReal) (ix2 z q) = m ((c : Thread nD τ).loc main_arg6) (ix1 q) := by
  have h : ∀ x : S24576.Idx → EReal, shapeCast S1x24576 x shapeCasts_S24576_S1x24576 (ix2 z q) = x (ix1 q) := by
    intro x; pointwise
  entry_read
  exact h _

theorem V5 (c : Dev nD) (z : Fin 1) (q : Fin 8192) : (V m c main_v5 : S1x8192.Idx → EReal) (ix2 z q) = m ((c : Thread nD τ).loc main_arg14) (ix1 q) := by
  have h : ∀ x : S8192.Idx → EReal, shapeCast S1x8192 x shapeCasts_S8192_S1x8192 (ix2 z q) = x (ix1 q) := by
    intro x; pointwise
  entry_read
  exact h _

theorem P0 (c : Dev nD) (t : Fin cfg0.N) (h : Fin 64) : (iblk m c 0 t : S64.Idx → EReal) (ix1 h) = m ((c : Thread nD τ).loc main_arg0) (ix1 h) := by
  have ht := t_lt t
  have hh : (win0_0.blk t).view.emb (ix1 h) = ix1 h := by blk_ext [e0]
  show (win0_0.blk t).view.read (Elt Ideal) (V m c (Pipeline.arrRef spec0 0)) (ix1 h) = _
  blk_simp
  rw [hh]
  exact congrFun (V_main_arg0 m c) _

theorem P1 (c : Dev nD) (t : Fin cfg0.N) (r : Fin 1024) (k : Fin 7168) : (iblk m c 1 t : S1024x7168.Idx → EReal) (ix2 r k) = m ((c : Thread nD τ).loc main_arg1) (ix2 ⟨t.val / 32 * 1024 + r.val, by have := t_lt t; omega⟩ k) := by
  have ht := t_lt t
  have h : (win0_1.blk t).view.emb (ix2 r k) = ix2 ⟨t.val / 32 * 1024 + r.val, by have := t_lt t; omega⟩ k := by blk_ext [e1]
  show (win0_1.blk t).view.read (Elt Ideal) (V m c (Pipeline.arrRef spec0 1)) (ix2 r k) = _
  blk_simp
  rw [h]
  exact congrFun (V_main_arg1 m c) _

theorem P2 (c : Dev nD) (t : Fin cfg0.N) (r : Fin 1024) (z : Fin 1) : (iblk m c 2 t : S1024x1.Idx → EReal) (ix2 r z) = m ((c : Thread nD τ).loc main_arg2) (ix2 ⟨t.val / 32 * 1024 + r.val, by have := t_lt t; omega⟩ z) := by
  have ht := t_lt t
  have h : (win0_2.blk t).view.emb (ix2 r z) = ix2 ⟨t.val / 32 * 1024 + r.val, by have := t_lt t; omega⟩ z := by blk_ext [e2]
  show (win0_2.blk t).view.read (Elt Ideal) (V m c (Pipeline.arrRef spec0 2)) (ix2 r z) = _
  blk_simp
  rw [h]
  exact congrFun (V_main_arg2 m c) _

theorem P3 (c : Dev nD) (t : Fin cfg0.N) (q : Fin 256) (k : Fin 7168) : (X0_3 m c t : S256x7168.Idx → EReal) (ix2 q k) = m ((c : Thread nD τ).loc main_arg3) (ix2 k ⟨t.val % 32 * 256 + q.val, by have := t_lt t; omega⟩) := by
  have ht := t_lt t
  have h : ∀ y : (win0_3.xblock (grid0.coords t)).Idx, (y 0).val = q.val → (y 1).val = k.val → (win0_3.blk t).view.emb y = ix2 ⟨t.val % 32 * 256 + q.val, by have := t_lt t; omega⟩ k := by
    intro y h0 h1
    blk_ext [e3, h0, h1]
  unfold X0_3 Pipeline.Window.fill
  rw [dif_pos (moved0_3 t _)]
  exact (congrArg (V m c main_v0 : S32832x7168.Idx → EReal) (h _ rfl rfl)).trans (V0 m c _ _)

theorem P4 (c : Dev nD) (t : Fin cfg0.N) (q : Fin 256) (k : Fin 7168) : (X0_4 m c t : S256x7168.Idx → EReal) (ix2 q k) = m ((c : Thread nD τ).loc main_arg3) (ix2 k ⟨(32 + t.val % 32) * 256 + q.val, by have := t_lt t; omega⟩) := by
  have ht := t_lt t
  have h : ∀ y : (win0_4.xblock (grid0.coords t)).Idx, (y 0).val = q.val → (y 1).val = k.val → (win0_4.blk t).view.emb y = ix2 ⟨(32 + t.val % 32) * 256 + q.val, by have := t_lt t; omega⟩ k := by
    intro y h0 h1
    blk_ext [e4, h0, h1]
  unfold X0_4 Pipeline.Window.fill
  rw [dif_pos (moved0_4 t _)]
  exact (congrArg (V m c main_v0 : S32832x7168.Idx → EReal) (h _ rfl rfl)).trans (V0 m c _ _)

theorem P5 (c : Dev nD) (t : Fin cfg0.N) (q : Fin 256) (k : Fin 7168) : (X0_5 m c t : S256x7168.Idx → EReal) (ix2 q k) = m ((c : Thread nD τ).loc main_arg3) (ix2 k ⟨(64 + t.val % 32) * 256 + q.val, by have := t_lt t; omega⟩) := by
  have ht := t_lt t
  have h : ∀ y : (win0_5.xblock (grid0.coords t)).Idx, (y 0).val = q.val → (y 1).val = k.val → (win0_5.blk t).view.emb y = ix2 ⟨(64 + t.val % 32) * 256 + q.val, by have := t_lt t; omega⟩ k := by
    intro y h0 h1
    blk_ext [e5, h0, h1]
  unfold X0_5 Pipeline.Window.fill
  rw [dif_pos (moved0_5 t _)]
  exact (congrArg (V m c main_v0 : S32832x7168.Idx → EReal) (h _ rfl rfl)).trans (V0 m c _ _)

theorem P6 (c : Dev nD) (t : Fin cfg0.N) (q : Fin 256) (k : Fin 7168) : (X0_6 m c t : S256x7168.Idx → EReal) (ix2 q k) = m ((c : Thread nD τ).loc main_arg3) (ix2 k ⟨(96 + t.val % 32) * 256 + q.val, by have := t_lt t; omega⟩) := by
  have ht := t_lt t
  have h : ∀ y : (win0_6.xblock (grid0.coords t)).Idx, (y 0).val = q.val → (y 1).val = k.val → (win0_6.blk t).view.emb y = ix2 ⟨(96 + t.val % 32) * 256 + q.val, by have := t_lt t; omega⟩ k := by
    intro y h0 h1
    blk_ext [e6, h0, h1]
  unfold X0_6 Pipeline.Window.fill
  rw [dif_pos (moved0_6 t _)]
  exact (congrArg (V m c main_v0 : S32832x7168.Idx → EReal) (h _ rfl rfl)).trans (V0 m c _ _)

theorem P7 (c : Dev nD) (t : Fin cfg0.N) (z : Fin 1) (q : Fin 256) : (X0_7 m c t : S1x256.Idx → EReal) (ix2 z q) = m ((c : Thread nD τ).loc main_arg4) (ix1 ⟨t.val % 32 * 256 + q.val, by have := t_lt t; omega⟩) := by
  have ht := t_lt t
  have h : ∀ y : (win0_7.xblock (grid0.coords t)).Idx, (y 0).val = z.val → (y 1).val = q.val → (win0_7.blk t).view.emb y = ix2 z ⟨t.val % 32 * 256 + q.val, by have := t_lt t; omega⟩ := by
    intro y h0 h1
    blk_ext [e7, h0, h1]
  unfold X0_7 Pipeline.Window.fill
  rw [dif_pos (moved0_7 t _)]
  exact (congrArg (V m c main_v3 : S1x32832.Idx → EReal) (h _ rfl rfl)).trans (V3 m c _ _)

theorem P8 (c : Dev nD) (t : Fin cfg0.N) (z : Fin 1) (q : Fin 256) : (X0_8 m c t : S1x256.Idx → EReal) (ix2 z q) = m ((c : Thread nD τ).loc main_arg4) (ix1 ⟨(32 + t.val % 32) * 256 + q.val, by have := t_lt t; omega⟩) := by
  have ht := t_lt t
  have h : ∀ y : (win0_8.xblock (grid0.coords t)).Idx, (y 0).val = z.val → (y 1).val = q.val → (win0_8.blk t).view.emb y = ix2 z ⟨(32 + t.val % 32) * 256 + q.val, by have := t_lt t; omega⟩ := by
    intro y h0 h1
    blk_ext [e8, h0, h1]
  unfold X0_8 Pipeline.Window.fill
  rw [dif_pos (moved0_8 t _)]
  exact (congrArg (V m c main_v3 : S1x32832.Idx → EReal) (h _ rfl rfl)).trans (V3 m c _ _)

theorem P9 (c : Dev nD) (t : Fin cfg0.N) (z : Fin 1) (q : Fin 256) : (X0_9 m c t : S1x256.Idx → EReal) (ix2 z q) = m ((c : Thread nD τ).loc main_arg4) (ix1 ⟨(64 + t.val % 32) * 256 + q.val, by have := t_lt t; omega⟩) := by
  have ht := t_lt t
  have h : ∀ y : (win0_9.xblock (grid0.coords t)).Idx, (y 0).val = z.val → (y 1).val = q.val → (win0_9.blk t).view.emb y = ix2 z ⟨(64 + t.val % 32) * 256 + q.val, by have := t_lt t; omega⟩ := by
    intro y h0 h1
    blk_ext [e9, h0, h1]
  unfold X0_9 Pipeline.Window.fill
  rw [dif_pos (moved0_9 t _)]
  exact (congrArg (V m c main_v3 : S1x32832.Idx → EReal) (h _ rfl rfl)).trans (V3 m c _ _)

theorem P10 (c : Dev nD) (t : Fin cfg0.N) (z : Fin 1) (q : Fin 256) : (X0_10 m c t : S1x256.Idx → EReal) (ix2 z q) = m ((c : Thread nD τ).loc main_arg4) (ix1 ⟨(96 + t.val % 32) * 256 + q.val, by have := t_lt t; omega⟩) := by
  have ht := t_lt t
  have h : ∀ y : (win0_10.xblock (grid0.coords t)).Idx, (y 0).val = z.val → (y 1).val = q.val → (win0_10.blk t).view.emb y = ix2 z ⟨(96 + t.val % 32) * 256 + q.val, by have := t_lt t; omega⟩ := by
    intro y h0 h1
    blk_ext [e10, h0, h1]
  unfold X0_10 Pipeline.Window.fill
  rw [dif_pos (moved0_10 t _)]
  exact (congrArg (V m c main_v3 : S1x32832.Idx → EReal) (h _ rfl rfl)).trans (V3 m c _ _)

theorem P11 (c : Dev nD) (t : Fin cfg0.N) (k : Fin 4) (q : Fin 256) : (iblk m c 11 t : S4x256.Idx → EReal) (ix2 k q) = m ((c : Thread nD τ).loc main_arg5) (ix2 k ⟨t.val % 32 * 256 + q.val, by have := t_lt t; omega⟩) := by
  have ht := t_lt t
  have h : (win0_11.blk t).view.emb (ix2 k q) = ix2 k ⟨t.val % 32 * 256 + q.val, by have := t_lt t; omega⟩ := by blk_ext [e11]
  show (win0_11.blk t).view.read (Elt Ideal) (V m c (Pipeline.arrRef spec0 11)) (ix2 k q) = _
  blk_simp
  rw [h]
  exact congrFun (V_main_arg5 m c) _

theorem P12 (c : Dev nD) (t : Fin cfg0.N) (k : Fin 4) (q : Fin 256) : (iblk m c 12 t : S4x256.Idx → EReal) (ix2 k q) = m ((c : Thread nD τ).loc main_arg5) (ix2 k ⟨(32 + t.val % 32) * 256 + q.val, by have := t_lt t; omega⟩) := by
  have ht := t_lt t
  have h : (win0_12.blk t).view.emb (ix2 k q) = ix2 k ⟨(32 + t.val % 32) * 256 + q.val, by have := t_lt t; omega⟩ := by blk_ext [e12]
  show (win0_12.blk t).view.read (Elt Ideal) (V m c (Pipeline.arrRef spec0 12)) (ix2 k q) = _
  blk_simp
  rw [h]
  exact congrFun (V_main_arg5 m c) _

theorem P13 (c : Dev nD) (t : Fin cfg0.N) (k : Fin 4) (q : Fin 256) : (iblk m c 13 t : S4x256.Idx → EReal) (ix2 k q) = m ((c : Thread nD τ).loc main_arg5) (ix2 k ⟨(64 + t.val % 32) * 256 + q.val, by have := t_lt t; omega⟩) := by
  have ht := t_lt t
  have h : (win0_13.blk t).view.emb (ix2 k q) = ix2 k ⟨(64 + t.val % 32) * 256 + q.val, by have := t_lt t; omega⟩ := by blk_ext [e13]
  show (win0_13.blk t).view.read (Elt Ideal) (V m c (Pipeline.arrRef spec0 13)) (ix2 k q) = _
  blk_simp
  rw [h]
  exact congrFun (V_main_arg5 m c) _

theorem P14 (c : Dev nD) (t : Fin cfg0.N) (z : Fin 1) (q : Fin 256) : (iblk m c 14 t : S1x256.Idx → EReal) (ix2 z q) = m ((c : Thread nD τ).loc main_arg6) (ix1 ⟨t.val % 32 * 256 + q.val, by have := t_lt t; omega⟩) := by
  have ht := t_lt t
  have h : (win0_14.blk t).view.emb (ix2 z q) = ix2 z ⟨t.val % 32 * 256 + q.val, by have := t_lt t; omega⟩ := by blk_ext [e14]
  show (win0_14.blk t).view.read (Elt Ideal) (V m c (Pipeline.arrRef spec0 14)) (ix2 z q) = _
  blk_simp
  rw [h]
  exact V4 m c _ _

theorem P15 (c : Dev nD) (t : Fin cfg0.N) (z : Fin 1) (q : Fin 256) : (iblk m c 15 t : S1x256.Idx → EReal) (ix2 z q) = m ((c : Thread nD τ).loc main_arg6) (ix1 ⟨(32 + t.val % 32) * 256 + q.val, by have := t_lt t; omega⟩) := by
  have ht := t_lt t
  have h : (win0_15.blk t).view.emb (ix2 z q) = ix2 z ⟨(32 + t.val % 32) * 256 + q.val, by have := t_lt t; omega⟩ := by blk_ext [e15]
  show (win0_15.blk t).view.read (Elt Ideal) (V m c (Pipeline.arrRef spec0 15)) (ix2 z q) = _
  blk_simp
  rw [h]
  exact V4 m c _ _

theorem P16 (c : Dev nD) (t : Fin cfg0.N) (z : Fin 1) (q : Fin 256) : (iblk m c 16 t : S1x256.Idx → EReal) (ix2 z q) = m ((c : Thread nD τ).loc main_arg6) (ix1 ⟨(64 + t.val % 32) * 256 + q.val, by have := t_lt t; omega⟩) := by
  have ht := t_lt t
  have h : (win0_16.blk t).view.emb (ix2 z q) = ix2 z ⟨(64 + t.val % 32) * 256 + q.val, by have := t_lt t; omega⟩ := by blk_ext [e16]
  show (win0_16.blk t).view.read (Elt Ideal) (V m c (Pipeline.arrRef spec0 16)) (ix2 z q) = _
  blk_simp
  rw [h]
  exact V4 m c _ _

theorem P17 (c : Dev nD) (t : Fin cfg0.N) (r : Fin 1024) (q : Fin 128) : (iblk m c 17 t : S1024x128.Idx → EReal) (ix2 r q) = m ((c : Thread nD τ).loc main_arg7) (ix2 ⟨t.val / 32 * 1024 + r.val, by have := t_lt t; omega⟩ q) := by
  have ht := t_lt t
  have h : (win0_17.blk t).view.emb (ix2 r q) = ix2 ⟨t.val / 32 * 1024 + r.val, by have := t_lt t; omega⟩ q := by blk_ext [e17]
  show (win0_17.blk t).view.read (Elt Ideal) (V m c (Pipeline.arrRef spec0 17)) (ix2 r q) = _
  blk_simp
  rw [h]
  exact congrFun (V_main_arg7 m c) _

theorem P18 (c : Dev nD) (t : Fin cfg0.N) (r : Fin 1024) (q : Fin 128) : (iblk m c 18 t : S1024x128.Idx → EReal) (ix2 r q) = m ((c : Thread nD τ).loc main_arg8) (ix2 ⟨t.val / 32 * 1024 + r.val, by have := t_lt t; omega⟩ q) := by
  have ht := t_lt t
  have h : (win0_18.blk t).view.emb (ix2 r q) = ix2 ⟨t.val / 32 * 1024 + r.val, by have := t_lt t; omega⟩ q := by blk_ext [e18]
  show (win0_18.blk t).view.read (Elt Ideal) (V m c (Pipeline.arrRef spec0 18)) (ix2 r q) = _
  blk_simp
  rw [h]
  exact congrFun (V_main_arg8 m c) _

theorem P19 (c : Dev nD) (t : Fin cfg0.N) (r : Fin 1024) (q : Fin 128) : (iblk m c 19 t : S1024x128.Idx → EReal) (ix2 r q) = m ((c : Thread nD τ).loc main_arg9) (ix2 ⟨t.val / 32 * 1024 + r.val, by have := t_lt t; omega⟩ q) := by
  have ht := t_lt t
  have h : (win0_19.blk t).view.emb (ix2 r q) = ix2 ⟨t.val / 32 * 1024 + r.val, by have := t_lt t; omega⟩ q := by blk_ext [e19]
  show (win0_19.blk t).view.read (Elt Ideal) (V m c (Pipeline.arrRef spec0 19)) (ix2 r q) = _
  blk_simp
  rw [h]
  exact congrFun (V_main_arg9 m c) _

theorem P20 (c : Dev nD) (t : Fin cfg0.N) (r : Fin 1024) (q : Fin 128) : (iblk m c 20 t : S1024x128.Idx → EReal) (ix2 r q) = m ((c : Thread nD τ).loc main_arg10) (ix2 ⟨t.val / 32 * 1024 + r.val, by have := t_lt t; omega⟩ q) := by
  have ht := t_lt t
  have h : (win0_20.blk t).view.emb (ix2 r q) = ix2 ⟨t.val / 32 * 1024 + r.val, by have := t_lt t; omega⟩ q := by blk_ext [e20]
  show (win0_20.blk t).view.read (Elt Ideal) (V m c (Pipeline.arrRef spec0 20)) (ix2 r q) = _
  blk_simp
  rw [h]
  exact congrFun (V_main_arg10 m c) _

theorem P21 (c : Dev nD) (t : Fin cfg0.N) (z : Fin 1) (h : Fin 2) (r : Fin 1024) : (iblk m c 21 t : S1x2x1024.Idx → EReal) (ix3 z h r) = m ((c : Thread nD τ).loc main_arg11) (ix3 ⟨t.val % 32, by omega⟩ h ⟨t.val / 32 * 1024 + r.val, by have := t_lt t; omega⟩) := by
  have ht := t_lt t
  have hh : (win0_21.blk t).view.emb (ix3 z h r) = ix3 ⟨t.val % 32, by omega⟩ h ⟨t.val / 32 * 1024 + r.val, by have := t_lt t; omega⟩ := by blk_ext [e21]
  show (win0_21.blk t).view.read (Elt Ideal) (V m c (Pipeline.arrRef spec0 21)) (ix3 z h r) = _
  blk_simp
  rw [hh]
  exact congrFun (V_main_arg11 m c) _

theorem P22 (c : Dev nD) (t : Fin cfg0.N) (z : Fin 1) (h : Fin 2) (r : Fin 512) : (iblk m c 22 t : S1x2x512.Idx → EReal) (ix3 z h r) = m ((c : Thread nD τ).loc main_arg12) (ix3 ⟨t.val % 32, by omega⟩ h ⟨t.val / 32 * 512 + r.val, by have := t_lt t; omega⟩) := by
  have ht := t_lt t
  have hh : (win0_22.blk t).view.emb (ix3 z h r) = ix3 ⟨t.val % 32, by omega⟩ h ⟨t.val / 32 * 512 + r.val, by have := t_lt t; omega⟩ := by blk_ext [e22]
  show (win0_22.blk t).view.read (Elt Ideal) (V m c (Pipeline.arrRef spec0 22)) (ix3 z h r) = _
  blk_simp
  rw [hh]
  exact congrFun (V_main_arg12 m c) _

theorem P23 (c : Dev nD) (t : Fin cfg0.N) (r : Fin 1024) (z : Fin 1) : (iblk m c 23 t : S1024x1.Idx → BitVec 32) (ix2 r z) = m ((c : Thread nD τ).loc main_arg13) (ix2 ⟨t.val / 32, by have := t_lt t; omega⟩ r) := by
  have ht := t_lt t
  have h : (win0_23.blk t).view.emb (ix2 r z) = ix2 ⟨t.val / 32 * 1024 + r.val, by have := t_lt t; omega⟩ z := by blk_ext [e23]
  show (win0_23.blk t).view.read (Elt Ideal) (V m c (Pipeline.arrRef spec0 23)) (ix2 r z) = _
  blk_simp
  rw [h]
  exact V1 m c ⟨t.val / 32, by have := t_lt t; omega⟩ r z

theorem P24 (c : Dev nD) (t : Fin cfg0.N) (z z2 : Fin 1) (s : Fin 1024) : (iblk m c 24 t : S1x1x1024.Idx → BitVec 32) (ix3 z z2 s) = m ((c : Thread nD τ).loc main_arg13) (ix2 ⟨t.val / 32, by have := t_lt t; omega⟩ s) := by
  have ht := t_lt t
  have h : (win0_24.blk t).view.emb (ix3 z z2 s) = ix3 ⟨t.val / 32, by have := t_lt t; omega⟩ z2 s := by blk_ext [e24]
  show (win0_24.blk t).view.read (Elt Ideal) (V m c (Pipeline.arrRef spec0 24)) (ix3 z z2 s) = _
  blk_simp
  rw [h]
  exact V2 m c ⟨t.val / 32, by have := t_lt t; omega⟩ s z2

theorem P25 (c : Dev nD) (t : Fin cfg0.N) (z : Fin 1) (q : Fin 256) : (iblk m c 25 t : S1x256.Idx → EReal) (ix2 z q) = m ((c : Thread nD τ).loc main_arg14) (ix1 ⟨t.val % 32 * 256 + q.val, by omega⟩) := by
  have ht := t_lt t
  have h : (win0_25.blk t).view.emb (ix2 z q) = ix2 z ⟨t.val % 32 * 256 + q.val, by omega⟩ := by blk_ext [e25]
  show (win0_25.blk t).view.read (Elt Ideal) (V m c (Pipeline.arrRef spec0 25)) (ix2 z q) = _
  blk_simp
  rw [h]
  exact V5 m c _ _

end Cert.MixerIdeal.Gen

end
-- ==== Proof.MixVal8.lean ====
/- The mixer's two results as functions of its arguments, and the claim that they are the plain reference's. -/
module

public import proofs.«01_k».proof.Defs
public import proofs.«01_k».proof.Proof.MixVal6
public import proofs.«01_k».proof.Proof.MixVal7
public import proofs.«01_k».proof.Proof.MixRef3
public import Idealize.ShloMosaic.Lib.Claim

@[expose] public section

set_option maxRecDepth 16384
set_option maxHeartbeats 2000000

noncomputable section

namespace Cert.MixerIdeal.Gen

open Idealize.ShloMosaic Idealize.ShloMosaic.TcCoe Idealize.SL.Sem
open Idealize.ShloMosaic.Pipeline (Dat)
open Cert Cert.Mix
open Cert.MixerRefIdeal.RefValue (RLoc proj proj_apply outG outM)
open scoped BigOperators

variable (m : (ℓ : Loc nD τ sig) → Buf (Elt Ideal) ℓ) (ρ : Dev nD → PrngReg)

/-- What head `h` of batch `b` is computed from, of the launch's arguments. -/
def RT (c : Dev nD) (b : Fin 6) (h : Fin 64) : Mix.Loc := RLoc (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (proj (m ((c : Thread nD τ).loc main_arg1)) (m ((c : Thread nD τ).loc main_arg2)) (m ((c : Thread nD τ).loc main_arg3)) (m ((c : Thread nD τ).loc main_arg4))) b h

/-- The documents of batch `b`. -/
def docB (c : Dev nD) (b : Fin 6) (r : Fin 1024) : BitVec 32 := (m ((c : Thread nD τ).loc main_arg13)) (ix2 b r)

/-- The batch of point `t`. -/
def bt (t : Fin cfg0.N) : Fin 6 := ⟨t.val / 32, by have := t_lt t; omega⟩

/-- The head that point `t` computes at place `hd` of its pair. -/
def ht (t : Fin cfg0.N) (hd : Fin 2) : Fin 64 := ⟨2 * (t.val % 32) + hd.val, by omega⟩

theorem loc_ext : ∀ {a b : Mix.Loc}, a.pz = b.pz → a.px = b.px → a.pb = b.pb → a.pc = b.pc → a.wx = b.wx → a.wb = b.wb → a.wc = b.wc → a.bx = b.bx → a.bb = b.bb → a.bc = b.bc →
    a.ac = b.ac → a.dt = b.dt → a.dw = b.dw → a.fp = b.fp → a.ar = b.ar → a.cd = b.cd → a.dk = b.dk → a.gw = b.gw → a.doc = b.doc → a = b
  | ⟨_, _, _, _, _, _, _, _, _, _, _, _, _, _, _, _, _, _, _⟩, ⟨_, _, _, _, _, _, _, _, _, _, _, _, _, _, _, _, _, _, _⟩, rfl, rfl, rfl, rfl, rfl, rfl, rfl, rfl, rfl, rfl, rfl, rfl, rfl, rfl, rfl, rfl, rfl, rfl, rfl => rfl

theorem pj0 (c : Dev nD) (t : Fin cfg0.N) (hd : Fin 2) (r : Fin 1024) (q : Fin 128) (J : Fin 32832) (hJ : J.val = 0 + (ht t hd).val * 128 + q.val) :
    PJ (iblk m c 1 t) (iblk m c 2 t) (X0_3 m c t) (X0_7 m c t) hd r q = proj (m ((c : Thread nD τ).loc main_arg1)) (m ((c : Thread nD τ).loc main_arg2)) (m ((c : Thread nD τ).loc main_arg3)) (m ((c : Thread nD τ).loc main_arg4)) (ix2 ⟨(bt t).val * 1024 + r.val, by have := (bt t).isLt; omega⟩ J) := by
  have hJ' : J.val = 0 + (2 * (t.val % 32) + hd.val) * 128 + q.val := hJ
  rw [proj_apply]
  unfold PJ
  refine congrArg₂ (· * ·) (congrArg₂ (· * ·) (Finset.sum_congr rfl fun k _ => congrArg₂ (· * ·) (P1 m c t r k) ?_) (P2 m c t r 0)) ?_
  · exact (P3 m c t _ k).trans (congrArg (m ((c : Thread nD τ).loc main_arg3)) ((ix2_inj _ _ _ _).2 ⟨rfl, Fin.ext (by simp only; omega)⟩))
  · exact (P7 m c t _ _).trans (congrArg (m ((c : Thread nD τ).loc main_arg4)) (congrArg ix1 (Fin.ext (by simp only; omega))))

theorem pj1 (c : Dev nD) (t : Fin cfg0.N) (hd : Fin 2) (r : Fin 1024) (q : Fin 128) (J : Fin 32832) (hJ : J.val = 8192 + (ht t hd).val * 128 + q.val) :
    PJ (iblk m c 1 t) (iblk m c 2 t) (X0_4 m c t) (X0_8 m c t) hd r q = proj (m ((c : Thread nD τ).loc main_arg1)) (m ((c : Thread nD τ).loc main_arg2)) (m ((c : Thread nD τ).loc main_arg3)) (m ((c : Thread nD τ).loc main_arg4)) (ix2 ⟨(bt t).val * 1024 + r.val, by have := (bt t).isLt; omega⟩ J) := by
  have hJ' : J.val = 8192 + (2 * (t.val % 32) + hd.val) * 128 + q.val := hJ
  rw [proj_apply]
  unfold PJ
  refine congrArg₂ (· * ·) (congrArg₂ (· * ·) (Finset.sum_congr rfl fun k _ => congrArg₂ (· * ·) (P1 m c t r k) ?_) (P2 m c t r 0)) ?_
  · exact (P4 m c t _ k).trans (congrArg (m ((c : Thread nD τ).loc main_arg3)) ((ix2_inj _ _ _ _).2 ⟨rfl, Fin.ext (by simp only; omega)⟩))
  · exact (P8 m c t _ _).trans (congrArg (m ((c : Thread nD τ).loc main_arg4)) (congrArg ix1 (Fin.ext (by simp only; omega))))

theorem pj2 (c : Dev nD) (t : Fin cfg0.N) (hd : Fin 2) (r : Fin 1024) (q : Fin 128) (J : Fin 32832) (hJ : J.val = 16384 + (ht t hd).val * 128 + q.val) :
    PJ (iblk m c 1 t) (iblk m c 2 t) (X0_5 m c t) (X0_9 m c t) hd r q = proj (m ((c : Thread nD τ).loc main_arg1)) (m ((c : Thread nD τ).loc main_arg2)) (m ((c : Thread nD τ).loc main_arg3)) (m ((c : Thread nD τ).loc main_arg4)) (ix2 ⟨(bt t).val * 1024 + r.val, by have := (bt t).isLt; omega⟩ J) := by
  have hJ' : J.val = 16384 + (2 * (t.val % 32) + hd.val) * 128 + q.val := hJ
  rw [proj_apply]
  unfold PJ
  refine congrArg₂ (· * ·) (congrArg₂ (· * ·) (Finset.sum_congr rfl fun k _ => congrArg₂ (· * ·) (P1 m c t r k) ?_) (P2 m c t r 0)) ?_
  · exact (P5 m c t _ k).trans (congrArg (m ((c : Thread nD τ).loc main_arg3)) ((ix2_inj _ _ _ _).2 ⟨rfl, Fin.ext (by simp only; omega)⟩))
  · exact (P9 m c t _ _).trans (congrArg (m ((c : Thread nD τ).loc main_arg4)) (congrArg ix1 (Fin.ext (by simp only; omega))))

theorem pj3 (c : Dev nD) (t : Fin cfg0.N) (hd : Fin 2) (r : Fin 1024) (q : Fin 128) (J : Fin 32832) (hJ : J.val = 24576 + (ht t hd).val * 128 + q.val) :
    PJ (iblk m c 1 t) (iblk m c 2 t) (X0_6 m c t) (X0_10 m c t) hd r q = proj (m ((c : Thread nD τ).loc main_arg1)) (m ((c : Thread nD τ).loc main_arg2)) (m ((c : Thread nD τ).loc main_arg3)) (m ((c : Thread nD τ).loc main_arg4)) (ix2 ⟨(bt t).val * 1024 + r.val, by have := (bt t).isLt; omega⟩ J) := by
  have hJ' : J.val = 24576 + (2 * (t.val % 32) + hd.val) * 128 + q.val := hJ
  rw [proj_apply]
  unfold PJ
  refine congrArg₂ (· * ·) (congrArg₂ (· * ·) (Finset.sum_congr rfl fun k _ => congrArg₂ (· * ·) (P1 m c t r k) ?_) (P2 m c t r 0)) ?_
  · exact (P6 m c t _ k).trans (congrArg (m ((c : Thread nD τ).loc main_arg3)) ((ix2_inj _ _ _ _).2 ⟨rfl, Fin.ext (by simp only; omega)⟩))
  · exact (P10 m c t _ _).trans (congrArg (m ((c : Thread nD τ).loc main_arg4)) (congrArg ix1 (Fin.ext (by simp only; omega))))

/-- What the body computes at a point is what the reference computes for that point's batch and heads. -/
theorem KT_eq (c : Dev nD) (t : Fin cfg0.N) (hd : Fin 2) : KL (grid0.coords t) hd (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t) = RT m c (bt t) (ht t hd) := by
  have hc := coords1 t
  have hcol : col (grid0.coords t) hd = ⟨(ht t hd).val, by have := (ht t hd).isLt; omega⟩ := Fin.ext (by show 2 * (grid0.coords t 1).val + hd.val = 2 * (t.val % 32) + hd.val; rw [hc])
  have hh : (ht t hd).val = 2 * (t.val % 32) + hd.val := rfl
  have hb : (bt t).val = t.val / 32 := rfl
  apply loc_ext
  · funext r q; exact pj0 m c t hd r q _ (by simp only; omega)
  · funext r q; exact pj1 m c t hd r q _ (by simp only; omega)
  · funext r q; exact pj2 m c t hd r q _ (by simp only; omega)
  · funext r q; exact pj3 m c t hd r q _ (by simp only; omega)
  · funext k q; exact (P11 m c t k _).trans (congrArg (m ((c : Thread nD τ).loc main_arg5)) ((ix2_inj _ _ _ _).2 ⟨rfl, Fin.ext (by simp only; omega)⟩))
  · funext k q; exact (P12 m c t k _).trans (congrArg (m ((c : Thread nD τ).loc main_arg5)) ((ix2_inj _ _ _ _).2 ⟨rfl, Fin.ext (by simp only; omega)⟩))
  · funext k q; exact (P13 m c t k _).trans (congrArg (m ((c : Thread nD τ).loc main_arg5)) ((ix2_inj _ _ _ _).2 ⟨rfl, Fin.ext (by simp only; omega)⟩))
  · funext q; exact (P14 m c t 0 _).trans (congrArg (m ((c : Thread nD τ).loc main_arg6)) (congrArg ix1 (Fin.ext (by simp only; omega))))
  · funext q; exact (P15 m c t 0 _).trans (congrArg (m ((c : Thread nD τ).loc main_arg6)) (congrArg ix1 (Fin.ext (by simp only; omega))))
  · funext q; exact (P16 m c t 0 _).trans (congrArg (m ((c : Thread nD τ).loc main_arg6)) (congrArg ix1 (Fin.ext (by simp only; omega))))
  · funext r; exact (P17 m c t r _).trans (congrArg (m ((c : Thread nD τ).loc main_arg7)) ((ix2_inj _ _ _ _).2 ⟨rfl, hcol⟩))
  · funext r; exact (P18 m c t r _).trans (congrArg (m ((c : Thread nD τ).loc main_arg8)) ((ix2_inj _ _ _ _).2 ⟨rfl, hcol⟩))
  · funext r; exact (P19 m c t r _).trans (congrArg (m ((c : Thread nD τ).loc main_arg9)) ((ix2_inj _ _ _ _).2 ⟨rfl, hcol⟩))
  · funext r; exact (P20 m c t r _).trans (congrArg (m ((c : Thread nD τ).loc main_arg10)) ((ix2_inj _ _ _ _).2 ⟨rfl, hcol⟩))
  · funext r; exact (P21 m c t 0 hd r).trans (congrArg (m ((c : Thread nD τ).loc main_arg11)) ((ix3_inj _ _ _ _ _ _).2 ⟨Fin.ext (by simp only; omega), Fin.ext (by simp only; omega), rfl⟩))
  · funext k q; exact (P22 m c t 0 hd _).trans (congrArg (m ((c : Thread nD τ).loc main_arg12)) ((ix3_inj _ _ _ _ _ _).2 ⟨Fin.ext (by simp only; omega), Fin.ext (by simp only; omega), rfl⟩))
  · exact (P0 m c t _).trans (congrArg (m ((c : Thread nD τ).loc main_arg0)) (congrArg ix1 (Fin.ext (by show 2 * (grid0.coords t 1).val + hd.val = 2 * (t.val % 32) + hd.val; rw [hc]))))
  · funext q; exact (P25 m c t 0 _).trans (congrArg (m ((c : Thread nD τ).loc main_arg14)) (congrArg ix1 (Fin.ext (by simp only; omega))))
  · rfl

theorem cm_t (c : Dev nD) (t : Fin cfg0.N) (h0 : t.val % 32 = 0) : MaskC (docB m c (bt t)) (CM m c t h0) := by
  have h : docB m c (bt t) = fun r : Fin 1024 => (iblk m c 23 t : S1024x1.Idx → BitVec 32) (ix2 r (0 : Fin 1)) := funext fun r => (P23 m c t r 0).symm
  rw [h]
  unfold CM
  exact @cm_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 23 t) (iblk m c 24 t) VS0_3

theorem nm_t (c : Dev nD) (t : Fin cfg0.N) (h0 : t.val % 32 = 0) : MaskN (docB m c (bt t)) (NM m c t h0) := by
  have h : docB m c (bt t) = fun r : Fin 1024 => (iblk m c 23 t : S1024x1.Idx → BitVec 32) (ix2 r (0 : Fin 1)) := funext fun r => (P23 m c t r 0).symm
  rw [h]
  unfold NM
  exact @nm_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 23 t) (iblk m c 24 t) VS0_4 fun s => (P24 m c t 0 0 s).trans (P23 m c t s 0).symm

theorem o1_A (c : Dev nD) (t : Fin cfg0.N) (h0 : t.val % 32 = 0) : (outsAt0 m c t.val t.isLt).1 = out26 m c t dflt27 (CM m c t h0) (NM m c t h0) := congrArg (fun x => x.1) (outsAt0_A m c t h0)

theorem o1_B (c : Dev nD) (t : Fin cfg0.N) (h0 : ¬t.val % 32 = 0) : (outsAt0 m c t.val t.isLt).1 = out26 m c t (prev m c t).2.1 (prev m c t).2.2.1 (prev m c t).2.2.2 := congrArg (fun x => x.1) (outsAt0_B m c t h0)

theorem o2_A (c : Dev nD) (t : Fin cfg0.N) (h0 : t.val % 32 = 0) : (outsAt0 m c t.val t.isLt).2.1 = out27 m c t dflt27 (CM m c t h0) (NM m c t h0) := congrArg (fun x => x.2.1) (outsAt0_A m c t h0)

theorem o2_B (c : Dev nD) (t : Fin cfg0.N) (h0 : ¬t.val % 32 = 0) : (outsAt0 m c t.val t.isLt).2.1 = out27 m c t (prev m c t).2.1 (prev m c t).2.2.1 (prev m c t).2.2.2 := congrArg (fun x => x.2.1) (outsAt0_B m c t h0)

theorem o3_A (c : Dev nD) (t : Fin cfg0.N) (h0 : t.val % 32 = 0) : (outsAt0 m c t.val t.isLt).2.2.1 = CM m c t h0 := congrArg (fun x => x.2.2.1) (outsAt0_A m c t h0)

theorem o3_B (c : Dev nD) (t : Fin cfg0.N) (h0 : ¬t.val % 32 = 0) : (outsAt0 m c t.val t.isLt).2.2.1 = (prev m c t).2.2.1 := congrArg (fun x => x.2.2.1) (outsAt0_B m c t h0)

theorem o4_A (c : Dev nD) (t : Fin cfg0.N) (h0 : t.val % 32 = 0) : (outsAt0 m c t.val t.isLt).2.2.2 = NM m c t h0 := congrArg (fun x => x.2.2.2) (outsAt0_A m c t h0)

theorem o4_B (c : Dev nD) (t : Fin cfg0.N) (h0 : ¬t.val % 32 = 0) : (outsAt0 m c t.val t.isLt).2.2.2 = (prev m c t).2.2.2 := congrArg (fun x => x.2.2.2) (outsAt0_B m c t h0)

theorem bt_prev (t : Fin cfg0.N) (h0 : ¬t.val % 32 = 0) (hn) : bt ⟨t.val - 1, hn⟩ = bt t := Fin.ext (by show (t.val - 1) / 32 = t.val / 32; omega)

/-- The masks are the batch's at every point. -/
theorem masks_at (c : Dev nD) (n : ℕ) : ∀ t : Fin cfg0.N, t.val = n → MaskC (docB m c (bt t)) (outsAt0 m c t.val t.isLt).2.2.1 ∧ MaskN (docB m c (bt t)) (outsAt0 m c t.val t.isLt).2.2.2 := by
  induction n using Nat.strong_induction_on with
  | _ n ih =>
    intro t ht
    by_cases h0 : t.val % 32 = 0
    · rw [o3_A m c t h0, o4_A m c t h0]
      exact ⟨cm_t m c t h0, nm_t m c t h0⟩
    · rw [o3_B m c t h0, o4_B m c t h0, ← bt_prev t h0 (Nat.lt_of_le_of_lt (Nat.sub_le _ _) t.isLt)]
      exact ih (t.val - 1) (by omega) ⟨t.val - 1, Nat.lt_of_le_of_lt (Nat.sub_le _ _) t.isLt⟩ rfl

theorem masks_prev (c : Dev nD) (t : Fin cfg0.N) (h0 : ¬t.val % 32 = 0) : MaskC (docB m c (bt t)) (prev m c t).2.2.1 ∧ MaskN (docB m c (bt t)) (prev m c t).2.2.2 := by
  rw [← bt_prev t h0 (Nat.lt_of_le_of_lt (Nat.sub_le _ _) t.isLt)]
  exact masks_at m c (t.val - 1) ⟨t.val - 1, Nat.lt_of_le_of_lt (Nat.sub_le _ _) t.isLt⟩ rfl

theorem g_run (c : Dev nD) (t : Fin cfg0.N) (xo : Vec Ideal S1024x128 .f32) (s3 : Vec Ideal S3x1024x128 .f32) (s4 : Vec Ideal S4x256x256 .f32) (h3 : MaskC (docB m c (bt t)) s3) (h4 : MaskN (docB m c (bt t)) s4) (hd : Fin 2) (k : Fin 4) (r : Fin 256) (q : Fin 128) :
    out26 m c t xo s3 s4 (ix2 (row k r) (⟨128 * hd.val + q.val, by omega⟩ : Fin 256)) = (KL (grid0.coords t) hd (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t)).G k r q := by
  unfold out26
  exact @o26_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) xo s3 s4 (docB m c (bt t)) VO0_26 h3 h4 hd k r q

theorem m_first (c : Dev nD) (t : Fin cfg0.N) (xo : Vec Ideal S1024x128 .f32) (s3 : Vec Ideal S3x1024x128 .f32) (s4 : Vec Ideal S4x256x256 .f32) (h3 : MaskC (docB m c (bt t)) s3) (h4 : MaskN (docB m c (bt t)) s4) (hi : (grid0.coords t 1).val = 0) (k : Fin 4) (r : Fin 256) (q : Fin 128) :
    out27 m c t xo s3 s4 (ix2 (row k r) q) = max (max ((KL (grid0.coords t) 0 (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t)).G k r q) (-(KL (grid0.coords t) 0 (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t)).G k r q)) (max ((KL (grid0.coords t) 1 (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t)).G k r q) (-(KL (grid0.coords t) 1 (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t)).G k r q)) := by
  unfold out27
  exact @o27_of1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) xo s3 s4 (docB m c (bt t)) VO0_27 hi h3 h4 k r q

theorem m_next (c : Dev nD) (t : Fin cfg0.N) (xo : Vec Ideal S1024x128 .f32) (s3 : Vec Ideal S3x1024x128 .f32) (s4 : Vec Ideal S4x256x256 .f32) (h3 : MaskC (docB m c (bt t)) s3) (h4 : MaskN (docB m c (bt t)) s4) (hi : (grid0.coords t 1).val ≠ 0) (k : Fin 4) (r : Fin 256) (q : Fin 128) :
    out27 m c t xo s3 s4 (ix2 (row k r) q) = max (max (xo (ix2 (row k r) q)) (max ((KL (grid0.coords t) 0 (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t)).G k r q) (-(KL (grid0.coords t) 0 (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t)).G k r q))) (max ((KL (grid0.coords t) 1 (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t)).G k r q) (-(KL (grid0.coords t) 1 (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t)).G k r q)) := by
  unfold out27
  exact @o27_of0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) xo s3 s4 (docB m c (bt t)) VO0_27 hi h3 h4 k r q

/-- What point `t` leaves in the gated values' buffer. -/
theorem g_t (c : Dev nD) (t : Fin cfg0.N) (hd : Fin 2) (k : Fin 4) (r : Fin 256) (p : Fin 128) :
    (outsAt0 m c t.val t.isLt).1 (ix2 (row k r) (⟨128 * hd.val + p.val, by omega⟩ : Fin 256)) = (RT m c (bt t) (ht t hd)).G k r p := by
  by_cases h0 : t.val % 32 = 0
  · rw [o1_A m c t h0, g_run m c t dflt27 _ _ (cm_t m c t h0) (nm_t m c t h0) hd k r p, KT_eq m c t hd]
  · rw [o1_B m c t h0, g_run m c t (prev m c t).2.1 _ _ (masks_prev m c t h0).1 (masks_prev m c t h0).2 hd k r p, KT_eq m c t hd]

/-- The magnitude of head `n`'s gated value, `⊥` past the last head. -/
def aG (c : Dev nD) (b : Fin 6) (k : Fin 4) (r : Fin 256) (q : Fin 128) (n : ℕ) : EReal :=
  if h : n < 64 then max ((RT m c b ⟨n, h⟩).G k r q) (-(RT m c b ⟨n, h⟩).G k r q) else ⊥

/-- The largest magnitude over the first `n` heads. -/
def mG (c : Dev nD) (b : Fin 6) (k : Fin 4) (r : Fin 256) (q : Fin 128) (n : ℕ) : EReal := (Finset.range n).fold max ⊥ (aG m c b k r q)

theorem mG_succ (c : Dev nD) (b : Fin 6) (k : Fin 4) (r : Fin 256) (q : Fin 128) (n : ℕ) : mG m c b k r q (n + 1) = max (mG m c b k r q n) (aG m c b k r q n) := by
  unfold mG
  rw [Finset.range_add_one, Finset.fold_insert Finset.notMem_range_self, max_comm]

theorem aG_t (c : Dev nD) (t : Fin cfg0.N) (hd : Fin 2) (k : Fin 4) (r : Fin 256) (q : Fin 128) (n : ℕ) (hn : n = 2 * (t.val % 32) + hd.val) :
    aG m c (bt t) k r q n = max ((KL (grid0.coords t) hd (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t)).G k r q) (-(KL (grid0.coords t) hd (docB m c (bt t)) (iblk m c 0 t) (iblk m c 1 t) (iblk m c 2 t) (X0_3 m c t) (X0_4 m c t) (X0_5 m c t) (X0_6 m c t) (X0_7 m c t) (X0_8 m c t) (X0_9 m c t) (X0_10 m c t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 25 t)).G k r q) := by
  subst hn
  rw [KT_eq]
  unfold aG
  exact dif_pos (by omega)

/-- What point `t` leaves in the running maxima's buffer. -/
theorem m_t (c : Dev nD) (n : ℕ) : ∀ t : Fin cfg0.N, t.val = n → ∀ (k : Fin 4) (r : Fin 256) (q : Fin 128),
    (outsAt0 m c t.val t.isLt).2.1 (ix2 (row k r) q) = mG m c (bt t) k r q (2 * (t.val % 32) + 2) := by
  induction n using Nat.strong_induction_on with
  | _ n ih =>
    intro t ht k r q
    rw [mG_succ, mG_succ, aG_t m c t 0 k r q (2 * (t.val % 32)) rfl, aG_t m c t 1 k r q (2 * (t.val % 32) + 1) rfl]
    by_cases h0 : t.val % 32 = 0
    · rw [o2_A m c t h0, m_first m c t dflt27 _ _ (cm_t m c t h0) (nm_t m c t h0) (coord_first t h0) k r q]
      have hz : mG m c (bt t) k r q (2 * (t.val % 32)) = ⊥ := by rw [h0]; rfl
      rw [hz, max_eq_right (bot_le (α := EReal))]
    · have hi : (grid0.coords t 1).val ≠ 0 := by rw [coords1]; exact h0
      rw [o2_B m c t h0, m_next m c t (prev m c t).2.1 _ _ (masks_prev m c t h0).1 (masks_prev m c t h0).2 hi k r q]
      have hp := ih (t.val - 1) (by omega) ⟨t.val - 1, Nat.lt_of_le_of_lt (Nat.sub_le _ _) t.isLt⟩ rfl k r q
      rw [bt_prev t h0, show 2 * ((t.val - 1) % 32) + 2 = 2 * (t.val % 32) by omega] at hp
      exact congrArg (fun x => max (max x _) _) hp

theorem mG_all (c : Dev nD) (b : Fin 6) (k : Fin 4) (r : Fin 256) (q : Fin 128) :
    mG m c b k r q 64 = Finset.univ.fold max ⊥ fun h : Fin 64 => max ((RT m c b h).G k r q) (-(RT m c b h).G k r q) := by
  unfold mG
  apply le_antisymm
  · refine Finset.fold_max_le _ |>.mpr ⟨bot_le, fun n hn => ?_⟩
    have h : n < 64 := Finset.mem_range.mp hn
    have e : aG m c b k r q n = max ((RT m c b ⟨n, h⟩).G k r q) (-(RT m c b ⟨n, h⟩).G k r q) := dif_pos h
    rw [e]
    exact (Finset.le_fold_max _).mpr (Or.inr ⟨⟨n, h⟩, Finset.mem_univ _, le_rfl⟩)
  · refine Finset.fold_max_le _ |>.mpr ⟨bot_le, fun h _ => ?_⟩
    have e : aG m c b k r q h.val = max ((RT m c b h).G k r q) (-(RT m c b h).G k r q) := dif_pos h.isLt
    rw [← e]
    exact (Finset.le_fold_max _).mpr (Or.inr ⟨h.val, Finset.mem_range.mpr h.isLt, le_rfl⟩)

theorem outG_at (c : Dev nD) (b : Fin 6) (h : Fin 64) (k : Fin 4) (r : Fin 256) (p : Fin 128) (R : Fin 6144) (J : Fin 8192) (hR : R.val = b.val * 1024 + (k.val * 256 + r.val)) (hJ : J.val = h.val * 128 + p.val) :
    outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 R J) = (RT m c b h).G k r p := by
  have e : ∀ (b' : Fin 6) (h' : Fin 64) (k' : Fin 4) (r' : Fin 256) (p' : Fin 128), b' = b → h' = h → k' = k → r' = r → p' = p → (RT m c b' h').G k' r' p' = (RT m c b h).G k r p := by
    rintro _ _ _ _ _ rfl rfl rfl rfl rfl; rfl
  exact e _ _ _ _ _ (Fin.ext (by show R.val / 1024 = b.val; omega)) (Fin.ext (by show J.val / 128 = h.val; omega)) (Fin.ext (by show R.val / 256 % 4 = k.val; omega))
    (Fin.ext (by show R.val % 256 = r.val; omega)) (Fin.ext (by show J.val % 128 = p.val; omega))

theorem outM_at (c : Dev nD) (b : Fin 6) (k : Fin 4) (r : Fin 256) (p : Fin 128) (R : Fin 6144) (hR : R.val = b.val * 1024 + (k.val * 256 + r.val)) :
    outM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 R p) = mG m c b k r p 64 := by
  rw [mG_all]
  have e : ∀ (b' : Fin 6) (k' : Fin 4) (r' : Fin 256), b' = b → k' = k → r' = r → (Finset.univ.fold max ⊥ fun h : Fin 64 => max ((RT m c b' h).G k' r' p) (-(RT m c b' h).G k' r' p)) = Finset.univ.fold max ⊥ fun h : Fin 64 => max ((RT m c b h).G k r p) (-(RT m c b h).G k r p) := by
    rintro _ _ _ rfl rfl rfl; rfl
  exact e _ _ _ (Fin.ext (by show R.val / 1024 = b.val; omega)) (Fin.ext (by show R.val / 256 % 4 = k.val; omega)) (Fin.ext (by show R.val % 256 = r.val; omega))

theorem final_g (c : Dev nD) : (dats m 0 c).arrAt 26 cfg0.N = outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 26 _ (by decide +kernel) fun t hf y => ?_
  blk_simp
  rw [after0_26]
  obtain ⟨R, J, rfl⟩ : ∃ (R : Fin 1024) (J : Fin 256), y = ix2 R J := ⟨y 0, y 1, eq_ix2 (n0 := 1024) (n1 := 256) y⟩
  have ht' := t_lt t
  have h : (win0_26.blk t).view.emb (ix2 R J) = ix2 ⟨t.val / 32 * 1024 + R.val, by omega⟩ ⟨t.val % 32 * 256 + J.val, by omega⟩ := by blk_ext [e26]
  obtain ⟨k, r, rfl⟩ : ∃ (k : Fin 4) (r : Fin 256), R = row k r := ⟨⟨R.val / 256, by omega⟩, ⟨R.val % 256, by omega⟩, Fin.ext (by show R.val = R.val / 256 * 256 + R.val % 256; omega)⟩
  obtain ⟨hd, p, rfl⟩ : ∃ (hd : Fin 2) (p : Fin 128), J = (⟨128 * hd.val + p.val, by omega⟩ : Fin 256) := ⟨⟨J.val / 128, by omega⟩, ⟨J.val % 128, by omega⟩, Fin.ext (by show J.val = 128 * (J.val / 128) + J.val % 128; omega)⟩
  show _ = outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ((win0_26.blk t).view.emb _)
  rw [h]
  refine (g_t m c t hd k r p).trans (outG_at m c (bt t) (ht t hd) k r p _ _ rfl ?_).symm
  show t.val % 32 * 256 + (128 * hd.val + p.val) = (2 * (t.val % 32) + hd.val) * 128 + p.val
  omega

theorem flush27 : ∀ t : Fin cfg0.N, (cfg0.win 27).flush t = true → t.val % 32 = 31 := (by decide +kernel : ∀ t : Fin grid0.N, win0_27.flush t = true → t.val % 32 = 31)

theorem final_m (c : Dev nD) : (dats m 0 c).arrAt 27 cfg0.N = outM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 27 _ (by decide +kernel) fun t hf y => ?_
  have h31 := flush27 t hf
  blk_simp
  rw [after0_27]
  obtain ⟨R, p, rfl⟩ : ∃ (R : Fin 1024) (p : Fin 128), y = ix2 R p := ⟨y 0, y 1, eq_ix2 (n0 := 1024) (n1 := 128) y⟩
  have ht' := t_lt t
  have h : (win0_27.blk t).view.emb (ix2 R p) = ix2 ⟨t.val / 32 * 1024 + R.val, by omega⟩ p := by blk_ext [e27]
  obtain ⟨k, r, rfl⟩ : ∃ (k : Fin 4) (r : Fin 256), R = row k r := ⟨⟨R.val / 256, by omega⟩, ⟨R.val % 256, by omega⟩, Fin.ext (by show R.val = R.val / 256 * 256 + R.val % 256; omega)⟩
  show _ = outM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ((win0_27.blk t).view.emb _)
  rw [h]
  refine ((m_t m c t.val t rfl k r p).trans ?_).trans (outM_at m c (bt t) k r p _ rfl).symm
  rw [h31]

/-- The run, its two results named, the arguments unchanged. -/
theorem run_value : θ_run defs (onTc (τ := τ) (main (F := Ideal))) ⟨m, fun _ => 0, ρ⟩ fun r => ∀ c : Dev nD,
      r.2.mem ((c : Thread nD τ).loc main_v6_0) = outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v6_1) = outM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨((h.1 c).1 26).trans (final_g m c), ((h.1 c).1 27).trans (final_m m c), h.2 c⟩)
    (θ_run_and (run_main m ρ) (unchanged m ρ))

end Cert.MixerIdeal.Gen

namespace Cert.Proof.MixClaims

open Idealize.ShloMosaic Idealize.ShloMosaic.TcCoe Idealize.SL.Sem
open Cert

theorem algebraic : Cert.algebraic_MixerIdeal_MixerRefIdeal := by
  intro m ρ m' ρ' _ hagree
  refine ⟨fun c => Cert.MixerRefIdeal.RefValue.outG _ _ _ _ _ _ _ _ _ _ _ _ _ _ _, fun c => Cert.MixerRefIdeal.RefValue.outM _ _ _ _ _ _ _ _ _ _ _ _ _ _ _,
    Cert.MixerIdeal.Gen.run_value m ρ, ?_⟩
  refine (θ_run Cert.MixerRefIdeal.defs _ _).mono (fun _ h c => ⟨(h c).1.trans ((Cert.MixerRefIdeal.RefValue.val_out m' c).trans ?_), (h c).2.1.trans ((Cert.MixerRefIdeal.RefValue.val_mx m' c).trans ?_), (h c).2.2⟩)
      (Cert.MixerRefIdeal.Value.run (F := Ideal) m' ρ')
  · obtain ⟨h0, h1, h2, h3, h4, h5, h6, h7, h8, h9, h10, h11, h12, h13, h14⟩ := hagree c
    rw [h0, h1, h2, h3, h4, h5, h6, h7, h8, h9, h10, h11, h12, h13, h14]
  · obtain ⟨h0, h1, h2, h3, h4, h5, h6, h7, h8, h9, h10, h11, h12, h13, h14⟩ := hagree c
    rw [h0, h1, h2, h3, h4, h5, h6, h7, h8, h9, h10, h11, h12, h13, h14]

end Cert.Proof.MixClaims

end
-- ==== Proof.QuantValue.lean ====
/- The value of the quantise call: the blocked kernel and the quantiser over whole arrays write the same words. -/
module

public import proofs.«01_k».proof.Defs
public import proofs.«01_k».proof.Proof.Gen.Quantise.Frame
public import proofs.«01_k».proof.Proof.Gen.QuantRef.Value
public import Idealize.ShloMosaic.Lib.Pipeline.ValueKit
public import Idealize.ShloMosaic.Lib.Pointwise
public import Idealize.ShloMosaic.PureOps.BitExact.Laws

@[expose] public section

noncomputable section

open Idealize.ShloMosaic Idealize.ShloMosaic.TcCoe Idealize.SL.Sem
open Idealize.ShloMosaic.Pipeline (Dat)

namespace Cert.Quantise.RefValue

open Cert.Quantise Cert.Quantise.Gen

/-- The maximum of a row of 128 lanes does not depend on how many rows the array has. -/
theorem rowMax {n n' : Nat} {t t' : Shape} (x : (⟨2, ![n, 128]⟩ : Shape).Idx → Bits .f32) (x' : (⟨2, ![n', 128]⟩ : Shape).Idx → Bits .f32)
    (h : (⟨2, ![n, 128]⟩ : Shape).Reduces [1] t) (h' : (⟨2, ![n', 128]⟩ : Shape).Reduces [1] t') (b : Bits .f32)
    (j : t.Idx) (j' : t'.Idx)
    (e : ∀ k : Fin 128, x (ix2 ⟨(j ⟨0, h.lt_r2_a1_0⟩).val, Shape.coordLt (j ⟨0, h.lt_r2_a1_0⟩) h.size_r2_a1_0⟩ k)
      = x' (ix2 ⟨(j' ⟨0, h'.lt_r2_a1_0⟩).val, Shape.coordLt (j' ⟨0, h'.lt_r2_a1_0⟩) h'.size_r2_a1_0⟩ k)) :
    reduceFold h Bits.maxf32 b x j = reduceFold h' Bits.maxf32 b x' j' := by
  haveI : Std.Commutative Bits.maxf32 := ⟨Bits.maxf32_comm⟩
  haveI : Std.Associative Bits.maxf32 := ⟨Bits.maxf32_assoc⟩
  rw [reduceFold_eq_fold, reduceFold_eq_fold, h.fold_fiber_r2_a1, h'.fold_fiber_r2_a1]
  exact congrArg (Finset.univ.fold Bits.maxf32 b) (funext e)

section Rows

/-- A row's magnitude in a block is the row's in the whole array. -/
theorem mag (v1 : Vec Bits S256x128 .f32) (a1 : Vec Bits Cert.QuantRef.S6144x128 .f32) (r : Fin 256) (R : Fin 6144)
    (e : ∀ k : Fin 128, v1 (ix2 r k) = a1 (ix2 R k)) (z : Fin 1) :
    k0_pay2 v1 (ix2 r z) = Cert.QuantRef.Gen.k0_pay2 a1 (ix2 R z) := by
  have hl : ∀ x : S256.Idx → Bits .f32, shapeCast S256x1 x shapeCasts_S256_S256x1 (ix2 r z) = x (ix1 r) := by intro x; pointwise
  have hr : ∀ x : Cert.QuantRef.S6144.Idx → Bits .f32, shapeCast Cert.QuantRef.S6144x1 x Cert.QuantRef.Gen.shapeCasts_S6144_S6144x1 (ix2 R z) = x (ix1 R) := by
    intro x; pointwise
  unfold k0_pay2 Cert.QuantRef.Gen.k0_pay2
  dsimp only
  rw [hl, hr]
  exact rowMax v1 a1 _ _ _ _ _ e

variable {F : FTy → Type} [BitOps F]
variable (v1 : Vec F S256x128 .f32) (a1 : Vec F Cert.QuantRef.S6144x128 .f32) (i : S256x1.Idx) (I : Cert.QuantRef.S6144x1.Idx)

/-- The exponent of a row's magnitude, as a block's and as the whole array's body compute it. -/
theorem expo (e : k0_pay2 v1 i = Cert.QuantRef.Gen.k0_pay2 a1 I) :
    k0_pay3 v1 i = Cert.QuantRef.Gen.k0_pay3 a1 I := by
  unfold k0_pay3 Cert.QuantRef.Gen.k0_pay3
  simp only [shrui, andi, ori, subi, select, cmpi, mulf, bitcastToInt, bitcastToFloat, broadcast, e]

/-- The exponent with zero for a row of zeros. -/
theorem expo0 (e : k0_pay2 v1 i = Cert.QuantRef.Gen.k0_pay2 a1 I) :
    k0_pay5 (k0_pay2 v1) (k0_pay3 v1) (k0_pay4 (F := F)) i
      = Cert.QuantRef.Gen.k0_pay5 (Cert.QuantRef.Gen.k0_pay3 a1) (Cert.QuantRef.Gen.k0_pay4 a1) I := by
  have e3 := expo v1 a1 i I e
  unfold k0_pay5 Cert.QuantRef.Gen.k0_pay5 k0_pay4 Cert.QuantRef.Gen.k0_pay4
  simp only [select, cmpf, broadcast, e, e3]

/-- The scale of a row. -/
theorem scale (e : k0_pay2 v1 i = Cert.QuantRef.Gen.k0_pay2 a1 I) :
    k0_pay12 (F := F) (k0_pay6 (F := F)) (k0_pay7 (F := F)) (k0_pay9 (F := F)) (k0_pay10 (F := F)) (k0_pay11 (k0_pay2 v1) (k0_pay3 v1) (k0_pay4 (F := F))) i
      = Cert.QuantRef.Gen.k0_pay10 (F := F) (Cert.QuantRef.Gen.k0_pay6 (F := F)) (Cert.QuantRef.Gen.k0_pay8 (F := F))
        (Cert.QuantRef.Gen.k0_pay9 (F := F) (Cert.QuantRef.Gen.k0_pay3 a1) (Cert.QuantRef.Gen.k0_pay4 a1)) I := by
  have e5 := expo0 v1 a1 i I e
  have e6 : k0_pay6 (F := F) i = Cert.QuantRef.Gen.k0_pay6 (F := F) I := rfl
  have e8 : k0_pay8 (F := F) i = Cert.QuantRef.Gen.k0_pay7 (F := F) I := rfl
  unfold k0_pay12 Cert.QuantRef.Gen.k0_pay10 k0_pay11 Cert.QuantRef.Gen.k0_pay9 k0_pay7 k0_pay9 k0_pay10 Cert.QuantRef.Gen.k0_pay8
  simp only [select, cmpi, andi, ori, addi, maxsi, minsi, shli, bitcastToFloat, broadcast, e5, e6, e8]

/-- The code of an element. -/
theorem code (v0 : Vec F S256x8192 .f32) (a0 : Vec F Cert.QuantRef.S6144x8192 .f32) (r : Fin 256) (R : Fin 6144) (q : Fin 8192)
    (e0 : v0 (ix2 r q) = a0 (ix2 R q)) (x : IVec S256x1 32) (y : IVec Cert.QuantRef.S6144x1 32) (e : x (ix2 r 0) = y (ix2 R 0)) :
    k0_pay1 v0 (k0_pay13 (F := F)) (k0_pay14 (F := F)) (k0_pay16 (F := F)) (k0_pay17 (F := F)) (k0_pay19 (F := F))
        (k0_pay20 (F := F) x) (k0_pay21 (F := F) x) (k0_pay22 (F := F) x) (ix2 r q)
      = Cert.QuantRef.Gen.k0_pay1 a0 (Cert.QuantRef.Gen.k0_pay11 (F := F)) (Cert.QuantRef.Gen.k0_pay12 (F := F)) (Cert.QuantRef.Gen.k0_pay14 (F := F))
        (Cert.QuantRef.Gen.k0_pay15 (F := F)) (Cert.QuantRef.Gen.k0_pay16 (F := F) y) (Cert.QuantRef.Gen.k0_pay17 (F := F))
        (Cert.QuantRef.Gen.k0_pay18 (F := F) y) (Cert.QuantRef.Gen.k0_pay19 (F := F) y) (ix2 R q) := by
  have hl : ∀ w : FVec F S256x1 .f32, broadcastTo S256x8192 w broadcasts_S256x1_S256x8192 (ix2 r q) = w (ix2 r 0) := by intro w; pointwise
  have hr : ∀ w : FVec F Cert.QuantRef.S6144x1 .f32,
      broadcastTo Cert.QuantRef.S6144x8192 w Cert.QuantRef.Gen.broadcasts_S6144x1_S6144x8192 (ix2 R q) = w (ix2 R 0) := by intro w; pointwise
  have e13 : k0_pay13 (F := F) (ix2 r 0) = Cert.QuantRef.Gen.k0_pay11 (F := F) (ix2 R 0) := rfl
  have e15 : k0_pay15 (F := F) (ix2 r 0) = Cert.QuantRef.Gen.k0_pay13 (F := F) (ix2 R 0) := rfl
  have e18 : k0_pay18 (F := F) x (ix2 r 0) = Cert.QuantRef.Gen.k0_pay16 (F := F) y (ix2 R 0) := by
    unfold k0_pay18 Cert.QuantRef.Gen.k0_pay16
    simp only [addi, subi, maxsi, minsi, broadcast, e, e15]
  unfold k0_pay1 Cert.QuantRef.Gen.k0_pay1
  simp only [truncf, minimumf, maximumf, mulf, hl, hr, e0]
  unfold k0_pay14 k0_pay16 k0_pay17 k0_pay19 k0_pay20 k0_pay21 k0_pay22 Cert.QuantRef.Gen.k0_pay12 Cert.QuantRef.Gen.k0_pay14
    Cert.QuantRef.Gen.k0_pay15 Cert.QuantRef.Gen.k0_pay17 Cert.QuantRef.Gen.k0_pay18 Cert.QuantRef.Gen.k0_pay19
  unfold k0_pay14 Cert.QuantRef.Gen.k0_pay12
  simp only [select, cmpi, andi, ori, shli, bitcastToFloat, broadcast, e13, e15, e18]

end Rows

variable (m : (ℓ : Loc nD τ sig) → Buf (Elt Bits) ℓ) (ρ : Dev nD → PrngReg)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

/-- The lane maxima of a block's row are those of the array's row. -/
theorem blk1 (c : Dev nD) (t : Fin cfg0.N) (r : Fin 256) (h : t.val * 256 + r.val < 6144) (k : Fin 128) :
    iblk m c 1 t (ix2 r k) = m ((c : Thread nD τ).loc main_arg1) (ix2 ⟨t.val * 256 + r.val, h⟩ k) := by
  have h1 : (win0_1.blk t).view.emb (ix2 r k) = ix2 ⟨t.val * 256 + r.val, h⟩ k := by blk_ext [e1]
  blk_simp [iblk]
  rw [V_main_arg1, h1]

/-- The gated values of a block's row are those of the array's row. -/
theorem blk0 (c : Dev nD) (t : Fin cfg0.N) (r : Fin 256) (h : t.val * 256 + r.val < 6144) (q : Fin 8192) :
    iblk m c 0 t (ix2 r q) = m ((c : Thread nD τ).loc main_arg0) (ix2 ⟨t.val * 256 + r.val, h⟩ q) := by
  have h1 : (win0_0.blk t).view.emb (ix2 r q) = ix2 ⟨t.val * 256 + r.val, h⟩ q := by blk_ext [e0]
  blk_simp [iblk]
  rw [V_main_arg0, h1]

/-- The run, with each result after it named. -/
theorem run : θ_run defs (onTc (τ := τ) (main (F := Bits))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 2, (h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The codes after the run are the whole arrays' quantiser's. -/
theorem final_codes (c : Dev nD) : (dats m 0 c).arrAt 2 cfg0.N
    = Cert.QuantRef.Value.G2 (F := Bits) (m ((c : Thread nD τ).loc main_arg0)) (m ((c : Thread nD τ).loc main_arg1)) := by
  refine (dats m 0 c).arrAt_eq_of_covers 2 _ (by decide +kernel) fun t hf y => ?_
  blk_simp
  rw [after0_2]; unfold_out out0_2
  obtain ⟨r, q, rfl⟩ : ∃ (r : Fin 256) (q : Fin 8192), y = ix2 r q := ⟨y 0, y 1, eq_ix2 (n0 := 256) (n1 := 8192) y⟩
  have ht : t.val < 24 := lt_of_lt_of_eq t.isLt N_0
  have hb : t.val * 256 + r.val < 6144 := by have := r.isLt; omega
  have h2 : (win0_2.blk t).view.emb (ix2 r q) = ix2 ⟨t.val * 256 + r.val, hb⟩ q := by blk_ext [e2]
  show _ = Cert.QuantRef.Value.G2 (F := Bits) _ _ ((win0_2.blk t).view.emb (ix2 r q))
  rw [h2, View.canon_unit_zero Cert.QuantRef.Value.hz0, View.ld_unit_zero Cert.QuantRef.Value.hz0, View.ld_unit_zero Cert.QuantRef.Value.hz0]
  have em : k0_pay2 (iblk m c 1 t) (ix2 r 0) = Cert.QuantRef.Gen.k0_pay2 (m ((c : Thread nD τ).loc main_arg1)) (ix2 ⟨t.val * 256 + r.val, hb⟩ 0) :=
    mag _ _ r _ (blk1 m c t r hb) 0
  unfold Cert.QuantRef.Value.G2 Cert.QuantRef.Gen.k0_pay22 Cert.QuantRef.Gen.k0_pay21 Cert.QuantRef.Gen.k0_pay20
  rw [View.ld_unit_zero Cert.QuantRef.Value.hz0]
  have ee := expo0 (F := Bits) (iblk m c 1 t) (m ((c : Thread nD τ).loc main_arg1)) (ix2 r 0) (ix2 ⟨t.val * 256 + r.val, hb⟩ 0) em
  exact code (F := Bits) (iblk m c 0 t) (m ((c : Thread nD τ).loc main_arg0)) r ⟨t.val * 256 + r.val, hb⟩ q (blk0 m c t r hb q) _ _ ee

/-- The scales after the run are the whole arrays' quantiser's. -/
theorem final_scales (c : Dev nD) : (dats m 0 c).arrAt 3 cfg0.N
    = Cert.QuantRef.Value.G3 (F := Bits) (m ((c : Thread nD τ).loc main_arg0)) (m ((c : Thread nD τ).loc main_arg1)) := by
  refine (dats m 0 c).arrAt_eq_of_covers 3 _ (by decide +kernel) fun t hf y => ?_
  blk_simp
  rw [after0_3]; unfold_out out0_3
  obtain ⟨r, q, rfl⟩ : ∃ (r : Fin 256) (q : Fin 1), y = ix2 r q := ⟨y 0, y 1, eq_ix2 (n0 := 256) (n1 := 1) y⟩
  have ht : t.val < 24 := lt_of_lt_of_eq t.isLt N_0
  have hb : t.val * 256 + r.val < 6144 := by have := r.isLt; omega
  have h2 : (win0_3.blk t).view.emb (ix2 r q) = ix2 ⟨t.val * 256 + r.val, hb⟩ q := by blk_ext [e3]
  show _ = Cert.QuantRef.Value.G3 (F := Bits) _ _ ((win0_3.blk t).view.emb (ix2 r q))
  rw [h2, View.canon_unit_zero Cert.QuantRef.Value.hz0, View.ld_unit_zero Cert.QuantRef.Value.hz0]
  unfold Cert.QuantRef.Value.G3 Cert.QuantRef.Gen.k0_pay21 Cert.QuantRef.Gen.k0_pay20
  rw [View.ld_unit_zero Cert.QuantRef.Value.hz0]
  have em : k0_pay2 (iblk m c 1 t) (ix2 r q) = Cert.QuantRef.Gen.k0_pay2 (m ((c : Thread nD τ).loc main_arg1)) (ix2 ⟨t.val * 256 + r.val, hb⟩ q) :=
    mag _ _ r _ (blk1 m c t r hb) q
  have es := scale (F := Bits) (iblk m c 1 t) (m ((c : Thread nD τ).loc main_arg1)) (ix2 r q) (ix2 ⟨t.val * 256 + r.val, hb⟩ q) em
  exact es

end Cert.Quantise.RefValue

namespace Cert.Proof.QuantClaims

/-- The codes and scales of the blocked call are the whole arrays' quantiser's, bit for bit. -/
theorem bitexact : Cert.bitexact_Quantise_QuantRef := by
  intro m g m' g' _ hagree
  refine ⟨fun c => Cert.QuantRef.Value.G2 (F := Bits) _ _, fun c => Cert.QuantRef.Value.G3 (F := Bits) _ _,
    (θ_run Cert.Quantise.defs _ _).mono (fun _ h c => ⟨(h c).1.trans (Cert.Quantise.RefValue.final_codes m c),
      (h c).2.1.trans (Cert.Quantise.RefValue.final_scales m c), (h c).2.2⟩)
      (Cert.Quantise.RefValue.run m g), ?_⟩
  refine (θ_run Cert.QuantRef.defs _ _).mono (fun _ h c => ⟨(h c).1.trans ?_, (h c).2.1.trans ?_, (h c).2.2⟩)
      (Cert.QuantRef.Value.run (F := Bits) m' g')
  · obtain ⟨h0, h1⟩ := hagree c
    rw [h0, h1]
  · obtain ⟨h0, h1⟩ := hagree c
    rw [h0, h1]

end Cert.Proof.QuantClaims
-- ==== Proof.OutValue.lean ====
/- The value of the output projection: the tiled kernel and the plain product write the same array. -/
module

public import proofs.«01_k».proof.Defs
public import proofs.«01_k».proof.Proof.Gen.OutProjIdeal.Value
public import proofs.«01_k».proof.Proof.Gen.OutRefIdeal.Value
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen

/-- The projection at one output element: residual plus scaled dot product of a row of codes with a column. -/
def proj (a : S6144x8192.Idx → EReal) (w : S8192x7168.Idx → EReal) (sa : S6144x1.Idx → EReal)
    (sw : S7168.Idx → EReal) (x : S6x1024x7168.Idx → EReal) : S6x1024x7168.Idx → EReal := fun i =>
  x i + (∑ k : Fin 8192, a (ix2 ⟨(i 0).val * 1024 + (i 1).val, by have := (i 0).isLt; have := (i 1).isLt; simp at *; omega⟩ k) * w (ix2 k (i 2)))
    * sa (ix2 ⟨(i 0).val * 1024 + (i 1).val, by have := (i 0).isLt; have := (i 1).isLt; simp at *; omega⟩ 0) * sw (ix1 (i 2))

theorem proj_apply (a : S6144x8192.Idx → EReal) (w : S8192x7168.Idx → EReal) (sa : S6144x1.Idx → EReal)
    (sw : S7168.Idx → EReal) (x : S6x1024x7168.Idx → EReal) (b : Fin 6) (r : Fin 1024) (q : Fin 7168) :
    proj a w sa sw x (ix3 b r q) = x (ix3 b r q) + (∑ k : Fin 8192, a (ix2 ⟨b.val * 1024 + r.val, by omega⟩ k) * w (ix2 k q))
      * sa (ix2 ⟨b.val * 1024 + r.val, by omega⟩ 0) * sw (ix1 q) := rfl

variable (m : (ℓ : Loc nD τ sig) → Buf (Elt Ideal) ℓ) (ρ : Dev nD → PrngReg)

theorem pay_apply (v0 : Vec Ideal S1024x8192 .fp8e4m3) (v1 : Vec Ideal S8192x1024 .fp8e4m3) (v3 : Vec Ideal S1024x1 .f32)
    (v6 : Vec Ideal S1x1024 .f32) (v10 : Vec Ideal S1x1024x1024 .bf16) (r c : Fin 1024) (z : Fin 1) :
    k0_pay1 v0 v1 v3 v6 v10 (ix3 z r c) = v10 (ix3 0 r c) + (∑ k : Fin 8192, v0 (ix2 r k) * v1 (ix2 k c)) * v3 (ix2 r 0) * v6 (ix2 0 c) := by
  pointwise [k0_pay1]

theorem V3 (c : Dev nD) (z : Fin 1) (q : Fin 7168) : (V m c main_v0 : S1x7168.Idx → EReal) (ix2 z q) = m ((c : Thread nD τ).loc main_arg3) (ix1 q) := by
  have h : ∀ x : S7168.Idx → EReal, shapeCast S1x7168 x shapeCasts_S7168_S1x7168 (ix2 z q) = x (ix1 q) := by
    intro x; pointwise
  entry_read
  exact h _

theorem e0 : ∀ t : Fin cfg0.N, win0_0.index t = ![t.val / 7, 0] := (by decide +kernel : ∀ t : Fin grid0.N, _)
theorem e1 : ∀ t : Fin cfg0.N, win0_1.index t = ![0, t.val % 7] := (by decide +kernel : ∀ t : Fin grid0.N, _)
theorem e2 : ∀ t : Fin cfg0.N, win0_2.index t = ![t.val / 7, 0] := (by decide +kernel : ∀ t : Fin grid0.N, _)
theorem e3 : ∀ t : Fin cfg0.N, win0_3.index t = ![0, t.val % 7] := (by decide +kernel : ∀ t : Fin grid0.N, _)
theorem e4 : ∀ t : Fin cfg0.N, win0_4.index t = ![t.val / 7, 0, t.val % 7] := (by decide +kernel : ∀ t : Fin grid0.N, _)
theorem e5 : ∀ t : Fin cfg0.N, win0_5.index t = ![t.val / 7, 0, t.val % 7] := (by decide +kernel : ∀ t : Fin grid0.N, _)

theorem final_o (c : Dev nD) : (dats m 0 c).arrAt 5 cfg0.N
    = proj (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]; frame_out
  obtain ⟨z, r, q, rfl⟩ : ∃ (z : Fin 1) (r : Fin 1024) (q : Fin 1024), y = ix3 z r q := ⟨y 0, y 1, y 2, eq_ix3 (n0 := 1) (n1 := 1024) (n2 := 1024) y⟩
  rw [pay_apply]
  have ht : t.val < 42 := lt_of_lt_of_eq t.isLt N_0
  have h0 : ∀ k : Fin 8192, (win0_0.blk t).view.emb (ix2 r k) = ix2 ⟨t.val / 7 * 1024 + r.val, by omega⟩ k := fun k => by blk_ext [e0]
  have h1 : ∀ k : Fin 8192, (win0_1.blk t).view.emb (ix2 k q) = ix2 k ⟨t.val % 7 * 1024 + q.val, by omega⟩ := fun k => by blk_ext [e1]
  have h2 : (win0_2.blk t).view.emb (ix2 r 0) = ix2 ⟨t.val / 7 * 1024 + r.val, by omega⟩ 0 := by blk_ext [e2]
  have h3 : (win0_3.blk t).view.emb (ix2 0 q) = ix2 0 ⟨t.val % 7 * 1024 + q.val, by omega⟩ := by blk_ext [e3]
  have h4 : (win0_4.blk t).view.emb (ix3 0 r q) = ix3 ⟨t.val / 7, by omega⟩ r ⟨t.val % 7 * 1024 + q.val, by omega⟩ := by blk_ext [e4]
  have h5 : (win0_5.blk t).view.emb (ix3 z r q) = ix3 ⟨t.val / 7, by omega⟩ r ⟨t.val % 7 * 1024 + q.val, by omega⟩ := by blk_ext [e5]
  show _ = proj _ _ _ _ _ ((win0_5.blk t).view.emb (ix3 z r q))
  rw [h5, proj_apply]
  blk_simp [iblk]
  rw [V_main_arg0, V_main_arg1, V_main_arg2, V_main_arg4]
  simp only [h0, h1, h2, h3, h4]
  rw [V3]

end Cert.OutProjIdeal.RefValue

namespace Cert.OutRefIdeal.RefValue

open Cert.OutRefIdeal Cert.OutRefIdeal.Gen

variable (m : (ℓ : Loc nD τ sig) → Buf (Elt Ideal) ℓ) (ρ : Dev nD → PrngReg)

theorem pay_apply (v0 : Vec Ideal S6144x8192 .fp8e4m3) (v1 : Vec Ideal S8192x7168 .fp8e4m3) (v3 : Vec Ideal S6144x1 .f32)
    (v6 : Vec Ideal S1x7168 .f32) (v10 : Vec Ideal S6x1024x7168 .bf16) (b : Fin 6) (r : Fin 1024) (q : Fin 7168) :
    k0_pay1 v0 v1 v3 v6 v10 (ix3 b r q) = v10 (ix3 b r q) + (∑ k : Fin 8192, v0 (ix2 ⟨b.val * 1024 + r.val, by omega⟩ k) * v1 (ix2 k q)) * v3 (ix2 ⟨b.val * 1024 + r.val, by omega⟩ 0) * v6 (ix2 0 q) := by
  pointwise [k0_pay1]

theorem V3 (c : Dev nD) (z : Fin 1) (q : Fin 7168) : (V m c main_v0 : S1x7168.Idx → EReal) (ix2 z q) = m ((c : Thread nD τ).loc main_arg3) (ix1 q) := by
  have h : ∀ x : S7168.Idx → EReal, shapeCast S1x7168 x shapeCasts_S7168_S1x7168 (ix2 z q) = x (ix1 q) := by
    intro x; pointwise
  entry_read
  exact h _

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0, 0] := (by decide +kernel : ∀ t : Fin grid0.N, _)

theorem final_o (c : Dev nD) : (dats m 0 c).arrAt 5 cfg0.N
    = Cert.OutProjIdeal.RefValue.proj (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]; frame_out
  obtain ⟨z, r, q, rfl⟩ : ∃ (z : Fin 6) (r : Fin 1024) (q : Fin 7168), y = ix3 z r q := ⟨y 0, y 1, y 2, eq_ix3 (n0 := 6) (n1 := 1024) (n2 := 7168) y⟩
  rw [pay_apply]
  have h5 : (win0_5.blk t).view.emb (ix3 z r q) = ix3 z r q := by blk_ext [e5]
  have h0 : ∀ (a : Fin 6144) (k : Fin 8192), (win0_0.blk t).view.emb (ix2 a k) = ix2 a k := fun a k => by blk_ext [e0]
  have h1 : ∀ k : Fin 8192, (win0_1.blk t).view.emb (ix2 k q) = ix2 k q := fun k => by blk_ext [e1]
  have h2 : ∀ (a : Fin 6144), (win0_2.blk t).view.emb (ix2 a 0) = ix2 a 0 := fun a => by blk_ext [e2]
  have h3 : (win0_3.blk t).view.emb (ix2 0 q) = ix2 0 q := by blk_ext [e3]
  have h4 : (win0_4.blk t).view.emb (ix3 z r q) = ix3 z r q := by blk_ext [e4]
  show _ = Cert.OutProjIdeal.RefValue.proj _ _ _ _ _ ((win0_5.blk t).view.emb (ix3 z r q))
  rw [h5]
  rw [Cert.OutProjIdeal.RefValue.proj_apply]
  blk_simp [iblk]
  rw [V_main_arg0, V_main_arg1, V_main_arg2, V_main_arg4]
  simp only [h0, h1, h2, h3, h4]
  rw [V3]

end Cert.OutRefIdeal.RefValue

namespace Cert.Proof.OutClaims

theorem algebraic : Cert.algebraic_OutProjIdeal_OutRefIdeal := by
  intro m ρ m' ρ' _ hagree
  refine ⟨fun c => Cert.OutProjIdeal.RefValue.proj _ _ _ _ _,
    (θ_run Cert.OutProjIdeal.defs _ _).mono (fun _ h c => ⟨(h c).1.trans (Cert.OutProjIdeal.RefValue.final_o m c), (h c).2⟩)
      (Cert.OutProjIdeal.Value.run_blocks (F := Ideal) m ρ), ?_⟩
  refine (θ_run Cert.OutRefIdeal.defs _ _).mono (fun _ h c => ⟨(h c).1.trans ((Cert.OutRefIdeal.RefValue.final_o m' c).trans ?_), (h c).2⟩)
      (Cert.OutRefIdeal.Value.run_blocks (F := Ideal) m' ρ')
  obtain ⟨h0, h1, h2, h3, h4⟩ := hagree c
  rw [h0, h1, h2, h3, h4]

end Cert.Proof.OutClaims
-- ==== Proof.lean ====
/- The claims, assembled. -/
module

public import proofs.«01_k».proof.Defs
public import proofs.«01_k».proof.Proof.Gen.Mixer
public import proofs.«01_k».proof.Proof.MixerFrame
public import proofs.«01_k».proof.Proof.Gen.MixerIdeal
public import proofs.«01_k».proof.Proof.MixFrame
public import proofs.«01_k».proof.Proof.Gen.MixerRefIdeal
public import proofs.«01_k».proof.Proof.Gen.MixerRefIdeal.Frame
public import proofs.«01_k».proof.Proof.Gen.MixerRefIdeal.Run
public import proofs.«01_k».proof.Proof.Gen.MixerRefIdeal.Read
public import proofs.«01_k».proof.Proof.MixVal8
public import proofs.«01_k».proof.Proof.Gen.Quantise
public import proofs.«01_k».proof.Proof.Gen.Quantise.Frame
public import proofs.«01_k».proof.Proof.Gen.QuantRef
public import proofs.«01_k».proof.Proof.Gen.QuantRef.Frame
public import proofs.«01_k».proof.Proof.Gen.QuantRef.Value
public import proofs.«01_k».proof.Proof.QuantValue
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutRefIdeal
public import proofs.«01_k».proof.Proof.Gen.OutRefIdeal.Frame
public import proofs.«01_k».proof.Proof.Gen.OutRefIdeal.Value
public import proofs.«01_k».proof.Proof.Gen.OutProjIdeal.Value
public import proofs.«01_k».proof.Proof.OutValue

@[expose] public section

noncomputable section

namespace Cert.Proof

open Idealize.ShloMosaic Idealize.SL.Sem

theorem claim : Cert.Claim := ⟨Cert.Mixer.Gen.facts, Cert.MixerIdeal.Gen.facts, Cert.MixerRefIdeal.Gen.facts,
  Cert.Quantise.Gen.facts, Cert.QuantRef.Gen.facts, Cert.OutProj.Gen.facts, Cert.OutProjIdeal.Gen.facts, Cert.OutRefIdeal.Gen.facts,
  fun m ρ _ => Cert.Mixer.Gen.frame m ρ, fun m ρ _ => Cert.MixerIdeal.Gen.frame m ρ,
  fun m ρ _ => Cert.MixerRefIdeal.Gen.frame m ρ,
  fun m ρ _ => Cert.Quantise.Gen.frame m ρ, fun m ρ _ => Cert.QuantRef.Gen.frame m ρ,
  fun m ρ _ => Cert.OutProj.Gen.frame m ρ, fun m ρ _ => Cert.OutProjIdeal.Gen.frame m ρ,
  fun m ρ _ => Cert.OutRefIdeal.Gen.frame m ρ,
  trivial, Cert.Proof.MixClaims.algebraic, Cert.Proof.QuantClaims.bitexact, trivial, Cert.Proof.OutClaims.algebraic⟩

end Cert.Proof

end
